-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_minus_infinity [hPre_scores_above_minus_infinity : Cert.Pre_scores_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_minus_infinity [hPre_scores_above_minus_infinity : Cert.Pre_scores_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_above_minus_infinity [hKernelIdeal : Cert.KernelIdeal.Facts] [hPre_scores_above_minus_infinity : Cert.Pre_scores_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_above_minus_infinity [hReferenceIdeal : Cert.ReferenceIdeal.Facts] [hPre_scores_above_minus_infinity : Cert.Pre_scores_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_above_minus_infinity [hKernelIdeal : Cert.KernelIdeal.Facts] [hReferenceIdeal : Cert.ReferenceIdeal.Facts] [hPre_scores_above_minus_infinity : Cert.Pre_scores_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_above_minus_infinity : Cert.Pre_scores_above_minus_infinity.Facts),
    quiescent_Kernel (hKernel := hKernel)
    ∧ quiescent_KernelIdeal (hKernelIdeal := hKernelIdeal)
    ∧ quiescent_KernelIdeal_pre_scores_above_minus_infinity (hKernelIdeal := hKernelIdeal) (hPre_scores_above_minus_infinity := hPre_scores_above_minus_infinity)
    ∧ quiescent_ReferenceIdeal (hReferenceIdeal := hReferenceIdeal)
    ∧ quiescent_ReferenceIdeal_pre_scores_above_minus_infinity (hReferenceIdeal := hReferenceIdeal) (hPre_scores_above_minus_infinity := hPre_scores_above_minus_infinity)
    ∧ preserves_Kernel_KernelIdeal
    ∧ algebraic_KernelIdeal_ReferenceIdeal_pre_scores_above_minus_infinity (hKernelIdeal := hKernelIdeal) (hReferenceIdeal := hReferenceIdeal) (hPre_scores_above_minus_infinity := hPre_scores_above_minus_infinity)
-- ==== Pre_scores_above_minus_infinity.lean ====
abbrev S4x24x8x32x32 : Shape := ⟨5, ![4, 24, 8, 32, 32]⟩
abbrev S4x72x8x32x32 : Shape := ⟨5, ![4, 72, 8, 32, 32]⟩
abbrev S4x3 : Shape := ⟨2, ![4, 3]⟩
abbrev S4x12x8x32x32 : Shape := ⟨5, ![4, 12, 8, 32, 32]⟩
abbrev S_ : Shape := ⟨0, ![]⟩

class Facts : Prop where
  slices_S4x24x8x32x32_S4x12x8x32x32_0_12_0_0_0 : S4x24x8x32x32.Slices ![0, 12, 0, 0, 0] S4x12x8x32x32
  bcast_S_S4x12x8x32x32 : S_.BroadcastsInDim S4x12x8x32x32 (![] : Fin 0 → Fin S4x12x8x32x32.rank)
  reducesTo_S4x12x8x32x32_S_d0_1_2_3_4 : S4x12x8x32x32.ReducesTo [0, 1, 2, 3, 4] S_
  h_S_ : 0 < S_.numel

variable [Facts]

def fn {F : FTy → Type} [FloatOps F] (main_arg0 : FVec F S4x24x8x32x32 .f32) (main_arg1 : FVec F S4x72x8x32x32 .f32) (main_arg2 : FVec F S4x3 .f32) : IVec S_ 1 :=
  let main_v0 : FVec F S4x12x8x32x32 .f32 := (extractStridedSlice S4x12x8x32x32 ![0, 12, 0, 0, 0] · slices_S4x24x8x32x32_S4x12x8x32x32_0_12_0_0_0) main_arg0
  let main_cst : FVec F S_ .f32 := constant S_ .f32 0xFF800000#32
  let main_v1 : FVec F S4x12x8x32x32 .f32 := broadcastInDim S4x12x8x32x32 ![] bcast_S_S4x12x8x32x32 main_cst
  let main_v2 : IVec S4x12x8x32x32 1 := cmpf .ogt main_v0 main_v1
  let main_c : IVec S_ 1 := constantI S_ 1 1#1
  let main_v3 : IVec S_ 1 := (fun x v => Host.reduce IntOp.andi x v reducesTo_S4x12x8x32x32_S_d0_1_2_3_4 h_S_) main_v2 main_c
  main_v3
-- ==== Kernel.lean ====
abbrev S4x24x8x32x32 : Shape := ⟨5, ![4, 24, 8, 32, 32]⟩
abbrev S4x72x8x32x32 : Shape := ⟨5, ![4, 72, 8, 32, 32]⟩
abbrev S4x3 : Shape := ⟨2, ![4, 3]⟩
abbrev S4x12x8x32x32 : Shape := ⟨5, ![4, 12, 8, 32, 32]⟩
abbrev S4x192x512 : Shape := ⟨3, ![4, 192, 512]⟩
abbrev S192x512x4 : Shape := ⟨3, ![192, 512, 4]⟩
abbrev S192x2048 : Shape := ⟨2, ![192, 2048]⟩
abbrev S4x72x8192 : Shape := ⟨3, ![4, 72, 8192]⟩
abbrev S4x8x128 : Shape := ⟨3, ![4, 8, 128]⟩
abbrev S8x128 : Shape := ⟨2, ![8, 128]⟩
abbrev S1x128 : Shape := ⟨2, ![1, 128]⟩
abbrev S2048 : Shape := ⟨1, ![2048]⟩
abbrev S1x2048 : Shape := ⟨2, ![1, 2048]⟩
abbrev S8x2048 : Shape := ⟨2, ![8, 2048]⟩
abbrev S8x1024 : Shape := ⟨2, ![8, 1024]⟩
abbrev S1x1024 : Shape := ⟨2, ![1, 1024]⟩
abbrev S16x1024 : Shape := ⟨2, ![16, 1024]⟩
abbrev S1x1x1024 : Shape := ⟨3, ![1, 1, 1024]⟩
abbrev S1x2x8x1024 : Shape := ⟨4, ![1, 2, 8, 1024]⟩
abbrev S1x1x8x1024 : Shape := ⟨4, ![1, 1, 8, 1024]⟩
abbrev S1x8x1024 : Shape := ⟨3, ![1, 8, 1024]⟩
abbrev S2x2x4x1024 : Shape := ⟨4, ![2, 2, 4, 1024]⟩
abbrev S2x1x4x1024 : Shape := ⟨4, ![2, 1, 4, 1024]⟩
abbrev S2x4x1024 : Shape := ⟨3, ![2, 4, 1024]⟩
abbrev S4x2x2x1024 : Shape := ⟨4, ![4, 2, 2, 1024]⟩
abbrev S4x1x2x1024 : Shape := ⟨4, ![4, 1, 2, 1024]⟩
abbrev S4x2x1024 : Shape := ⟨3, ![4, 2, 1024]⟩
abbrev S8x2x1x1024 : Shape := ⟨4, ![8, 2, 1, 1024]⟩
abbrev S8x1x1x1024 : Shape := ⟨4, ![8, 1, 1, 1024]⟩
abbrev S8x1x1024 : Shape := ⟨3, ![8, 1, 1024]⟩
abbrev S16x512 : Shape := ⟨2, ![16, 512]⟩
abbrev S32x512 : Shape := ⟨2, ![32, 512]⟩
abbrev S1x1x512 : Shape := ⟨3, ![1, 1, 512]⟩
abbrev S1x2x16x512 : Shape := ⟨4, ![1, 2, 16, 512]⟩
abbrev S1x1x16x512 : Shape := ⟨4, ![1, 1, 16, 512]⟩
abbrev S1x16x512 : Shape := ⟨3, ![1, 16, 512]⟩
abbrev S2x2x8x512 : Shape := ⟨4, ![2, 2, 8, 512]⟩
abbrev S2x1x8x512 : Shape := ⟨4, ![2, 1, 8, 512]⟩
abbrev S2x8x512 : Shape := ⟨3, ![2, 8, 512]⟩
abbrev S4x2x4x512 : Shape := ⟨4, ![4, 2, 4, 512]⟩
abbrev S4x1x4x512 : Shape := ⟨4, ![4, 1, 4, 512]⟩
abbrev S4x4x512 : Shape := ⟨3, ![4, 4, 512]⟩
abbrev S8x2x2x512 : Shape := ⟨4, ![8, 2, 2, 512]⟩
abbrev S8x1x2x512 : Shape := ⟨4, ![8, 1, 2, 512]⟩
abbrev S8x2x512 : Shape := ⟨3, ![8, 2, 512]⟩
abbrev S16x2x1x512 : Shape := ⟨4, ![16, 2, 1, 512]⟩
abbrev S16x1x1x512 : Shape := ⟨4, ![16, 1, 1, 512]⟩
abbrev S16x1x512 : Shape := ⟨3, ![16, 1, 512]⟩
abbrev S32x256 : Shape := ⟨2, ![32, 256]⟩
abbrev S64x256 : Shape := ⟨2, ![64, 256]⟩
abbrev S1x1x256 : Shape := ⟨3, ![1, 1, 256]⟩
abbrev S1x2x32x256 : Shape := ⟨4, ![1, 2, 32, 256]⟩
abbrev S1x1x32x256 : Shape := ⟨4, ![1, 1, 32, 256]⟩
abbrev S1x32x256 : Shape := ⟨3, ![1, 32, 256]⟩
abbrev S2x2x16x256 : Shape := ⟨4, ![2, 2, 16, 256]⟩
abbrev S2x1x16x256 : Shape := ⟨4, ![2, 1, 16, 256]⟩
abbrev S2x16x256 : Shape := ⟨3, ![2, 16, 256]⟩
abbrev S4x2x8x256 : Shape := ⟨4, ![4, 2, 8, 256]⟩
abbrev S4x1x8x256 : Shape := ⟨4, ![4, 1, 8, 256]⟩
abbrev S4x8x256 : Shape := ⟨3, ![4, 8, 256]⟩
abbrev S8x2x4x256 : Shape := ⟨4, ![8, 2, 4, 256]⟩
abbrev S8x1x4x256 : Shape := ⟨4, ![8, 1, 4, 256]⟩
abbrev S8x4x256 : Shape := ⟨3, ![8, 4, 256]⟩
abbrev S16x2x2x256 : Shape := ⟨4, ![16, 2, 2, 256]⟩
abbrev S16x1x2x256 : Shape := ⟨4, ![16, 1, 2, 256]⟩
abbrev S16x2x256 : Shape := ⟨3, ![16, 2, 256]⟩
abbrev S32x2x1x256 : Shape := ⟨4, ![32, 2, 1, 256]⟩
abbrev S32x1x1x256 : Shape := ⟨4, ![32, 1, 1, 256]⟩
abbrev S32x1x256 : Shape := ⟨3, ![32, 1, 256]⟩
abbrev S64x128 : Shape := ⟨2, ![64, 128]⟩
abbrev S128x128 : Shape := ⟨2, ![128, 128]⟩
abbrev S1x1x128 : Shape := ⟨3, ![1, 1, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S16x2x4x128 : Shape := ⟨4, ![16, 2, 4, 128]⟩
abbrev S16x1x4x128 : Shape := ⟨4, ![16, 1, 4, 128]⟩
abbrev S16x4x128 : Shape := ⟨3, ![16, 4, 128]⟩
abbrev S32x2x2x128 : Shape := ⟨4, ![32, 2, 2, 128]⟩
abbrev S32x1x2x128 : Shape := ⟨4, ![32, 1, 2, 128]⟩
abbrev S32x2x128 : Shape := ⟨3, ![32, 2, 128]⟩
abbrev S64x2x1x128 : Shape := ⟨4, ![64, 2, 1, 128]⟩
abbrev S64x1x1x128 : Shape := ⟨4, ![64, 1, 1, 128]⟩
abbrev S64x1x128 : Shape := ⟨3, ![64, 1, 128]⟩
abbrev S128x64 : Shape := ⟨2, ![128, 64]⟩
abbrev S256x64 : Shape := ⟨2, ![256, 64]⟩
abbrev S1x1x64 : Shape := ⟨3, ![1, 1, 64]⟩
abbrev S1x2x128x64 : Shape := ⟨4, ![1, 2, 128, 64]⟩
abbrev S1x1x128x64 : Shape := ⟨4, ![1, 1, 128, 64]⟩
abbrev S1x128x64 : Shape := ⟨3, ![1, 128, 64]⟩
abbrev S2x2x64x64 : Shape := ⟨4, ![2, 2, 64, 64]⟩
abbrev S2x1x64x64 : Shape := ⟨4, ![2, 1, 64, 64]⟩
abbrev S2x64x64 : Shape := ⟨3, ![2, 64, 64]⟩
abbrev S4x2x32x64 : Shape := ⟨4, ![4, 2, 32, 64]⟩
abbrev S4x1x32x64 : Shape := ⟨4, ![4, 1, 32, 64]⟩
abbrev S4x32x64 : Shape := ⟨3, ![4, 32, 64]⟩
abbrev S8x2x16x64 : Shape := ⟨4, ![8, 2, 16, 64]⟩
abbrev S8x1x16x64 : Shape := ⟨4, ![8, 1, 16, 64]⟩
abbrev S8x16x64 : Shape := ⟨3, ![8, 16, 64]⟩
abbrev S16x2x8x64 : Shape := ⟨4, ![16, 2, 8, 64]⟩
abbrev S16x1x8x64 : Shape := ⟨4, ![16, 1, 8, 64]⟩
abbrev S16x8x64 : Shape := ⟨3, ![16, 8, 64]⟩
abbrev S32x2x4x64 : Shape := ⟨4, ![32, 2, 4, 64]⟩
abbrev S32x1x4x64 : Shape := ⟨4, ![32, 1, 4, 64]⟩
abbrev S32x4x64 : Shape := ⟨3, ![32, 4, 64]⟩
abbrev S64x2x2x64 : Shape := ⟨4, ![64, 2, 2, 64]⟩
abbrev S64x1x2x64 : Shape := ⟨4, ![64, 1, 2, 64]⟩
abbrev S64x2x64 : Shape := ⟨3, ![64, 2, 64]⟩
abbrev S128x2x1x64 : Shape := ⟨4, ![128, 2, 1, 64]⟩
abbrev S128x1x1x64 : Shape := ⟨4, ![128, 1, 1, 64]⟩
abbrev S128x1x64 : Shape := ⟨3, ![128, 1, 64]⟩
abbrev S1x64 : Shape := ⟨2, ![1, 64]⟩
abbrev S128x32 : Shape := ⟨2, ![128, 32]⟩
abbrev S256x32 : Shape := ⟨2, ![256, 32]⟩
abbrev S1x1x32 : Shape := ⟨3, ![1, 1, 32]⟩
abbrev S1x2x128x32 : Shape := ⟨4, ![1, 2, 128, 32]⟩
abbrev S1x1x128x32 : Shape := ⟨4, ![1, 1, 128, 32]⟩
abbrev S1x128x32 : Shape := ⟨3, ![1, 128, 32]⟩
abbrev S2x2x64x32 : Shape := ⟨4, ![2, 2, 64, 32]⟩
abbrev S2x1x64x32 : Shape := ⟨4, ![2, 1, 64, 32]⟩
abbrev S2x64x32 : Shape := ⟨3, ![2, 64, 32]⟩
abbrev S4x2x32x32 : Shape := ⟨4, ![4, 2, 32, 32]⟩
abbrev S4x1x32x32 : Shape := ⟨4, ![4, 1, 32, 32]⟩
abbrev S4x32x32 : Shape := ⟨3, ![4, 32, 32]⟩
abbrev S8x2x16x32 : Shape := ⟨4, ![8, 2, 16, 32]⟩
abbrev S8x1x16x32 : Shape := ⟨4, ![8, 1, 16, 32]⟩
abbrev S8x16x32 : Shape := ⟨3, ![8, 16, 32]⟩
abbrev S16x2x8x32 : Shape := ⟨4, ![16, 2, 8, 32]⟩
abbrev S16x1x8x32 : Shape := ⟨4, ![16, 1, 8, 32]⟩
abbrev S16x8x32 : Shape := ⟨3, ![16, 8, 32]⟩
abbrev S32x2x4x32 : Shape := ⟨4, ![32, 2, 4, 32]⟩
abbrev S32x1x4x32 : Shape := ⟨4, ![32, 1, 4, 32]⟩
abbrev S32x4x32 : Shape := ⟨3, ![32, 4, 32]⟩
abbrev S64x2x2x32 : Shape := ⟨4, ![64, 2, 2, 32]⟩
abbrev S64x1x2x32 : Shape := ⟨4, ![64, 1, 2, 32]⟩
abbrev S64x2x32 : Shape := ⟨3, ![64, 2, 32]⟩
abbrev S128x2x1x32 : Shape := ⟨4, ![128, 2, 1, 32]⟩
abbrev S128x1x1x32 : Shape := ⟨4, ![128, 1, 1, 32]⟩
abbrev S128x1x32 : Shape := ⟨3, ![128, 1, 32]⟩
abbrev S1x32 : Shape := ⟨2, ![1, 32]⟩
abbrev S128x16 : Shape := ⟨2, ![128, 16]⟩
abbrev S256x16 : Shape := ⟨2, ![256, 16]⟩
abbrev S1x1x16 : Shape := ⟨3, ![1, 1, 16]⟩
abbrev S1x2x128x16 : Shape := ⟨4, ![1, 2, 128, 16]⟩
abbrev S1x1x128x16 : Shape := ⟨4, ![1, 1, 128, 16]⟩
abbrev S1x128x16 : Shape := ⟨3, ![1, 128, 16]⟩
abbrev S2x2x64x16 : Shape := ⟨4, ![2, 2, 64, 16]⟩
abbrev S2x1x64x16 : Shape := ⟨4, ![2, 1, 64, 16]⟩
abbrev S2x64x16 : Shape := ⟨3, ![2, 64, 16]⟩
abbrev S4x2x32x16 : Shape := ⟨4, ![4, 2, 32, 16]⟩
abbrev S4x1x32x16 : Shape := ⟨4, ![4, 1, 32, 16]⟩
abbrev S4x32x16 : Shape := ⟨3, ![4, 32, 16]⟩
abbrev S8x2x16x16 : Shape := ⟨4, ![8, 2, 16, 16]⟩
abbrev S8x1x16x16 : Shape := ⟨4, ![8, 1, 16, 16]⟩
abbrev S8x16x16 : Shape := ⟨3, ![8, 16, 16]⟩
abbrev S16x2x8x16 : Shape := ⟨4, ![16, 2, 8, 16]⟩
abbrev S16x1x8x16 : Shape := ⟨4, ![16, 1, 8, 16]⟩
abbrev S16x8x16 : Shape := ⟨3, ![16, 8, 16]⟩
abbrev S32x2x4x16 : Shape := ⟨4, ![32, 2, 4, 16]⟩
abbrev S32x1x4x16 : Shape := ⟨4, ![32, 1, 4, 16]⟩
abbrev S32x4x16 : Shape := ⟨3, ![32, 4, 16]⟩
abbrev S64x2x2x16 : Shape := ⟨4, ![64, 2, 2, 16]⟩
abbrev S64x1x2x16 : Shape := ⟨4, ![64, 1, 2, 16]⟩
abbrev S64x2x16 : Shape := ⟨3, ![64, 2, 16]⟩
abbrev S128x2x1x16 : Shape := ⟨4, ![128, 2, 1, 16]⟩
abbrev S128x1x1x16 : Shape := ⟨4, ![128, 1, 1, 16]⟩
abbrev S128x1x16 : Shape := ⟨3, ![128, 1, 16]⟩
abbrev S1x16 : Shape := ⟨2, ![1, 16]⟩
abbrev S128x8 : Shape := ⟨2, ![128, 8]⟩
abbrev S256x8 : Shape := ⟨2, ![256, 8]⟩
abbrev S1x1x8 : Shape := ⟨3, ![1, 1, 8]⟩
abbrev S1x2x128x8 : Shape := ⟨4, ![1, 2, 128, 8]⟩
abbrev S1x1x128x8 : Shape := ⟨4, ![1, 1, 128, 8]⟩
abbrev S1x128x8 : Shape := ⟨3, ![1, 128, 8]⟩
abbrev S2x2x64x8 : Shape := ⟨4, ![2, 2, 64, 8]⟩
abbrev S2x1x64x8 : Shape := ⟨4, ![2, 1, 64, 8]⟩
abbrev S2x64x8 : Shape := ⟨3, ![2, 64, 8]⟩
abbrev S4x2x32x8 : Shape := ⟨4, ![4, 2, 32, 8]⟩
abbrev S4x1x32x8 : Shape := ⟨4, ![4, 1, 32, 8]⟩
abbrev S4x32x8 : Shape := ⟨3, ![4, 32, 8]⟩
abbrev S8x2x16x8 : Shape := ⟨4, ![8, 2, 16, 8]⟩
abbrev S8x1x16x8 : Shape := ⟨4, ![8, 1, 16, 8]⟩
abbrev S8x16x8 : Shape := ⟨3, ![8, 16, 8]⟩
abbrev S16x2x8x8 : Shape := ⟨4, ![16, 2, 8, 8]⟩
abbrev S16x1x8x8 : Shape := ⟨4, ![16, 1, 8, 8]⟩
abbrev S16x8x8 : Shape := ⟨3, ![16, 8, 8]⟩
abbrev S32x2x4x8 : Shape := ⟨4, ![32, 2, 4, 8]⟩
abbrev S32x1x4x8 : Shape := ⟨4, ![32, 1, 4, 8]⟩
abbrev S32x4x8 : Shape := ⟨3, ![32, 4, 8]⟩
abbrev S64x2x2x8 : Shape := ⟨4, ![64, 2, 2, 8]⟩
abbrev S64x1x2x8 : Shape := ⟨4, ![64, 1, 2, 8]⟩
abbrev S64x2x8 : Shape := ⟨3, ![64, 2, 8]⟩
abbrev S128x2x1x8 : Shape := ⟨4, ![128, 2, 1, 8]⟩
abbrev S128x1x1x8 : Shape := ⟨4, ![128, 1, 1, 8]⟩
abbrev S128x1x8 : Shape := ⟨3, ![128, 1, 8]⟩
abbrev S1x8 : Shape := ⟨2, ![1, 8]⟩
abbrev S128x4 : Shape := ⟨2, ![128, 4]⟩
abbrev S256x4 : Shape := ⟨2, ![256, 4]⟩
abbrev S1x1x4 : Shape := ⟨3, ![1, 1, 4]⟩
abbrev S1x2x128x4 : Shape := ⟨4, ![1, 2, 128, 4]⟩
abbrev S1x1x128x4 : Shape := ⟨4, ![1, 1, 128, 4]⟩
abbrev S1x128x4 : Shape := ⟨3, ![1, 128, 4]⟩
abbrev S2x2x64x4 : Shape := ⟨4, ![2, 2, 64, 4]⟩
abbrev S2x1x64x4 : Shape := ⟨4, ![2, 1, 64, 4]⟩
abbrev S2x64x4 : Shape := ⟨3, ![2, 64, 4]⟩
abbrev S4x2x32x4 : Shape := ⟨4, ![4, 2, 32, 4]⟩
abbrev S4x1x32x4 : Shape := ⟨4, ![4, 1, 32, 4]⟩
abbrev S4x32x4 : Shape := ⟨3, ![4, 32, 4]⟩
abbrev S8x2x16x4 : Shape := ⟨4, ![8, 2, 16, 4]⟩
abbrev S8x1x16x4 : Shape := ⟨4, ![8, 1, 16, 4]⟩
abbrev S8x16x4 : Shape := ⟨3, ![8, 16, 4]⟩
abbrev S16x2x8x4 : Shape := ⟨4, ![16, 2, 8, 4]⟩
abbrev S16x1x8x4 : Shape := ⟨4, ![16, 1, 8, 4]⟩
abbrev S16x8x4 : Shape := ⟨3, ![16, 8, 4]⟩
abbrev S32x2x4x4 : Shape := ⟨4, ![32, 2, 4, 4]⟩
abbrev S32x1x4x4 : Shape := ⟨4, ![32, 1, 4, 4]⟩
abbrev S32x4x4 : Shape := ⟨3, ![32, 4, 4]⟩
abbrev S64x2x2x4 : Shape := ⟨4, ![64, 2, 2, 4]⟩
abbrev S64x1x2x4 : Shape := ⟨4, ![64, 1, 2, 4]⟩
abbrev S64x2x4 : Shape := ⟨3, ![64, 2, 4]⟩
abbrev S128x2x1x4 : Shape := ⟨4, ![128, 2, 1, 4]⟩
abbrev S128x1x1x4 : Shape := ⟨4, ![128, 1, 1, 4]⟩
abbrev S128x1x4 : Shape := ⟨3, ![128, 1, 4]⟩
abbrev S1x4 : Shape := ⟨2, ![1, 4]⟩
abbrev S128x1 : Shape := ⟨2, ![128, 1]⟩
abbrev S1x256 : Shape := ⟨2, ![1, 256]⟩
abbrev S1x512 : Shape := ⟨2, ![1, 512]⟩
abbrev S1x1x2048 : Shape := ⟨3, ![1, 1, 2048]⟩
abbrev S1 : Shape := ⟨1, ![1]⟩
abbrev S1x1x1 : Shape := ⟨3, ![1, 1, 1]⟩
abbrev S1x1 : Shape := ⟨2, ![1, 1]⟩
abbrev S1x192x2048 : Shape := ⟨3, ![1, 192, 2048]⟩
abbrev S72x128 : Shape := ⟨2, ![72, 128]⟩
abbrev S1024x128 : Shape := ⟨2, ![1024, 128]⟩
abbrev S1x72x1024 : Shape := ⟨3, ![1, 72, 1024]⟩
abbrev S72x1024 : Shape := ⟨2, ![72, 1024]⟩
abbrev S6x128 : Shape := ⟨2, ![6, 128]⟩
abbrev S1x8x128 : Shape := ⟨3, ![1, 8, 128]⟩
abbrev S4x8x100 : Shape := ⟨3, ![4, 8, 100]⟩
abbrev S4x100x8 : Shape := ⟨3, ![4, 100, 8]⟩

abbrev nBuf : Space → Nat
  | .hbm => 11
  | .vmem => 6
  | .smem => 1
  | _ => 0

abbrev bufTy : (tb : Table) → Fin (tcTables nBuf tb) → BufTy
  | .hbm, ⟨0, _⟩ => ⟨S4x24x8x32x32, .f32⟩
  | .hbm, ⟨1, _⟩ => ⟨S4x72x8x32x32, .f32⟩
  | .hbm, ⟨2, _⟩ => ⟨S4x3, .f32⟩
  | .hbm, ⟨3, _⟩ => ⟨S4x12x8x32x32, .f32⟩
  | .hbm, ⟨4, _⟩ => ⟨S4x192x512, .f32⟩
  | .hbm, ⟨5, _⟩ => ⟨S192x512x4, .f32⟩
  | .hbm, ⟨6, _⟩ => ⟨S192x2048, .f32⟩
  | .hbm, ⟨7, _⟩ => ⟨S4x72x8192, .f32⟩
  | .hbm, ⟨8, _⟩ => ⟨S4x8x128, .f32⟩
  | .hbm, ⟨9, _⟩ => ⟨S4x8x100, .f32⟩
  | .hbm, ⟨10, _⟩ => ⟨S4x100x8, .f32⟩
  | .local _ .vmem, ⟨0, _⟩ => ⟨S192x2048, .f32⟩
  | .local _ .vmem, ⟨1, _⟩ => ⟨S4x72x8192, .f32⟩
  | .local _ .vmem, ⟨2, _⟩ => ⟨S4x8x128, .f32⟩
  | .local _ .vmem, ⟨3, _⟩ => ⟨S8x128, .f32⟩
  | .local _ .vmem, ⟨4, _⟩ => ⟨S8x128, .i32⟩
  | .local _ .vmem, ⟨5, _⟩ => ⟨S192x2048, .f32⟩
  | .local _ .smem, ⟨0, _⟩ => ⟨S4x3, .f32⟩
  | _, _ => ⟨S4x24x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_1015 : BitVec 32 := 0#32
  let c100_i32 : BitVec 32 := 100#32
  let v4705 : BitVec 32 := Scalar.addi c0_i32_1015 c100_i32
  let c1_i32_1016 : BitVec 32 := 1#32
  ⟨c0_i32_1015, v4705, c1_i32_1016⟩
abbrev stage0_0 : Fin 1 → Memref sig .tc .vmem S192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x72x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x24x8x32x32 : Shape := ⟨5, ![4, 24, 8, 32, 32]⟩
abbrev S4x72x8x32x32 : Shape := ⟨5, ![4, 72, 8, 32, 32]⟩
abbrev S4x3 : Shape := ⟨2, ![4, 3]⟩
abbrev S12x6 : Shape := ⟨2, ![12, 6]⟩
abbrev S4x12x8x32x32 : Shape := ⟨5, ![4, 12, 8, 32, 32]⟩
abbrev S8192x1x1 : Shape := ⟨3, ![8192, 1, 1]⟩
abbrev S_ : Shape := ⟨0, ![]⟩
abbrev S8192x1x6 : Shape := ⟨3, ![8192, 1, 6]⟩
abbrev S1x12x6 : Shape := ⟨3, ![1, 12, 6]⟩
abbrev S8192x12x6 : Shape := ⟨3, ![8192, 12, 6]⟩
abbrev S1x98304x6 : Shape := ⟨3, ![1, 98304, 6]⟩
abbrev S4x98304x6 : Shape := ⟨3, ![4, 98304, 6]⟩
abbrev S4x8x32x32x72 : Shape := ⟨5, ![4, 8, 32, 32, 72]⟩
abbrev S4x8x32x32x12 : Shape := ⟨5, ![4, 8, 32, 32, 12]⟩
abbrev S4x98304 : Shape := ⟨2, ![4, 98304]⟩
abbrev S4x98304x3 : Shape := ⟨3, ![4, 98304, 3]⟩
abbrev S4x1 : Shape := ⟨2, ![4, 1]⟩
abbrev S4 : Shape := ⟨1, ![4]⟩
abbrev S4x1x3 : Shape := ⟨3, ![4, 1, 3]⟩
abbrev S4x100 : Shape := ⟨2, ![4, 100]⟩
abbrev S4x100x1 : Shape := ⟨3, ![4, 100, 1]⟩
abbrev S1 : Shape := ⟨1, ![1]⟩
abbrev S1x1x1 : Shape := ⟨3, ![1, 1, 1]⟩
abbrev S4x100x6 : Shape := ⟨3, ![4, 100, 6]⟩
abbrev S4x1x1 : Shape := ⟨3, ![4, 1, 1]⟩
abbrev S4x100x8 : Shape := ⟨3, ![4, 100, 8]⟩

abbrev nBuf : Space → Nat
  | .hbm => 213
  | .vmem => 0
  | .smem => 0
  | _ => 0

abbrev hbmTy0_0 (i : Nat) : BufTy := match i % 128 with
  | 0 => ⟨S4x24x8x32x32, .f32⟩
  | 1 => ⟨S4x72x8x32x32, .f32⟩
  | 2 => ⟨S4x3, .f32⟩
  | 3 => ⟨S12x6, .f32⟩
  | 4 => ⟨S4x12x8x32x32, .f32⟩
  | 5 => ⟨S8192x1x1, .i32⟩
  | 6 => ⟨S_, .i32⟩
  | 7 => ⟨S_, .i32⟩
  | 8 => ⟨S8192x1x1, .i32⟩
  | 9 => ⟨S8192x1x1, .i32⟩
  | 10 => ⟨S8192x1x1, .i32⟩
  | 11 => ⟨S_, .i32⟩
  | 12 => ⟨S8192x1x1, .i32⟩
  | 13 => ⟨S8192x1x1, .i1⟩
  | 14 => ⟨S8192x1x1, .i32⟩
  | 15 => ⟨S8192x1x1, .i32⟩
  | 16 => ⟨S_, .i32⟩
  | 17 => ⟨S8192x1x1, .i32⟩
  | 18 => ⟨S8192x1x1, .i1⟩
  | 19 => ⟨S8192x1x1, .i1⟩
  | 20 => ⟨S_, .i32⟩
  | 21 => ⟨S8192x1x1, .i32⟩
  | 22 => ⟨S8192x1x1, .i32⟩
  | 23 => ⟨S8192x1x1, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S8192x1x1, .i32⟩
  | 31 => ⟨S8192x1x1, .i32⟩
  | 32 => ⟨S_, .i32⟩
  | 33 => ⟨S8192x1x1, .i32⟩
  | 34 => ⟨S8192x1x1, .i1⟩
  | 35 => ⟨S_, .i32⟩
  | 36 => ⟨S8192x1x1, .i32⟩
  | 37 => ⟨S8192x1x1, .i1⟩
  | 38 => ⟨S_, .i32⟩
  | 39 => ⟨S_, .i1⟩
  | 40 => ⟨S8192x1x1, .i1⟩
  | 41 => ⟨S8192x1x1, .i1⟩
  | 42 => ⟨S8192x1x1, .i1⟩
  | 43 => ⟨S8192x1x1, .i32⟩
  | 44 => ⟨S8192x1x1, .i32⟩
  | 45 => ⟨S8192x1x1, .i32⟩
  | 46 => ⟨S_, .i32⟩
  | 47 => ⟨S8192x1x1, .i32⟩
  | 48 => ⟨S8192x1x1, .i32⟩
  | 49 => ⟨S8192x1x1, .f32⟩
  | 50 => ⟨S_, .i32⟩
  | 51 => ⟨S_, .i32⟩
  | 52 => ⟨S8192x1x1, .i32⟩
  | 53 => ⟨S8192x1x1, .i32⟩
  | 54 => ⟨S8192x1x1, .i32⟩
  | 55 => ⟨S_, .i32⟩
  | 56 => ⟨S8192x1x1, .i32⟩
  | 57 => ⟨S8192x1x1, .i1⟩
  | 58 => ⟨S8192x1x1, .i32⟩
  | 59 => ⟨S8192x1x1, .i32⟩
  | 60 => ⟨S_, .i32⟩
  | 61 => ⟨S8192x1x1, .i32⟩
  | 62 => ⟨S8192x1x1, .i1⟩
  | 63 => ⟨S8192x1x1, .i1⟩
  | 64 => ⟨S_, .i32⟩
  | 65 => ⟨S8192x1x1, .i32⟩
  | 66 => ⟨S8192x1x1, .i32⟩
  | 67 => ⟨S8192x1x1, .i32⟩
  | 68 => ⟨S_, .i32⟩
  | 69 => ⟨S8192x1x1, .i32⟩
  | 70 => ⟨S8192x1x1, .i32⟩
  | 71 => ⟨S8192x1x1, .f32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8192x1x1, .i32⟩
  | 79 => ⟨S8192x1x1, .i32⟩
  | 80 => ⟨S_, .i32⟩
  | 81 => ⟨S8192x1x1, .i32⟩
  | 82 => ⟨S8192x1x1, .i1⟩
  | 83 => ⟨S_, .i32⟩
  | 84 => ⟨S8192x1x1, .i32⟩
  | 85 => ⟨S8192x1x1, .i1⟩
  | 86 => ⟨S_, .i32⟩
  | 87 => ⟨S_, .i1⟩
  | 88 => ⟨S8192x1x1, .i1⟩
  | 89 => ⟨S8192x1x1, .i1⟩
  | 90 => ⟨S8192x1x1, .i1⟩
  | 91 => ⟨S8192x1x1, .i32⟩
  | 92 => ⟨S8192x1x1, .i32⟩
  | 93 => ⟨S8192x1x1, .i32⟩
  | 94 => ⟨S8192x1x1, .f32⟩
  | 95 => ⟨S8192x1x6, .f32⟩
  | 96 => ⟨S1x12x6, .f32⟩
  | 97 => ⟨S8192x12x6, .f32⟩
  | 98 => ⟨S8192x12x6, .f32⟩
  | 99 => ⟨S8192x12x6, .f32⟩
  | 100 => ⟨S1x98304x6, .f32⟩
  | 101 => ⟨S4x98304x6, .f32⟩
  | 102 => ⟨S4x8x32x32x72, .f32⟩
  | 103 => ⟨S4x98304x6, .f32⟩
  | 104 => ⟨S4x8x32x32x12, .f32⟩
  | 105 => ⟨S4x98304, .f32⟩
  | 106 => ⟨S4x98304x3, .f32⟩
  | 107 => ⟨S4x98304x3, .f32⟩
  | 108 => ⟨S4x98304x3, .f32⟩
  | 109 => ⟨S_, .f32⟩
  | 110 => ⟨S4x98304x3, .f32⟩
  | 111 => ⟨S4x98304x3, .f32⟩
  | 112 => ⟨S4x98304x3, .f32⟩
  | 113 => ⟨S_, .f32⟩
  | 114 => ⟨S4x98304x3, .f32⟩
  | 115 => ⟨S4x98304x3, .f32⟩
  | 116 => ⟨S4x98304x3, .f32⟩
  | 117 => ⟨S4x98304x3, .f32⟩
  | 118 => ⟨S4x98304x3, .f32⟩
  | 119 => ⟨S4x98304x3, .f32⟩
  | 120 => ⟨S4x98304x3, .f32⟩
  | 121 => ⟨S4x98304x3, .f32⟩
  | 122 => ⟨S4x98304x3, .f32⟩
  | 123 => ⟨S_, .f32⟩
  | 124 => ⟨S4x98304x3, .f32⟩
  | 125 => ⟨S4x98304x3, .f32⟩
  | 126 => ⟨S4x98304x3, .f32⟩
  | 127 => ⟨S_, .f32⟩
  | _ => ⟨S4x24x8x32x32, .f32⟩

abbrev hbmTy0_1 (i : Nat) : BufTy := match i % 128 with
  | 0 => ⟨S4x98304x3, .f32⟩
  | 1 => ⟨S4x98304x3, .f32⟩
  | 2 => ⟨S4x98304x3, .f32⟩
  | 3 => ⟨S4x1, .f32⟩
  | 4 => ⟨S4, .f32⟩
  | 5 => ⟨S4x1, .f32⟩
  | 6 => ⟨S4, .f32⟩
  | 7 => ⟨S4x1, .f32⟩
  | 8 => ⟨S4, .f32⟩
  | 9 => ⟨S4x1, .f32⟩
  | 10 => ⟨S4x1, .f32⟩
  | 11 => ⟨S4x1, .f32⟩
  | 12 => ⟨S4x3, .f32⟩
  | 13 => ⟨S4x1x3, .f32⟩
  | 14 => ⟨S_, .f32⟩
  | 15 => ⟨S4x1x3, .f32⟩
  | 16 => ⟨S4x1x3, .f32⟩
  | 17 => ⟨S_, .f32⟩
  | 18 => ⟨S_, .f32⟩
  | 19 => ⟨S4x98304x3, .f32⟩
  | 20 => ⟨S4x98304x3, .f32⟩
  | 21 => ⟨S4x98304x3, .f32⟩
  | 22 => ⟨S4x98304x3, .f32⟩
  | 23 => ⟨S_, .f32⟩
  | 24 => ⟨S_, .f32⟩
  | 25 => ⟨S4x98304x3, .f32⟩
  | 26 => ⟨S4x98304x3, .f32⟩
  | 27 => ⟨S4x98304x3, .f32⟩
  | 28 => ⟨S4x98304x3, .f32⟩
  | 29 => ⟨S4x98304x6, .f32⟩
  | 30 => ⟨S4x98304, .f32⟩
  | 31 => ⟨S4x98304, .i32⟩
  | 32 => ⟨S4x98304, .f32⟩
  | 33 => ⟨S4x98304, .i32⟩
  | 34 => ⟨S4x100, .i32⟩
  | 35 => ⟨S4x100x1, .i32⟩
  | 36 => ⟨S_, .i32⟩
  | 37 => ⟨S4x100x1, .i32⟩
  | 38 => ⟨S4x100x1, .i1⟩
  | 39 => ⟨S_, .i32⟩
  | 40 => ⟨S4x100x1, .i32⟩
  | 41 => ⟨S4x100x1, .i32⟩
  | 42 => ⟨S4x100x1, .i32⟩
  | 43 => ⟨S1, .i32⟩
  | 44 => ⟨S_, .i32⟩
  | 45 => ⟨S4x100x1, .i32⟩
  | 46 => ⟨S4x100x1, .i1⟩
  | 47 => ⟨S1x1x1, .i32⟩
  | 48 => ⟨S4x100x1, .i32⟩
  | 49 => ⟨S4x100x1, .i1⟩
  | 50 => ⟨S4x100x1, .i1⟩
  | 51 => ⟨S_, .i1⟩
  | 52 => ⟨S4x100, .i1⟩
  | 53 => ⟨S4x100x6, .f32⟩
  | 54 => ⟨S4x100x6, .i1⟩
  | 55 => ⟨S_, .f32⟩
  | 56 => ⟨S4x100x6, .f32⟩
  | 57 => ⟨S4x100x6, .f32⟩
  | 58 => ⟨S_, .i32⟩
  | 59 => ⟨S4x100, .i32⟩
  | 60 => ⟨S4x100, .i1⟩
  | 61 => ⟨S_, .i32⟩
  | 62 => ⟨S4x100, .i32⟩
  | 63 => ⟨S4x100, .i32⟩
  | 64 => ⟨S4x100, .i32⟩
  | 65 => ⟨S4x100x1, .i32⟩
  | 66 => ⟨S1, .i32⟩
  | 67 => ⟨S_, .i32⟩
  | 68 => ⟨S4x100x1, .i32⟩
  | 69 => ⟨S4x100x1, .i1⟩
  | 70 => ⟨S1x1x1, .i32⟩
  | 71 => ⟨S4x100x1, .i32⟩
  | 72 => ⟨S4x100x1, .i1⟩
  | 73 => ⟨S4x100x1, .i1⟩
  | 74 => ⟨S_, .i1⟩
  | 75 => ⟨S4x100, .i1⟩
  | 76 => ⟨S4x100, .f32⟩
  | 77 => ⟨S_, .f32⟩
  | 78 => ⟨S4x100, .f32⟩
  | 79 => ⟨S4x100, .f32⟩
  | 80 => ⟨S4, .f32⟩
  | 81 => ⟨S4x1x1, .f32⟩
  | 82 => ⟨S4x100x1, .f32⟩
  | 83 => ⟨S4x100x1, .f32⟩
  | 84 => ⟨S4x100x8, .f32⟩
  | _ => ⟨S4x24x8x32x32, .f32⟩

abbrev hbmTy (i : Nat) : BufTy := match i / 128 with
  | 0 => hbmTy0_0 i
  | 1 => hbmTy0_1 i
  | _ => ⟨S4x24x8x32x32, .f32⟩

abbrev bufTy : (tb : Table) → Fin (tcTables nBuf tb) → BufTy
  | .hbm, ⟨i, _⟩ => hbmTy i
  | _, _ => ⟨S4x24x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_c_1 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_c_2 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v7 : Ref sig .tc := ⟨.hbm, 67, rfl⟩
abbrev main_c_3 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_c_4 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_cst_5 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_cst_6 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_cst_7 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_cst_8 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_cst_9 : Ref sig .tc := ⟨.hbm, 142, rfl⟩
abbrev main_v56 : Ref sig .tc := ⟨.hbm, 143, rfl⟩
abbrev main_v57 : Ref sig .tc := ⟨.hbm, 144, rfl⟩
abbrev main_cst_10 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_v58 : Ref sig .tc := ⟨.hbm, 150, rfl⟩
abbrev main_cst_11 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_call6_v0 : Ref sig .tc := ⟨.hbm, 159, rfl⟩
abbrev main_call6_v1_0 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_call7_c : Ref sig .tc := ⟨.hbm, 164, rfl⟩
abbrev main_call7_v0 : Ref sig .tc := ⟨.hbm, 165, rfl⟩
abbrev main_call7_v1 : Ref sig .tc := ⟨.hbm, 166, rfl⟩
abbrev main_call7_c_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_c_1 : Ref sig .tc := ⟨.hbm, 171, rfl⟩
abbrev main_call7_c_2 : Ref sig .tc := ⟨.hbm, 172, rfl⟩
abbrev main_call7_v5 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_v9 : Ref sig .tc := ⟨.hbm, 177, rfl⟩
abbrev main_call7_v10 : Ref sig .tc := ⟨.hbm, 178, rfl⟩
abbrev main_call7_c_3 : Ref sig .tc := ⟨.hbm, 179, rfl⟩
abbrev main_call7_v11 : Ref sig .tc := ⟨.hbm, 180, rfl⟩
abbrev main_call7_v12 : Ref sig .tc := ⟨.hbm, 181, rfl⟩
abbrev main_call7_v13 : Ref sig .tc := ⟨.hbm, 182, rfl⟩
abbrev main_call7_cst : Ref sig .tc := ⟨.hbm, 183, rfl⟩
abbrev main_call7_v14 : Ref sig .tc := ⟨.hbm, 184, rfl⟩
abbrev main_v65 : Ref sig .tc := ⟨.hbm, 185, rfl⟩
abbrev main_call8_c : Ref sig .tc := ⟨.hbm, 186, rfl⟩
abbrev main_call8_v0 : Ref sig .tc := ⟨.hbm, 187, rfl⟩
abbrev main_call8_v1 : Ref sig .tc := ⟨.hbm, 188, rfl⟩
abbrev main_call8_c_0 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_call8_v5 : Ref sig .tc := ⟨.hbm, 193, rfl⟩
abbrev main_call8_c_1 : Ref sig .tc := ⟨.hbm, 194, rfl⟩
abbrev main_call8_c_2 : Ref sig .tc := ⟨.hbm, 195, rfl⟩
abbrev main_call8_v6 : Ref sig .tc := ⟨.hbm, 196, rfl⟩
abbrev main_call8_v7 : Ref sig .tc := ⟨.hbm, 197, rfl⟩
abbrev main_call8_v8 : Ref sig .tc := ⟨.hbm, 198, rfl⟩
abbrev main_call8_v9 : Ref sig .tc := ⟨.hbm, 199, rfl⟩
abbrev main_call8_v10 : Ref sig .tc := ⟨.hbm, 200, rfl⟩
abbrev main_call8_v11 : Ref sig .tc := ⟨.hbm, 201, rfl⟩
abbrev main_call8_c_3 : Ref sig .tc := ⟨.hbm, 202, rfl⟩
abbrev main_call8_v12 : Ref sig .tc := ⟨.hbm, 203, rfl⟩
abbrev main_call8_v13 : Ref sig .tc := ⟨.hbm, 204, rfl⟩
abbrev main_call8_cst : Ref sig .tc := ⟨.hbm, 205, rfl⟩
abbrev main_call8_v14 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩

abbrev nD : Nat := 1
abbrev τ : Topo := Topo.v7x

variable {F : FTy → Type} [FloatOps F]
-- ==== Proof.IdealFrame.lean ====
/-
  The frame of the one program: run from any memory it terminates, nothing faults, the argument arrays end unchanged and
  every counter is back at zero. Nothing is said here of what the kernel writes, so the output window is forgotten; the
  module is generic in the values.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A bit is one or it is not. -/
theorem one_or_not (b : BitVec 1) : b = 1#1 ∨ ¬ b = 1#1 := Decidable.em _

/-- The body on whole memrefs, its three inputs at read contents and everything it writes at some contents, runs to its
    return with the inputs as they were. -/
theorem kernelRun (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (x0 : Vec F S192x2048 .f32) (x1 : Vec F S4x72x8192 .f32) (x2 : Vec F S4x3 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)) -∗ K ⟨⟩))
      ⊢ wp frame (wpE (defs₀ (F := F)) Variants.none c none) Set.univ
          (cc0__proposal_kernel arg0 harg0 arg1 harg1 arg2 harg2 arg3 harg3 arg4 harg4 arg5 harg5 arg6 harg6) K := by
  simp only [cc0__proposal_kernel_eq_skeleton]; unfold cc0__proposal_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  rcases one_or_not (kernelRun.sl.v2535 c arg0 f0) with h | h
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

variable (m : (ℓ : Loc nD τ sig) → Buf (Elt F) ℓ) (ρ : Dev nD → PrngReg)

/-! ## The proof data, the output window forgotten -/

/-- Only the result's window is forgotten. -/
def forgets0 : Fin 4 → Bool := fun w => w == 3

/-- The proof data on core `c`: the arrays as the region finds them, each input's buffer at its block after the body, the
    result's unnamed; the scratch at some contents; full shares; nothing owed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

/-- The arrays are as the region finds them. -/
theorem fA_eq (c : Dev nD) (w : Fin cfg0.W) : (fdats m 0 c).A w = V m c (Pipeline.arrRef spec0 w) := by dsimp only [fdats]
/-- After the body the scores' buffer is at its block, -/
theorem fafter0_0 (c : Dev nD) (t : Fin cfg0.N) : (fdats m 0 c).after 0 t = iblk m c 0 t := by dsimp only [fdats]
/-- the offsets' is -/
theorem fafter0_1 (c : Dev nD) (t : Fin cfg0.N) : (fdats m 0 c).after 1 t = iblk m c 1 t := by dsimp only [fdats]
/-- and the sizes' is. -/
theorem fafter0_2 (c : Dev nD) (t : Fin cfg0.N) : (fdats m 0 c).after 2 t = iblk m c 2 t := by dsimp only [fdats]
/-- Before the body the scores' buffer is at its block, -/
theorem fbefore0_0 (c : Dev nD) (t : Fin cfg0.N) (d) : (fdats m 0 c).before 0 t d = iblk m c 0 t :=
  before0_0_of m (fdats m 0 c) (fA_eq m c 0) (fafter0_0 m c) t d
/-- the offsets' is -/
theorem fbefore0_1 (c : Dev nD) (t : Fin cfg0.N) (d) : (fdats m 0 c).before 1 t d = iblk m c 1 t :=
  before0_1_of m (fdats m 0 c) (fA_eq m c 1) (fafter0_1 m c) t d
/-- and the sizes' is. -/
theorem fbefore0_2 (c : Dev nD) (t : Fin cfg0.N) (d) : (fdats m 0 c).before 2 t d = iblk m c 2 t :=
  before0_2_of m (fdats m 0 c) (fA_eq m c 2) (fafter0_2 m c) t d

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d))
/-- and what it returns. -/
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ (∃ d, owns (c : Thread nD τ) (st0_3 t) fullShare d))

/-- The region's invariant, buffer by buffer: the three scratch buffers at some contents and the generator's register. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ ∃ r, prngReg c r) := by
  unfold Pipeline.ΦA; rw [scopedRest0_eq]; simp only [owns_whole]; try rfl

/-- The body at any point: the scratch out of the invariant, `kernelRun`, the scratch back. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2]
  rw [show (fdats m 0 c).Φ t.succ = (fdats m 0 c).Φ t.castSucc from rfl,
    show (fdats m 0 c).owesAt () t.succ = (fdats m 0 c).owesAt () t.castSucc from rfl,
    fafter0_0, fafter0_1, fafter0_2, show (fdats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, H3⟩
  iapply (kernelRun c _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the result's window forgotten. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

/-! ## The launch and the frame -/

/-- The buffers the host lines after the region write. -/
def tailWrites : Finset (Ref sig .tc) := {main_v6, main_v7}

/-- The host lines after the region write nothing else. -/
theorem tail_sub : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    have := Proc.devRef_injective _ hb
    subst this
    decide

-- the launch theorem's implicit arguments are found by unifying its conclusion with this statement, which takes unfolding
-- plain definitions in a metavariable's type
set_option backward.isDefEq.respectTransparency.types false in
/-- From any memory with zero counters every weakly fair execution terminates, with every array but the result's and every
    buffer the later host lines do not write as launched, and every counter at zero. -/
theorem frun_main :
    θ_run defs (onTc (τ := τ) (main (F := F))) (s₀ m ρ)
      (fun r => Pipeline.RDat.FramePostR (cfgs 0) (fun c => (fdats m 0 c).toRForget forgets0) tailWrites (V m) r ∧ r.2.sem = fun _ => 0) :=
  Pipeline.θ_run_frame_around_T_forget (Q' := _) cfgs (fdats m) (0 : Fin 1) launch0 defs₀ Variants.none forgets0 tailWrites m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_sub) (hmain := hmain m Variants.none) (hA := fA_eq m) (hΦ := fun _ _ => rfl)

/-- THE FRAME: it terminates, nothing faults, the argument arrays end unchanged, and every counter is zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     (Pipeline.RDat.FramePostR.arr_in h.1 c 2 rfl).trans ((fA_eq m c 2).trans (V_main_arg2 m c))⟩, h.2⟩) (frun_main m ρ)

end Cert.KernelIdeal.Hand

end
-- ==== Proof.Model.lean ====
module

public import proofs.«01_k».proof.Proof.IdealFrame
public import Idealize.ShloMosaic.Lib.ShapeFacts

/-
  The selection part of the kernel, written again as functions of small blocks: the compare-exchange step, the merge
  network of one width, the step that keeps half of the rows, and the stacking of the right half of the columns under
  the left half.  Each is stated at any extents.
-/

@[expose] public section

set_option maxRecDepth 65536

noncomputable section

open Idealize.ShloMosaic

namespace Cert.Model

variable {F : FTy → Type} [FloatOps F]

/-- The shape relations a compare-exchange step needs: `n` rows seen as `r` groups of two halves of `k` rows each. -/
structure StepFacts (n r k W : ℕ) : Prop where
  split : (⟨2, ![n, W]⟩ : Shape).ShapeCasts ⟨4, ![r, 2, k, W]⟩
  sl0 : (⟨4, ![r, 2, k, W]⟩ : Shape).Slices ![0, 0, 0, 0] ⟨4, ![r, 1, k, W]⟩
  sl1 : (⟨4, ![r, 2, k, W]⟩ : Shape).Slices ![0, 1, 0, 0] ⟨4, ![r, 1, k, W]⟩
  drop : (⟨4, ![r, 1, k, W]⟩ : Shape).ShapeCasts ⟨3, ![r, k, W]⟩
  bc : (⟨3, ![1, 1, W]⟩ : Shape).Broadcasts ⟨3, ![r, k, W]⟩
  bc' : (⟨3, ![r, k, W]⟩ : Shape).Broadcasts ⟨3, ![r, k, W]⟩
  lift : (⟨3, ![r, k, W]⟩ : Shape).ShapeCasts ⟨4, ![r, 1, k, W]⟩
  cat : Shape.Concatenates [⟨4, ![r, 1, k, W]⟩, ⟨4, ![r, 1, k, W]⟩] ⟨4, ![r, 2, k, W]⟩ 1
  merge : (⟨4, ![r, 2, k, W]⟩ : Shape).ShapeCasts ⟨2, ![n, W]⟩

/-- They hold whenever the rows are `r` groups of `2 k`. -/
theorem stepFacts {n r k : ℕ} (W : ℕ) (h : n = r * 2 * k) : StepFacts n r k W where
  split := by show Shape.numel _ = Shape.numel _; rw [Shape.numel_rank2, Shape.numel_rank4]; simp [h]
  sl0 := ⟨rfl, fun a => by match a with | ⟨0, _⟩ => simp | ⟨1, _⟩ => simp | ⟨2, _⟩ => simp | ⟨3, _⟩ => simp⟩
  sl1 := ⟨rfl, fun a => by match a with | ⟨0, _⟩ => simp | ⟨1, _⟩ => simp | ⟨2, _⟩ => simp | ⟨3, _⟩ => simp⟩
  drop := by show Shape.numel _ = Shape.numel _; rw [Shape.numel_rank3, Shape.numel_rank4]; simp
  bc := ⟨le_rfl, fun a => by match a with | ⟨0, _⟩ => exact Or.inl rfl | ⟨1, _⟩ => exact Or.inl rfl | ⟨2, _⟩ => exact Or.inr fun _ => rfl⟩
  bc' := ⟨le_rfl, fun a => Or.inr fun _ => rfl⟩
  lift := by show Shape.numel _ = Shape.numel _; rw [Shape.numel_rank3, Shape.numel_rank4]; simp
  cat := by
    refine ⟨le_rfl, fun s hs => ?_, rfl⟩
    have : s = ⟨4, ![r, 1, k, W]⟩ := by simpa using hs
    subst this
    refine ⟨rfl, fun b hb => ?_⟩
    match b with
    | ⟨0, _⟩ => rfl
    | ⟨1, _⟩ => exact absurd rfl hb
    | ⟨2, _⟩ => rfl
    | ⟨3, _⟩ => rfl
  merge := by show Shape.numel _ = Shape.numel _; rw [Shape.numel_rank2, Shape.numel_rank4]; simp [h]

/-- The scores of a block of `n` rows and `W` columns. -/
abbrev V (F : FTy → Type) (n W : ℕ) : Type := FVec F ⟨2, ![n, W]⟩ .f32

/-- The positions of a block of `n` rows and `W` columns. -/
abbrev N (n W : ℕ) : Type := IVec ⟨2, ![n, W]⟩ 32

/-- A direction for every one of `W` columns. -/
abbrev D (W : ℕ) : Type := IVec ⟨3, ![1, 1, W]⟩ 1

section step
variable {n r k W : ℕ} (h : n = r * 2 * k)
include h

/-- The first half of every group. -/
def half0 {α : Type} (x : (⟨2, ![n, W]⟩ : Shape).Idx → α) : (⟨3, ![r, k, W]⟩ : Shape).Idx → α :=
  shapeCast ⟨3, ![r, k, W]⟩ (extractStridedSlice ⟨4, ![r, 1, k, W]⟩ ![0, 0, 0, 0] (shapeCast ⟨4, ![r, 2, k, W]⟩ x (stepFacts W h).split) (stepFacts W h).sl0) (stepFacts W h).drop

/-- The second half of every group. -/
def half1 {α : Type} (x : (⟨2, ![n, W]⟩ : Shape).Idx → α) : (⟨3, ![r, k, W]⟩ : Shape).Idx → α :=
  shapeCast ⟨3, ![r, k, W]⟩ (extractStridedSlice ⟨4, ![r, 1, k, W]⟩ ![0, 1, 0, 0] (shapeCast ⟨4, ![r, 2, k, W]⟩ x (stepFacts W h).split) (stepFacts W h).sl1) (stepFacts W h).drop

/-- The groups put together again from their halves. -/
def join {α : Type} (a b : (⟨3, ![r, k, W]⟩ : Shape).Idx → α) : (⟨2, ![n, W]⟩ : Shape).Idx → α :=
  shapeCast ⟨2, ![n, W]⟩
    (concatenate ⟨4, ![r, 2, k, W]⟩ 1
      [⟨⟨4, ![r, 1, k, W]⟩, shapeCast ⟨4, ![r, 1, k, W]⟩ a (stepFacts W h).lift⟩, ⟨⟨4, ![r, 1, k, W]⟩, shapeCast ⟨4, ![r, 1, k, W]⟩ b (stepFacts W h).lift⟩] (stepFacts W h).cat)
    (stepFacts W h).merge

/-- Whether the first half's record goes to the first half. -/
def wins (d : D W) (v : V F n W) (i : N n W) : IVec ⟨3, ![r, k, W]⟩ 1 :=
  xori (ori (cmpf .ogt (half0 h v) (half1 h v)) (andi (cmpf .oeq (half0 h v) (half1 h v)) (cmpi .slt (half0 h i) (half1 h i))))
    (broadcastTo ⟨3, ![r, k, W]⟩ (broadcastTo ⟨3, ![r, k, W]⟩ (xori d (constantI ⟨3, ![1, 1, W]⟩ 1 1#1)) (stepFacts W h).bc) (stepFacts W h).bc')

/-- The scores after one compare-exchange step. -/
def stepV (d : D W) (v : V F n W) (i : N n W) : V F n W :=
  join h (select (wins h d v i) (half0 h v) (half1 h v)) (select (wins h d v i) (half1 h v) (half0 h v))

/-- The positions after one compare-exchange step. -/
def stepN (d : D W) (v : V F n W) (i : N n W) : N n W :=
  join h (select (wins h d v i) (half0 h i) (half1 h i)) (select (wins h d v i) (half1 h i) (half0 h i))
end step

/-! The last steps of a merge network, from the step at distance `k` down to the step at distance 1. -/

section tails
variable {n q W : ℕ}

/-- The scores after the step at distance 1. -/
def tail1V (h : n = q * 2 * 1) (d : D W) (v : V F n W) (i : N n W) : V F n W := stepV h d v i

/-- The positions after the step at distance 1. -/
def tail1N (h : n = q * 2 * 1) (d : D W) (v : V F n W) (i : N n W) : N n W := stepN h d v i

/-- The scores after the steps at distance 2 and less. -/
def tail2V (h : n = q * 2 * 2) (d : D W) (v : V F n W) (i : N n W) : V F n W :=
  tail1V (q := q * 2) (by omega) d (stepV h d v i) (stepN h d v i)

/-- The positions after the steps at distance 2 and less. -/
def tail2N (h : n = q * 2 * 2) (d : D W) (v : V F n W) (i : N n W) : N n W :=
  tail1N (q := q * 2) (by omega) d (stepV h d v i) (stepN h d v i)

/-- The scores after the steps at distance 4 and less. -/
def tail4V (h : n = q * 2 * 4) (d : D W) (v : V F n W) (i : N n W) : V F n W :=
  tail2V (q := q * 2) (by omega) d (stepV h d v i) (stepN h d v i)

/-- The positions after the steps at distance 4 and less. -/
def tail4N (h : n = q * 2 * 4) (d : D W) (v : V F n W) (i : N n W) : N n W :=
  tail2N (q := q * 2) (by omega) d (stepV h d v i) (stepN h d v i)

/-- The scores after the steps at distance 8 and less. -/
def tail8V (h : n = q * 2 * 8) (d : D W) (v : V F n W) (i : N n W) : V F n W :=
  tail4V (q := q * 2) (by omega) d (stepV h d v i) (stepN h d v i)

/-- The positions after the steps at distance 8 and less. -/
def tail8N (h : n = q * 2 * 8) (d : D W) (v : V F n W) (i : N n W) : N n W :=
  tail4N (q := q * 2) (by omega) d (stepV h d v i) (stepN h d v i)

/-- The scores after the steps at distance 16 and less. -/
def tail16V (h : n = q * 2 * 16) (d : D W) (v : V F n W) (i : N n W) : V F n W :=
  tail8V (q := q * 2) (by omega) d (stepV h d v i) (stepN h d v i)

/-- The positions after the steps at distance 16 and less. -/
def tail16N (h : n = q * 2 * 16) (d : D W) (v : V F n W) (i : N n W) : N n W :=
  tail8N (q := q * 2) (by omega) d (stepV h d v i) (stepN h d v i)

/-- The scores after the steps at distance 32 and less. -/
def tail32V (h : n = q * 2 * 32) (d : D W) (v : V F n W) (i : N n W) : V F n W :=
  tail16V (q := q * 2) (by omega) d (stepV h d v i) (stepN h d v i)

/-- The positions after the steps at distance 32 and less. -/
def tail32N (h : n = q * 2 * 32) (d : D W) (v : V F n W) (i : N n W) : N n W :=
  tail16N (q := q * 2) (by omega) d (stepV h d v i) (stepN h d v i)

/-- The scores after the steps at distance 64 and less. -/
def tail64V (h : n = q * 2 * 64) (d : D W) (v : V F n W) (i : N n W) : V F n W :=
  tail32V (q := q * 2) (by omega) d (stepV h d v i) (stepN h d v i)

/-- The positions after the steps at distance 64 and less. -/
def tail64N (h : n = q * 2 * 64) (d : D W) (v : V F n W) (i : N n W) : N n W :=
  tail32N (q := q * 2) (by omega) d (stepV h d v i) (stepN h d v i)

/-- The scores after the steps at distance 128 and less. -/
def tail128V (h : n = q * 2 * 128) (d : D W) (v : V F n W) (i : N n W) : V F n W :=
  tail64V (q := q * 2) (by omega) d (stepV h d v i) (stepN h d v i)

/-- The positions after the steps at distance 128 and less. -/
def tail128N (h : n = q * 2 * 128) (d : D W) (v : V F n W) (i : N n W) : N n W :=
  tail64N (q := q * 2) (by omega) d (stepV h d v i) (stepN h d v i)

end tails

/-- The shape relations of stacking: two halves of `w` columns one under the other. -/
structure StackFacts (n w : ℕ) : Prop where
  l : (⟨2, ![n, w * 2]⟩ : Shape).Slices ![0, 0] ⟨2, ![n, w]⟩
  r : (⟨2, ![n, w * 2]⟩ : Shape).Slices ![0, w] ⟨2, ![n, w]⟩
  cat : Shape.Concatenates [⟨2, ![n, w]⟩, ⟨2, ![n, w]⟩] ⟨2, ![n * 2, w]⟩ 0

/-- They hold at every extent. -/
theorem stackFacts (n w : ℕ) : StackFacts n w where
  l := ⟨rfl, fun a => by match a with | ⟨0, _⟩ => simp | ⟨1, _⟩ => simp; omega⟩
  r := ⟨rfl, fun a => by match a with | ⟨0, _⟩ => simp | ⟨1, _⟩ => simp; omega⟩
  cat := by
    refine ⟨le_rfl, fun s hs => ?_, ?_⟩
    · have : s = ⟨2, ![n, w]⟩ := by simpa using hs
      subst this
      refine ⟨rfl, fun b hb => ?_⟩
      match b with
      | ⟨0, _⟩ => exact absurd rfl hb
      | ⟨1, _⟩ => rfl
    · show n + (n + 0) = n * 2; omega

/-- The right half of the columns put under the left half. -/
def stack {n w : ℕ} {α : Type} (x : (⟨2, ![n, w * 2]⟩ : Shape).Idx → α) : (⟨2, ![n * 2, w]⟩ : Shape).Idx → α :=
  concatenate ⟨2, ![n * 2, w]⟩ 0
    [⟨⟨2, ![n, w]⟩, extractStridedSlice ⟨2, ![n, w]⟩ ![0, 0] x (stackFacts n w).l⟩,
     ⟨⟨2, ![n, w]⟩, extractStridedSlice ⟨2, ![n, w]⟩ ![0, w] x (stackFacts n w).r⟩] (stackFacts n w).cat

/-- The shape relations of keeping half of the rows. -/
structure KeepFacts (n W : ℕ) : Prop where
  c1 : (⟨3, ![1, 1, W]⟩ : Shape).ShapeCasts ⟨2, ![1, W]⟩
  c2 : (⟨2, ![1, W]⟩ : Shape).ShapeCasts ⟨2, ![1, W]⟩
  bc : (⟨2, ![1, W]⟩ : Shape).Broadcasts ⟨2, ![n, W]⟩
  t : (⟨2, ![n * 2, W]⟩ : Shape).Slices ![0, 0] ⟨2, ![n, W]⟩
  b : (⟨2, ![n * 2, W]⟩ : Shape).Slices ![n, 0] ⟨2, ![n, W]⟩

/-- They hold at every extent. -/
theorem keepFacts (n W : ℕ) : KeepFacts n W where
  c1 := by show Shape.numel _ = Shape.numel _; rw [Shape.numel_rank2, Shape.numel_rank3]; simp
  c2 := rfl
  bc := ⟨le_rfl, fun a => by match a with | ⟨0, _⟩ => exact Or.inl rfl | ⟨1, _⟩ => exact Or.inr fun _ => rfl⟩
  t := ⟨rfl, fun a => by match a with | ⟨0, _⟩ => simp; omega | ⟨1, _⟩ => simp⟩
  b := ⟨rfl, fun a => by match a with | ⟨0, _⟩ => simp; omega | ⟨1, _⟩ => simp⟩

/-- The first half of the rows in a descending column, the second half in an ascending one. -/
def keep {n W : ℕ} {α : Type} (d : D W) (x : (⟨2, ![n * 2, W]⟩ : Shape).Idx → α) : (⟨2, ![n, W]⟩ : Shape).Idx → α :=
  select (broadcastTo ⟨2, ![n, W]⟩ (shapeCast ⟨2, ![1, W]⟩ (shapeCast ⟨2, ![1, W]⟩ d (keepFacts n W).c1) (keepFacts n W).c2) (keepFacts n W).bc)
    (extractStridedSlice ⟨2, ![n, W]⟩ ![0, 0] x (keepFacts n W).t) (extractStridedSlice ⟨2, ![n, W]⟩ ![n, 0] x (keepFacts n W).b)

end Cert.Model
-- ==== Proof.Net.lean ====
module

public import proofs.«01_k».proof.Proof.Model
public import Idealize.ShloMosaic.PureOps.Ideal
public import Idealize.ShloMosaic.Lib.Pipeline.Value
public import Idealize.ShloMosaic.Lib.Pointwise.Index
public import Idealize.ShloMosaic.Lib.SortNet.Sorts
public import Idealize.ShloMosaic.Lib.SortNet.TopList
public import Idealize.ShloMosaic.Lib.SortNet.Threshold
public import Mathlib.Data.Prod.Lex

/-
  What the compare-exchange steps compute at the extended reals.  A record is a score and a position; records are ordered
  by score, and among equal scores the lesser position is the greater record.  One step at distance 2^s is one stage of
  Batcher's merge network on every column, in the direction the column has.
-/

@[expose] public section

noncomputable section

open Idealize.ShloMosaic Idealize.ShloMosaic.SortNet

namespace Cert.Model

/-- The order of records: by score, then the lesser position first. -/
abbrev E : Type := EReal ×ₗ ℤᵒᵈ

/-- The record of a score and a position. -/
def key (v : EReal) (n : BitVec 32) : E := toLex (v, OrderDual.toDual n.toInt)

/-- A record is less than another when its score is less, or the scores are equal and its position greater. -/
theorem key_lt (v v' : EReal) (n n' : BitVec 32) : key v n < key v' n' ↔ v < v' ∨ (v = v' ∧ n'.toInt < n.toInt) := by
  unfold key
  rw [Prod.Lex.toLex_lt_toLex]
  exact Iff.rfl

/-- The word a comparison of two records gives. -/
theorem beats_eq (v v' : EReal) (n n' : BitVec 32) :
    (BitVec.ofBool (decide (v' < v)) ||| (BitVec.ofBool (decide (v = v')) &&& BitVec.ofBool (n.slt n')))
      = BitVec.ofBool (decide (key v' n' < key v n)) := by
  have hs : n.slt n' = decide (n.toInt < n'.toInt) := rfl
  rw [hs]
  by_cases h1 : v' < v
  · have : key v' n' < key v n := (key_lt _ _ _ _).2 (Or.inl h1)
    rw [decide_eq_true h1, decide_eq_true this]
    cases decide (v = v') <;> cases decide (n.toInt < n'.toInt) <;> rfl
  · by_cases h2 : v = v'
    · by_cases h3 : n.toInt < n'.toInt
      · have : key v' n' < key v n := (key_lt _ _ _ _).2 (Or.inr ⟨h2.symm, h3⟩)
        rw [decide_eq_false h1, decide_eq_true h2, decide_eq_true h3, decide_eq_true this]; rfl
      · have : ¬ key v' n' < key v n := fun h => ((key_lt _ _ _ _).1 h).elim h1 fun h => h3 h.2
        rw [decide_eq_false h1, decide_eq_true h2, decide_eq_false h3, decide_eq_false this]; rfl
    · have : ¬ key v' n' < key v n := fun h => ((key_lt _ _ _ _).1 h).elim h1 fun h => h2 h.1.symm
      rw [decide_eq_false h1, decide_eq_false h2, decide_eq_false this]
      cases decide (n.toInt < n'.toInt) <;> rfl

/-- A coordinate along an axis of extent one is zero. -/
theorem one_or {m : ℕ} (j : Fin m) : j.val = if m = 1 then 0 else j.val := by
  split
  · have := j.isLt; omega
  · rfl

/-- A bit that is not one is zero. -/
theorem not_one {x : BitVec 1} (h : ¬ x = 1#1) : x = 0#1 := by
  revert h; revert x; decide

/-! ### Reading the halves, their join, and the step -/

section reading
variable {n r k W : ℕ} (h : n = r * 2 * k)

/-- Row `b` of half `c` of group `a`. -/
def row (h : n = r * 2 * k) (a : Fin r) (c : Fin 2) (b : Fin k) : Fin n :=
  ⟨(a.val * 2 + c.val) * k + b.val, by
    have h1 : a.val * 2 + c.val + 1 ≤ r * 2 := by have := a.isLt; have := c.isLt; omega
    calc (a.val * 2 + c.val) * k + b.val < (a.val * 2 + c.val) * k + k := Nat.add_lt_add_left b.isLt _
      _ = (a.val * 2 + c.val + 1) * k := by ring
      _ ≤ r * 2 * k := Nat.mul_le_mul_right k h1
      _ = n := h.symm⟩

/-- The first half of every group of rows reads the group's first rows, -/
theorem half0_apply {α : Type} (x : (⟨2, ![n, W]⟩ : Shape).Idx → α) (a : Fin r) (b : Fin k) (j : Fin W) :
    half0 h x (ix3 a b j) = x (ix2 (row h a 0 b) j) := by
  unfold half0
  rw [shapeCast_apply _ _ (ix3 a b j) (ix4 a (0 : Fin 1) b j), extractStridedSlice_apply _ _ _ _ (ix4 a (0 : Fin 2) b j),
    shapeCast_apply _ _ (ix4 a (0 : Fin 2) b j) (ix2 (row h a 0 b) j)]
  · rw [Shape.rowMajor_val_two, Shape.rowMajor_val_four]; simp [row]
  · intro a
    match a with
    | ⟨0, _⟩ => simp
    | ⟨1, _⟩ => simp
    | ⟨2, _⟩ => simp
    | ⟨3, _⟩ => simp
  · rw [Shape.rowMajor_val_three, Shape.rowMajor_val_four]; simp

/-- the second its last. -/
theorem half1_apply {α : Type} (x : (⟨2, ![n, W]⟩ : Shape).Idx → α) (a : Fin r) (b : Fin k) (j : Fin W) :
    half1 h x (ix3 a b j) = x (ix2 (row h a 1 b) j) := by
  unfold half1
  rw [shapeCast_apply _ _ (ix3 a b j) (ix4 a (0 : Fin 1) b j), extractStridedSlice_apply _ _ _ _ (ix4 a (1 : Fin 2) b j),
    shapeCast_apply _ _ (ix4 a (1 : Fin 2) b j) (ix2 (row h a 1 b) j)]
  · rw [Shape.rowMajor_val_two, Shape.rowMajor_val_four]; simp [row]
  · intro a
    match a with
    | ⟨0, _⟩ => simp
    | ⟨1, _⟩ => simp
    | ⟨2, _⟩ => simp
    | ⟨3, _⟩ => simp
  · rw [Shape.rowMajor_val_three, Shape.rowMajor_val_four]; simp

/-- The two halves put together read the first half at a group's first rows -/
theorem join_apply0 {α : Type} (x y : (⟨3, ![r, k, W]⟩ : Shape).Idx → α) (a : Fin r) (b : Fin k) (j : Fin W) :
    join h x y (ix2 (row h a 0 b) j) = x (ix3 a b j) := by
  unfold join
  rw [shapeCast_apply _ _ (ix2 (row h a 0 b) j) (ix4 a (0 : Fin 2) b j),
    concatenate_pair_apply_left (s₁ := ⟨4, ![r, 1, k, W]⟩) (s₂ := ⟨4, ![r, 1, k, W]⟩) _ _ _ _ (ix4 a (0 : Fin 2) b j) rfl (ix4 a (0 : Fin 1) b j),
    shapeCast_apply _ _ (ix4 a (0 : Fin 1) b j) (ix3 a b j)]
  · rw [Shape.rowMajor_val_three, Shape.rowMajor_val_four]; simp
  · intro a
    match a with
    | ⟨0, _⟩ => rfl
    | ⟨1, _⟩ => rfl
    | ⟨2, _⟩ => rfl
    | ⟨3, _⟩ => rfl
  · rw [Shape.rowMajor_val_two, Shape.rowMajor_val_four]; simp [row]

/-- and the second at its last. -/
theorem join_apply1 {α : Type} (x y : (⟨3, ![r, k, W]⟩ : Shape).Idx → α) (a : Fin r) (b : Fin k) (j : Fin W) :
    join h x y (ix2 (row h a 1 b) j) = y (ix3 a b j) := by
  unfold join
  rw [shapeCast_apply _ _ (ix2 (row h a 1 b) j) (ix4 a (1 : Fin 2) b j),
    concatenate_pair_apply_right (s₁ := ⟨4, ![r, 1, k, W]⟩) (s₂ := ⟨4, ![r, 1, k, W]⟩) _ _ _ _ (ix4 a (1 : Fin 2) b j) rfl rfl (ix4 a (0 : Fin 1) b j),
    shapeCast_apply _ _ (ix4 a (0 : Fin 1) b j) (ix3 a b j)]
  · rw [Shape.rowMajor_val_three, Shape.rowMajor_val_four]; simp
  · intro a hb
    match a with
    | ⟨0, _⟩ => rfl
    | ⟨1, _⟩ => exact absurd rfl hb
    | ⟨2, _⟩ => rfl
    | ⟨3, _⟩ => rfl
  · rfl
  · rw [Shape.rowMajor_val_two, Shape.rowMajor_val_four]; simp [row]

/-- The record a block holds at a row of a column. -/
def rec {n W : ℕ} (v : V Ideal n W) (i : N n W) (a : Fin n) (j : Fin W) : E := key (v (ix2 a j)) (i (ix2 a j))

/-- The direction of a column. -/
def desc {W : ℕ} (d : D W) (j : Fin W) : Bool := decide (d (ix3 (0 : Fin 1) (0 : Fin 1) j) = 1#1)

/-- The step's choice, from the order of the two records and the column's direction. -/
theorem wins_apply (d : D W) (v : V Ideal n W) (i : N n W) (a : Fin r) (b : Fin k) (j : Fin W) :
    wins h d v i (ix3 a b j)
      = BitVec.ofBool (decide (rec v i (row h a 1 b) j < rec v i (row h a 0 b) j)) ^^^ (d (ix3 (0 : Fin 1) (0 : Fin 1) j) ^^^ 1#1) := by
  show (Ideal.cmp .ogt (half0 h v (ix3 a b j)) (half1 h v (ix3 a b j))
      ||| (Ideal.cmp .oeq (half0 h v (ix3 a b j)) (half1 h v (ix3 a b j)) &&& IntOp.cmpi .slt (half0 h i (ix3 a b j)) (half1 h i (ix3 a b j))))
      ^^^ broadcastTo ⟨3, ![r, k, W]⟩ (broadcastTo ⟨3, ![r, k, W]⟩ (xori d (constantI ⟨3, ![1, 1, W]⟩ 1 1#1)) (stepFacts W h).bc) (stepFacts W h).bc' (ix3 a b j) = _
  rw [half0_apply, half1_apply, half0_apply, half1_apply,
    broadcastTo_apply _ _ (ix3 a b j) (ix3 a b j), broadcastTo_apply _ _ (ix3 a b j) (ix3 (0 : Fin 1) (0 : Fin 1) j)]
  · exact congrArg (· ^^^ (d (ix3 (0 : Fin 1) (0 : Fin 1) j) ^^^ 1#1)) (beats_eq _ _ _ _)
  · intro a
    match a with
    | ⟨0, _⟩ => simp
    | ⟨1, _⟩ => simp
    | ⟨2, _⟩ => exact one_or _
  · intro a
    match a with
    | ⟨0, _⟩ => exact one_or _
    | ⟨1, _⟩ => exact one_or _
    | ⟨2, _⟩ => exact one_or _

/-- After a step the first of a pair of rows holds the greater record in a descending column, the lesser in an ascending one, -/
theorem step_apply0 (d : D W) (v : V Ideal n W) (i : N n W) (a : Fin r) (b : Fin k) (j : Fin W) :
    rec (stepV h d v i) (stepN h d v i) (row h a 0 b) j
      = if desc d j then max (rec v i (row h a 0 b) j) (rec v i (row h a 1 b) j) else min (rec v i (row h a 0 b) j) (rec v i (row h a 1 b) j) := by
  have hw := wins_apply h d v i a b j
  have e : rec (stepV h d v i) (stepN h d v i) (row h a 0 b) j
      = if wins h d v i (ix3 a b j) = 1#1 then rec v i (row h a 0 b) j else rec v i (row h a 1 b) j := by
    unfold rec stepV stepN
    rw [join_apply0, join_apply0]
    show key (if wins h d v i (ix3 a b j) = 1#1 then half0 h v (ix3 a b j) else half1 h v (ix3 a b j))
      (if wins h d v i (ix3 a b j) = 1#1 then half0 h i (ix3 a b j) else half1 h i (ix3 a b j)) = _
    rw [half0_apply, half1_apply, half0_apply, half1_apply]
    split <;> rfl
  rw [e, hw]
  unfold desc
  generalize d (ix3 (0 : Fin 1) (0 : Fin 1) j) = x
  generalize rec v i (row h a 0 b) j = p
  generalize rec v i (row h a 1 b) j = q
  rcases em (x = 1#1) with hx | hx
  · subst hx
    by_cases hpq : q < p
    · simp [hpq, max_eq_left (le_of_lt hpq)]
    · simp [hpq, max_eq_right (not_lt.1 hpq)]
  · have hx := not_one hx
    subst hx
    by_cases hpq : q < p
    · simp [hpq, min_eq_right (le_of_lt hpq)]
    · simp [hpq, min_eq_left (not_lt.1 hpq)]

/-- and the second the other. -/
theorem step_apply1 (d : D W) (v : V Ideal n W) (i : N n W) (a : Fin r) (b : Fin k) (j : Fin W) :
    rec (stepV h d v i) (stepN h d v i) (row h a 1 b) j
      = if desc d j then min (rec v i (row h a 0 b) j) (rec v i (row h a 1 b) j) else max (rec v i (row h a 0 b) j) (rec v i (row h a 1 b) j) := by
  have hw := wins_apply h d v i a b j
  have e : rec (stepV h d v i) (stepN h d v i) (row h a 1 b) j
      = if wins h d v i (ix3 a b j) = 1#1 then rec v i (row h a 1 b) j else rec v i (row h a 0 b) j := by
    unfold rec stepV stepN
    rw [join_apply1, join_apply1]
    show key (if wins h d v i (ix3 a b j) = 1#1 then half1 h v (ix3 a b j) else half0 h v (ix3 a b j))
      (if wins h d v i (ix3 a b j) = 1#1 then half1 h i (ix3 a b j) else half0 h i (ix3 a b j)) = _
    rw [half0_apply, half1_apply, half0_apply, half1_apply]
    split <;> rfl
  rw [e, hw]
  unfold desc
  generalize d (ix3 (0 : Fin 1) (0 : Fin 1) j) = x
  generalize rec v i (row h a 0 b) j = p
  generalize rec v i (row h a 1 b) j = q
  rcases em (x = 1#1) with hx | hx
  · subst hx
    by_cases hpq : q < p
    · simp [hpq, min_eq_right (le_of_lt hpq)]
    · simp [hpq, min_eq_left (not_lt.1 hpq)]
  · have hx := not_one hx
    subst hx
    by_cases hpq : q < p
    · simp [hpq, max_eq_left (le_of_lt hpq)]
    · simp [hpq, max_eq_right (not_lt.1 hpq)]
end reading

/-- The records of a column of `2 ^ p` rows. -/
def col {n W : ℕ} {p : ℕ} (hn : 2 ^ p = n) (v : V Ideal n W) (i : N n W) (j : Fin W) : Fin (2 ^ p) → E := fun a => rec v i (a.cast hn) j

/-- A step at distance `2 ^ s` is a stage of the network on every column. -/
theorem col_step {n r k W p s : ℕ} (hn : 2 ^ p = n) (hs : s < p) (hk : k = 2 ^ s) (h : n = r * 2 * k) (d : D W) (v : V Ideal n W) (i : N n W) (j : Fin W) :
    col hn (stepV h d v i) (stepN h d v i) j = Network.apply (stage p s fun _ => desc d j) (col hn v i j) := by
  have key0 : ∀ x : Fin (2 ^ p), x.val &&& 2 ^ s = 0 →
      col hn (stepV h d v i) (stepN h d v i) j x = Network.apply (stage p s fun _ => desc d j) (col hn v i j) x ∧
      col hn (stepV h d v i) (stepN h d v i) j (partner p s x) = Network.apply (stage p s fun _ => desc d j) (col hn v i j) (partner p s x) := by
    intro x hx
    have hpv := partner_val_of_clear hs x hx
    have hkpos : 0 < k := by rw [hk]; exact Nat.two_pow_pos s
    have hc : x.val / k % 2 = 0 := by
      have := (and_two_pow_eq_zero_iff_testBit x.val s).1 hx
      rw [Nat.testBit_eq_decide_div_mod_eq, ← hk] at this
      have h2 := of_decide_eq_false this
      omega
    have hdm := Nat.div_add_mod x.val k
    have hlt : x.val < n := by rw [← hn]; exact x.isLt
    obtain ⟨q, hq⟩ : ∃ q, x.val / k = q * 2 := ⟨x.val / k / 2, by omega⟩
    have hqr : q < r := by
      by_contra hcon
      have : r * 2 * k ≤ x.val / k * k := by rw [hq]; exact Nat.mul_le_mul_right k (by omega)
      have := Nat.div_mul_le_self x.val k
      omega
    let a : Fin r := ⟨q, hqr⟩
    let b : Fin k := ⟨x.val % k, Nat.mod_lt _ hkpos⟩
    have e0 : x.cast hn = row h a 0 b := Fin.ext (by
      show x.val = (q * 2 + 0) * k + x.val % k
      rw [Nat.add_zero, ← hq, Nat.mul_comm]; exact hdm.symm)
    have e1 : (partner p s x).cast hn = row h a 1 b := Fin.ext (by
      show (partner p s x).val = (q * 2 + 1) * k + x.val % k
      rw [hpv, ← hk, Nat.add_mul, ← hq, Nat.mul_comm (x.val / k)]; omega)
    have st := apply_stage hs (fun _ => desc d j) (col hn v i j) x hx
    refine ⟨?_, ?_⟩
    · rw [st.1]
      show rec _ _ (x.cast hn) j = if _ then max (rec _ _ (x.cast hn) j) (rec _ _ ((partner p s x).cast hn) j) else min (rec _ _ (x.cast hn) j) (rec _ _ ((partner p s x).cast hn) j)
      rw [e0, e1]; exact step_apply0 h d v i a b j
    · rw [st.2]
      show rec _ _ ((partner p s x).cast hn) j = if _ then min (rec _ _ (x.cast hn) j) (rec _ _ ((partner p s x).cast hn) j) else max (rec _ _ (x.cast hn) j) (rec _ _ ((partner p s x).cast hn) j)
      rw [e0, e1]; exact step_apply1 h d v i a b j
  funext x
  by_cases hx : x.val &&& 2 ^ s = 0
  · exact (key0 x hx).1
  · have := (key0 _ (partner_and_of_set hs x hx)).2
    rwa [partner_partner hs] at this

/-- The last `s` stages of a merge network. -/
def mergeTail (p s : ℕ) (b : Bool) : Network (2 ^ p) := (List.range s).reverse.flatMap fun t => stage p t fun _ => b

/-- A merge's stages from distance 2^s on are that stage and the rest. -/
theorem mergeTail_succ (p s : ℕ) (b : Bool) : mergeTail p (s + 1) b = stage p s (fun _ => b) ++ mergeTail p s b := by
  unfold mergeTail; rw [List.range_succ, List.reverse_append]; rfl

/-- One more stage before the last `s`. -/
theorem col_tail_succ {n r k W p s : ℕ} (hn : 2 ^ p = n) (hs : s < p) (hk : k = 2 ^ s) (h : n = r * 2 * k) (d : D W) (v : V Ideal n W) (i : N n W) (j : Fin W)
    (v' : V Ideal n W) (i' : N n W)
    (hv : col hn v' i' j = Network.apply (mergeTail p s (desc d j)) (col hn (stepV h d v i) (stepN h d v i) j)) :
    col hn v' i' j = Network.apply (mergeTail p (s + 1) (desc d j)) (col hn v i j) := by
  rw [hv, mergeTail_succ, Network.apply_append, col_step hn hs hk h]

section tails
variable {n W p : ℕ} (hn : 2 ^ p = n) (d : D W) (j : Fin W)

/-- The stages from distance 1 on, column by column, -/
theorem col_tail1 {q : ℕ} (hp : 1 ≤ p) (h : n = q * 2 * 1) (v : V Ideal n W) (i : N n W) :
    col hn (tail1V h d v i) (tail1N h d v i) j = Network.apply (mergeTail p 1 (desc d j)) (col hn v i j) :=
  col_tail_succ hn (s := 0) hp (by rfl) h d v i j _ _ rfl

/-- from distance 2 on, -/
theorem col_tail2 {q : ℕ} (hp : 2 ≤ p) (h : n = q * 2 * 2) (v : V Ideal n W) (i : N n W) :
    col hn (tail2V h d v i) (tail2N h d v i) j = Network.apply (mergeTail p 2 (desc d j)) (col hn v i j) :=
  col_tail_succ hn (s := 1) hp (by rfl) h d v i j _ _ (col_tail1 hn d j (by omega) _ _ _)

/-- from distance 4 on, -/
theorem col_tail4 {q : ℕ} (hp : 3 ≤ p) (h : n = q * 2 * 4) (v : V Ideal n W) (i : N n W) :
    col hn (tail4V h d v i) (tail4N h d v i) j = Network.apply (mergeTail p 3 (desc d j)) (col hn v i j) :=
  col_tail_succ hn (s := 2) hp (by rfl) h d v i j _ _ (col_tail2 hn d j (by omega) _ _ _)

/-- from distance 8 on, -/
theorem col_tail8 {q : ℕ} (hp : 4 ≤ p) (h : n = q * 2 * 8) (v : V Ideal n W) (i : N n W) :
    col hn (tail8V h d v i) (tail8N h d v i) j = Network.apply (mergeTail p 4 (desc d j)) (col hn v i j) :=
  col_tail_succ hn (s := 3) hp (by rfl) h d v i j _ _ (col_tail4 hn d j (by omega) _ _ _)

/-- from distance 16 on, -/
theorem col_tail16 {q : ℕ} (hp : 5 ≤ p) (h : n = q * 2 * 16) (v : V Ideal n W) (i : N n W) :
    col hn (tail16V h d v i) (tail16N h d v i) j = Network.apply (mergeTail p 5 (desc d j)) (col hn v i j) :=
  col_tail_succ hn (s := 4) hp (by rfl) h d v i j _ _ (col_tail8 hn d j (by omega) _ _ _)

/-- from distance 32 on, -/
theorem col_tail32 {q : ℕ} (hp : 6 ≤ p) (h : n = q * 2 * 32) (v : V Ideal n W) (i : N n W) :
    col hn (tail32V h d v i) (tail32N h d v i) j = Network.apply (mergeTail p 6 (desc d j)) (col hn v i j) :=
  col_tail_succ hn (s := 5) hp (by rfl) h d v i j _ _ (col_tail16 hn d j (by omega) _ _ _)

/-- from distance 64 on -/
theorem col_tail64 {q : ℕ} (hp : 7 ≤ p) (h : n = q * 2 * 64) (v : V Ideal n W) (i : N n W) :
    col hn (tail64V h d v i) (tail64N h d v i) j = Network.apply (mergeTail p 7 (desc d j)) (col hn v i j) :=
  col_tail_succ hn (s := 6) hp (by rfl) h d v i j _ _ (col_tail32 hn d j (by omega) _ _ _)

/-- and from distance 128 on. -/
theorem col_tail128 {q : ℕ} (hp : 8 ≤ p) (h : n = q * 2 * 128) (v : V Ideal n W) (i : N n W) :
    col hn (tail128V h d v i) (tail128N h d v i) j = Network.apply (mergeTail p 8 (desc d j)) (col hn v i j) :=
  col_tail_succ hn (s := 7) hp (by rfl) h d v i j _ _ (col_tail64 hn d j (by omega) _ _ _)
end tails

end Cert.Model
-- ==== Proof.Merge.lean ====
module

public import proofs.«01_k».proof.Proof.Net

/-
  The levels of the selection network: what a merge of two columns' 128 greatest records leaves, what keeping half of the
  rows leaves, and what stacking brings to the next level.
-/

@[expose] public section

noncomputable section

open Idealize.ShloMosaic Idealize.ShloMosaic.SortNet

namespace Cert.Model

/-- The records of a column, in the order of its rows. -/
def colL {n W : ℕ} (v : V Ideal n W) (i : N n W) (j : Fin W) : List E := List.ofFn fun a : Fin n => rec v i a j

/-- A column's list has one record for every row, -/
theorem colL_length {n W : ℕ} (v : V Ideal n W) (i : N n W) (j : Fin W) : (colL v i j).length = n := by unfold colL; simp

/-- entry by entry the row's record, -/
theorem colL_getElem {n W : ℕ} (v : V Ideal n W) (i : N n W) (j : Fin W) (a : ℕ) (h : a < (colL v i j).length) :
    (colL v i j)[a] = rec v i ⟨a, lt_of_lt_of_eq h (colL_length v i j)⟩ j :=
  List.getElem_ofFn (f := fun a : Fin n => rec v i a j) (by simpa [colL] using h)

/-- and is the column as a function, listed. -/
theorem ofFn_col {n W p : ℕ} (hn : 2 ^ p = n) (v : V Ideal n W) (i : N n W) (j : Fin W) : List.ofFn (col hn v i j) = colL v i j := by
  subst hn; rfl

/-- A descending list's first entries are its greatest. -/
theorem take_sorted {α : Type} [LinearOrder α] {k : ℕ} {l m : List α} (hp : l.Perm m) (hs : l.Pairwise (· ≥ ·)) : l.take k = topList k m := by
  rw [← topList_perm hp]
  unfold topList
  rw [(List.perm_insertionSort (· ≥ ·) l).eq_of_pairwise' (List.pairwise_insertionSort _ l) hs]

/-- Two descending runs, the second reversed, descend and then ascend. -/
theorem descAsc_of {α : Type} [LinearOrder α] {n : ℕ} (v : Fin n → α) (A B : List α) (hA : A.Pairwise (· ≥ ·)) (hB : B.Pairwise (· ≥ ·))
    (hv : List.ofFn v = A ++ B.reverse) : DescAsc v := by
  have hlen : n = A.length + B.length := by
    have := congrArg List.length hv; simpa using this
  have hval : ∀ i : Fin n, v i = (A ++ B.reverse)[i.val]'(by simp; omega) := fun i => by
    have : (List.ofFn v)[i.val]'(by simp) = v i := by simp
    rw [← this]; congr 1
  have hB' : B.reverse.Pairwise (· ≤ ·) := by rw [List.pairwise_reverse]; exact hB
  refine ⟨A.length, Or.inl ⟨fun i j hij hj => ?_, fun i j hij hi => ?_⟩⟩
  · rcases eq_or_lt_of_le hij with rfl | h
    · exact le_rfl
    · have h' : i.val < j.val := h
      rw [hval i, hval j, List.getElem_append_left hj, List.getElem_append_left (Nat.lt_trans h' hj)]
      exact (List.pairwise_iff_getElem.1 hA) _ _ _ _ h'
  · rcases eq_or_lt_of_le hij with rfl | h
    · exact le_rfl
    · have h' : i.val < j.val := h
      rw [hval i, hval j, List.getElem_append_right hi, List.getElem_append_right (by omega)]
      exact (List.pairwise_iff_getElem.1 hB') _ _ _ _ (by omega)

/-- A network's output has its input's entries. -/
theorem apply_perm {α : Type} [LinearOrder α] {n : ℕ} (M : Network n) (v : Fin n → α) : (List.ofFn (Network.apply M v)).Perm (List.ofFn v) := by
  obtain ⟨σ, hσ⟩ := Network.exists_perm M v
  rw [hσ]
  exact Equiv.Perm.ofFn_comp_perm σ v

/-- What a merge leaves: in either direction, the greatest `k` of the two parts. -/
theorem merged_desc {α : Type} [LinearOrder α] {p k : ℕ} (v : Fin (2 ^ p) → α) (S T : List α)
    (hv : List.ofFn v = topList k S ++ (topList k T).reverse) :
    (List.ofFn (Network.apply (mergeTail p p true) v)).take k = topList k (S ++ T) := by
  have ha : Antitone (Network.apply (mergeTail p p true) v) :=
    mergeDescNet_apply_antitone p v (descAsc_of v _ _ (pairwise_topList k S) (pairwise_topList k T) hv)
  rw [← topList_append_topList_topList k S T]
  refine take_sorted (((apply_perm _ v).trans (by rw [hv])).trans ((List.reverse_perm _).append_left _)) ?_
  rw [List.pairwise_ofFn]
  exact fun i j hij => ha (le_of_lt hij)

/-- An ascending merge of a descending half and an ascending half, read from its end, starts with the greatest of both. -/
theorem merged_asc {α : Type} [LinearOrder α] {p k : ℕ} (v : Fin (2 ^ p) → α) (S T : List α)
    (hv : List.ofFn v = topList k S ++ (topList k T).reverse) :
    (List.ofFn (Network.apply (mergeTail p p false) v)).reverse.take k = topList k (S ++ T) := by
  have ha : Monotone (Network.apply (mergeTail p p false) v) :=
    mergeAscNet_apply_monotone p v (descAsc_of v _ _ (pairwise_topList k S) (pairwise_topList k T) hv)
  rw [← topList_append_topList_topList k S T]
  refine take_sorted ((List.reverse_perm _).trans (((apply_perm _ v).trans (by rw [hv])).trans ((List.reverse_perm _).append_left _))) ?_
  rw [List.pairwise_reverse, List.pairwise_ofFn]
  exact fun i j hij => ha (le_of_lt hij)

/-- Every column and the one `W` to its right, as two runs of at most 128 records. -/
def Inv (n W : ℕ) (v : V Ideal n W) (i : N n W) (T : ℕ → List E) : Prop :=
  ∀ j : Fin W, colL v i j = topList 128 (T j.val) ++ (topList 128 (T (j.val + W))).reverse

/-- Every column sorted in its direction. -/
def Srt (n W : ℕ) (d : D W) (v : V Ideal n W) (i : N n W) (T : ℕ → List E) : Prop :=
  ∀ j : Fin W, colL v i j = if desc d j then topList 128 (T j.val) else (topList 128 (T j.val)).reverse

/-- The records of two columns together. -/
def both (W : ℕ) (T : ℕ → List E) : ℕ → List E := fun j => T j ++ T (j + W)

/-- A merge of at most 128 rows. -/
theorem srt_of_inv {n W p : ℕ} (hn : 2 ^ p = n) (hle : n ≤ 128) (d : D W) (v v' : V Ideal n W) (i i' : N n W) (T : ℕ → List E)
    (hI : Inv n W v i T) (hv : ∀ j, col hn v' i' j = Network.apply (mergeTail p p (desc d j)) (col hn v i j)) :
    Srt n W d v' i' (both W T) := by
  intro j
  have h1 := hI j
  rw [← ofFn_col hn] at h1 ⊢
  have hlen : (List.ofFn (col hn v' i' j)).length ≤ 128 := by rw [ofFn_col, colL_length]; exact hle
  rw [hv j] at hlen ⊢
  cases hd : desc d j
  · rw [hd] at hlen
    have := merged_asc _ _ _ h1
    rw [List.take_of_length_le (by rw [List.length_reverse]; exact hlen)] at this
    rw [if_neg (by decide)]
    show _ = (topList 128 (T j.val ++ T (j.val + W))).reverse
    rw [← this, List.reverse_reverse]
  · rw [hd] at hlen
    have := merged_desc _ _ _ h1
    rw [List.take_of_length_le hlen] at this
    rw [if_pos rfl]
    exact this

/-- What keeping half of the rows leaves of a column. -/
theorem colL_keep {n W : ℕ} (d : D W) (v : V Ideal (n * 2) W) (i : N (n * 2) W) (j : Fin W) :
    colL (keep d v) (keep d i) j = if desc d j then (colL v i j).take n else (colL v i j).drop n := by
  have hk : ∀ {α : Type} (x : (⟨2, ![n * 2, W]⟩ : Shape).Idx → α) (a : Fin n),
      keep d x (ix2 a j) = if desc d j then x (ix2 ⟨a.val, by omega⟩ j) else x (ix2 ⟨n + a.val, by omega⟩ j) := by
    intro α x a
    show (if broadcastTo ⟨2, ![n, W]⟩ (shapeCast ⟨2, ![1, W]⟩ (shapeCast ⟨2, ![1, W]⟩ d (keepFacts n W).c1) (keepFacts n W).c2) (keepFacts n W).bc (ix2 a j) = 1#1
      then extractStridedSlice ⟨2, ![n, W]⟩ ![0, 0] x (keepFacts n W).t (ix2 a j) else extractStridedSlice ⟨2, ![n, W]⟩ ![n, 0] x (keepFacts n W).b (ix2 a j)) = _
    rw [broadcastTo_apply _ _ (ix2 a j) (ix2 (0 : Fin 1) j), shapeCast_apply _ _ (ix2 (0 : Fin 1) j) (ix2 (0 : Fin 1) j) rfl,
      shapeCast_apply _ _ (ix2 (0 : Fin 1) j) (ix3 (0 : Fin 1) (0 : Fin 1) j),
      extractStridedSlice_apply _ _ _ (ix2 a j) (ix2 (⟨a.val, by omega⟩ : Fin (n * 2)) j),
      extractStridedSlice_apply _ _ _ (ix2 a j) (ix2 (⟨n + a.val, by omega⟩ : Fin (n * 2)) j)]
    · unfold desc
      by_cases h : d (ix3 (0 : Fin 1) (0 : Fin 1) j) = 1#1
      · rw [if_pos h, decide_eq_true h, if_pos rfl]
      · rw [if_neg h, decide_eq_false h, if_neg (by decide)]
    · intro b
      match b with
      | ⟨0, _⟩ => rfl
      | ⟨1, _⟩ => simp
    · intro b
      match b with
      | ⟨0, _⟩ => simp
      | ⟨1, _⟩ => simp
    · rw [Shape.rowMajor_val_two, Shape.rowMajor_val_three]; simp
    · intro b
      match b with
      | ⟨0, _⟩ => simp
      | ⟨1, _⟩ => exact one_or _
  cases hd : desc d j
  · rw [if_neg (by decide)]
    refine List.ext_getElem (by simp [colL]; omega) fun a h1 h2 => ?_
    rw [List.getElem_drop, colL_getElem, colL_getElem]
    unfold rec
    rw [hk, hk, hd]; rfl
  · rw [if_pos rfl]
    refine List.ext_getElem (by simp [colL]; omega) fun a h1 h2 => ?_
    rw [List.getElem_take, colL_getElem, colL_getElem]
    unfold rec
    rw [hk, hk, hd]; rfl

/-- A merge of 256 rows of which 128 are kept. -/
theorem srt_keep {W p : ℕ} (hn : 2 ^ p = 256) (d : D W) (v v' : V Ideal 256 W) (i i' : N 256 W) (T : ℕ → List E)
    (hI : Inv 256 W v i T) (hv : ∀ j, col hn v' i' j = Network.apply (mergeTail p p (desc d j)) (col hn v i j)) :
    Srt 128 W d (keep (n := 128) d v') (keep (n := 128) d i') (both W T) := by
  intro j
  have h1 := hI j
  rw [colL_keep (n := 128)]
  have e := ofFn_col hn v' i' j
  rw [hv j] at e
  rw [← ofFn_col hn] at h1
  have hlen := colL_length v' i' j
  cases hd : desc d j
  · rw [if_neg (by decide), if_neg (by decide)]
    have := merged_asc _ _ _ h1
    rw [← hd, e, List.take_reverse, hlen] at this
    show _ = (topList 128 (T j.val ++ T (j.val + W))).reverse
    rw [← this, List.reverse_reverse]
  · rw [if_pos rfl, if_pos rfl]
    have := merged_desc _ _ _ h1
    rw [← hd, e] at this
    exact this

/-- What stacking leaves of a column. -/
theorem colL_stack {n w : ℕ} (v : V Ideal n (w * 2)) (i : N n (w * 2)) (j : Fin w) :
    colL (stack v) (stack i) j = colL v i ⟨j.val, by omega⟩ ++ colL v i ⟨j.val + w, by omega⟩ := by
  have hs : ∀ {α : Type} (x : (⟨2, ![n, w * 2]⟩ : Shape).Idx → α) (a : Fin (n * 2)),
      stack x (ix2 a j) = if h : a.val < n then x (ix2 ⟨a.val, h⟩ ⟨j.val, by omega⟩) else x (ix2 ⟨a.val - n, by omega⟩ ⟨j.val + w, by omega⟩) := by
    intro α x a
    unfold stack
    by_cases h : a.val < n
    · rw [dif_pos h, concatenate_pair_apply_left (s₁ := ⟨2, ![n, w]⟩) (s₂ := ⟨2, ![n, w]⟩) _ _ _ _ (ix2 a j) rfl (ix2 ⟨a.val, h⟩ j),
        extractStridedSlice_apply _ _ _ (ix2 (⟨a.val, h⟩ : Fin n) j) (ix2 (⟨a.val, h⟩ : Fin n) (⟨j.val, by omega⟩ : Fin (w * 2)))]
      · intro b
        match b with
        | ⟨0, _⟩ => simp
        | ⟨1, _⟩ => simp
      · intro b
        match b with
        | ⟨0, _⟩ => rfl
        | ⟨1, _⟩ => rfl
    · have hlt : a.val - n < n := by omega
      rw [dif_neg h, concatenate_pair_apply_right (s₁ := ⟨2, ![n, w]⟩) (s₂ := ⟨2, ![n, w]⟩) _ _ _ _ (ix2 a j) rfl rfl (ix2 ⟨a.val - n, hlt⟩ j),
        extractStridedSlice_apply _ _ _ (ix2 (⟨a.val - n, hlt⟩ : Fin n) j) (ix2 (⟨a.val - n, hlt⟩ : Fin n) (⟨j.val + w, by omega⟩ : Fin (w * 2)))]
      · intro b
        match b with
        | ⟨0, _⟩ => simp
        | ⟨1, _⟩ => simp; omega
      · intro b hb
        match b with
        | ⟨0, _⟩ => exact absurd rfl hb
        | ⟨1, _⟩ => rfl
      · show (a.val - n) + n = a.val; omega
  refine List.ext_getElem (by simp [colL]; omega) fun a h1 h2 => ?_
  by_cases h : a < n
  · rw [List.getElem_append_left (by rw [colL_length]; exact h)]
    rw [colL_getElem, colL_getElem]
    unfold rec
    rw [hs, hs, dif_pos h, dif_pos h]
  · rw [List.getElem_append_right (by rw [colL_length]; omega)]
    rw [colL_getElem, colL_getElem]
    unfold rec
    rw [hs, hs, dif_neg h, dif_neg h]
    simp [colL_length]

/-- Sorted columns, the left half descending and the right half ascending, stacked. -/
theorem inv_stack {n w : ℕ} (d : D (w * 2)) (v : V Ideal n (w * 2)) (i : N n (w * 2)) (T : ℕ → List E)
    (hS : Srt n (w * 2) d v i T) (hd : ∀ j : Fin (w * 2), desc d j = decide (j.val < w)) : Inv (n * 2) w (stack v) (stack i) T := by
  intro j
  rw [colL_stack, hS, hS, hd, hd, if_pos (by simp), if_neg (by simp)]

end Cert.Model
-- ==== Proof.Levels.lean ====
module

public import proofs.«01_k».proof.Proof.Model

/-
  The values the body computes, as functions of the small blocks of `Model`: the directions of every width, the merge
  network of every width, and the end of each width.
-/

@[expose] public section

set_option maxRecDepth 65536

noncomputable section

open Idealize.ShloMosaic

namespace Cert.Model

open Cert.KernelIdeal Cert.KernelIdeal.Hand

variable {F : FTy → Type} [FloatOps F]

/-- The directions of `W` columns as the body computes them: the column's number divided by four, rounded down, against
    a bound. -/
def dirs (W : ℕ) (hi : (⟨3, ![1, 1, W]⟩ : Shape).Iotas .tc 32 [2]) (lim : BitVec 32) : D W :=
  cmpi .slt
    (select
      (andi
        (cmpi .ne
          (subi (extui 32 (cmpi .sgt (iota .tc ⟨3, ![1, 1, W]⟩ 32 [2] hi) (broadcast ⟨3, ![1, 1, W]⟩ 0#32)) (by decide))
            (extui 32 (cmpi .slt (iota .tc ⟨3, ![1, 1, W]⟩ 32 [2] hi) (broadcast ⟨3, ![1, 1, W]⟩ 0#32)) (by decide)))
          (broadcast ⟨3, ![1, 1, W]⟩ 1#32))
        (cmpi .ne (remsi (iota .tc ⟨3, ![1, 1, W]⟩ 32 [2] hi) (broadcast ⟨3, ![1, 1, W]⟩ 4#32)) (broadcast ⟨3, ![1, 1, W]⟩ 0#32)))
      (subi (divsi (iota .tc ⟨3, ![1, 1, W]⟩ 32 [2] hi) (broadcast ⟨3, ![1, 1, W]⟩ 4#32)) (broadcast ⟨3, ![1, 1, W]⟩ 1#32))
      (divsi (iota .tc ⟨3, ![1, 1, W]⟩ 32 [2] hi) (broadcast ⟨3, ![1, 1, W]⟩ 4#32)))
    (broadcast ⟨3, ![1, 1, W]⟩ lim)

/-- The directions at width 1024, -/
theorem dir1024 : kernelRun.sl.r_21 = dirs 1024 (by decide) 128#32 := by exact rfl
/-- at width 512, -/
theorem dir512 : kernelRun.sl.r_29 = dirs 512 (by decide) 64#32 := by exact rfl
/-- at width 256, -/
theorem dir256 : Gen.k0_pay149 = dirs 256 (by decide) 32#32 := by exact rfl
/-- at width 128, -/
theorem dir128 : kernelRun.sl.r_61 = dirs 128 (by decide) 16#32 := by exact rfl
/-- at width 64, -/
theorem dir64 : cmpi .slt kernelRun.sl.v1021 kernelRun.sl.v1022 = dirs 64 (by decide) 8#32 := by exact rfl
/-- at width 32, -/
theorem dir32 : kernelRun.sl.r_94 = dirs 32 (by decide) 4#32 := by exact rfl
/-- at width 16, -/
theorem dir16 : kernelRun.sl.r_115 = dirs 16 (by decide) 2#32 := by exact rfl
/-- at width 8 -/
theorem dir8 : kernelRun.sl.r_136 = dirs 8 (by decide) 1#32 := by exact rfl
/-- and at width 4. -/
theorem dir4 : kernelRun.sl.r_151 = dirs 4 (by decide) 1#32 := by exact rfl

section
variable (c : Dev nD) (arg0 : Memref sig Kind.tc Space.vmem S192x2048 EltTy.f32) (f0 : BufTy.Contents (Elt F) arg0.view.ty)

/-! ### 1024 columns of 16 rows -/
theorem lev16V : kernelRun.sl.r_27 c arg0 f0
    = stack (n := 16) (w := 512) (tail8V (q := 1) (by rfl) kernelRun.sl.r_21 (kernelRun.sl.r_19 c arg0 f0) (kernelRun.sl.r_20 c arg0 f0)) := by exact rfl
/-- The positions after the merge of 16 rows, stacked. -/
theorem lev16N : kernelRun.sl.r_28 c arg0 f0
    = stack (n := 16) (w := 512) (tail8N (q := 1) (by rfl) kernelRun.sl.r_21 (kernelRun.sl.r_19 c arg0 f0) (kernelRun.sl.r_20 c arg0 f0)) := by exact rfl

/-! ### 512 columns of 32 rows -/
theorem lev32V : kernelRun.sl.r_40 c arg0 f0
    = stack (n := 32) (w := 256) (tail16V (q := 1) (by rfl) kernelRun.sl.r_29 (kernelRun.sl.r_27 c arg0 f0) (kernelRun.sl.r_28 c arg0 f0)) := by exact rfl
/-- The positions after the merge of 32 rows. -/
theorem lev32N : kernelRun.sl.r_39 c arg0 f0
    = tail16N (n := 32) (W := 512) (q := 1) (by rfl) kernelRun.sl.r_29 (kernelRun.sl.r_27 c arg0 f0) (kernelRun.sl.r_28 c arg0 f0) := by exact rfl

/-! ### 256 columns of 64 rows -/
theorem lev64V : kernelRun.sl.r_59 c arg0 f0
    = stack (n := 64) (w := 128) (tail32V (q := 1) (by rfl) Gen.k0_pay149 (kernelRun.sl.r_40 c arg0 f0) (stack (n := 32) (w := 256) (kernelRun.sl.r_39 c arg0 f0))) := by exact rfl
/-- The positions after the merge of 64 rows, stacked. -/
theorem lev64N : kernelRun.sl.r_60 c arg0 f0
    = stack (n := 64) (w := 128) (tail32N (q := 1) (by rfl) Gen.k0_pay149 (kernelRun.sl.r_40 c arg0 f0) (stack (n := 32) (w := 256) (kernelRun.sl.r_39 c arg0 f0))) := by exact rfl

/-! ### 128 columns of 128 rows -/
theorem lev128V : kernelRun.sl.v993 c arg0 f0
    = stack (n := 128) (w := 64) (tail64V (q := 1) (by rfl) kernelRun.sl.r_61 (kernelRun.sl.r_59 c arg0 f0) (kernelRun.sl.r_60 c arg0 f0)) := by exact rfl
/-- The positions after the merge of 128 rows, stacked. -/
theorem lev128N : kernelRun.sl.v996 c arg0 f0
    = stack (n := 128) (w := 64) (tail64N (q := 1) (by rfl) kernelRun.sl.r_61 (kernelRun.sl.r_59 c arg0 f0) (kernelRun.sl.r_60 c arg0 f0)) := by exact rfl

/-! ### 64, 32, 16, 8 and 4 columns of 256 rows, of which 128 are kept -/
theorem levAV : kernelRun.sl.v1285 c arg0 f0
    = stack (n := 128) (w := 32) (keep (n := 128) (cmpi .slt kernelRun.sl.v1021 kernelRun.sl.v1022)
        (tail128V (n := 256) (q := 1) (by rfl) (cmpi .slt kernelRun.sl.v1021 kernelRun.sl.v1022) (kernelRun.sl.v993 c arg0 f0) (kernelRun.sl.v996 c arg0 f0))) := by exact rfl
/-- The positions kept at width 64, stacked. -/
theorem levAN : kernelRun.sl.v1288 c arg0 f0
    = stack (n := 128) (w := 32) (keep (n := 128) (cmpi .slt kernelRun.sl.v1021 kernelRun.sl.v1022)
        (tail128N (n := 256) (q := 1) (by rfl) (cmpi .slt kernelRun.sl.v1021 kernelRun.sl.v1022) (kernelRun.sl.v993 c arg0 f0) (kernelRun.sl.v996 c arg0 f0))) := by exact rfl
/-- The scores kept at width 32, stacked, -/
theorem levBV : kernelRun.sl.v1577 c arg0 f0
    = stack (n := 128) (w := 16) (keep (n := 128) kernelRun.sl.r_94
        (tail128V (n := 256) (q := 1) (by rfl) kernelRun.sl.r_94 (kernelRun.sl.v1285 c arg0 f0) (kernelRun.sl.v1288 c arg0 f0))) := by exact rfl
/-- and the positions. -/
theorem levBN : kernelRun.sl.v1580 c arg0 f0
    = stack (n := 128) (w := 16) (keep (n := 128) kernelRun.sl.r_94
        (tail128N (n := 256) (q := 1) (by rfl) kernelRun.sl.r_94 (kernelRun.sl.v1285 c arg0 f0) (kernelRun.sl.v1288 c arg0 f0))) := by exact rfl
/-- The scores kept at width 16, stacked, -/
theorem levCV : kernelRun.sl.r_134 c arg0 f0
    = stack (n := 128) (w := 8) (keep (n := 128) kernelRun.sl.r_115
        (tail128V (n := 256) (q := 1) (by rfl) kernelRun.sl.r_115 (kernelRun.sl.v1577 c arg0 f0) (kernelRun.sl.v1580 c arg0 f0))) := by exact rfl
/-- and the positions. -/
theorem levCN : kernelRun.sl.r_135 c arg0 f0
    = stack (n := 128) (w := 8) (keep (n := 128) kernelRun.sl.r_115
        (tail128N (n := 256) (q := 1) (by rfl) kernelRun.sl.r_115 (kernelRun.sl.v1577 c arg0 f0) (kernelRun.sl.v1580 c arg0 f0))) := by exact rfl
/-- The scores kept at width 8, stacked, -/
theorem levDV : kernelRun.sl.r_149 c arg0 f0
    = stack (n := 128) (w := 4) (keep (n := 128) kernelRun.sl.r_136
        (tail128V (n := 256) (q := 1) (by rfl) kernelRun.sl.r_136 (kernelRun.sl.r_134 c arg0 f0) (kernelRun.sl.r_135 c arg0 f0))) := by exact rfl
/-- and the positions. -/
theorem levDN : kernelRun.sl.r_150 c arg0 f0
    = stack (n := 128) (w := 4) (keep (n := 128) kernelRun.sl.r_136
        (tail128N (n := 256) (q := 1) (by rfl) kernelRun.sl.r_136 (kernelRun.sl.r_134 c arg0 f0) (kernelRun.sl.r_135 c arg0 f0))) := by exact rfl
/-- The scores kept at width 4, -/
theorem levEV : kernelRun.sl.r_166 c arg0 f0
    = keep (n := 128) kernelRun.sl.r_151
        (tail128V (n := 256) (q := 1) (by rfl) kernelRun.sl.r_151 (kernelRun.sl.r_149 c arg0 f0) (kernelRun.sl.r_150 c arg0 f0)) := by exact rfl
/-- and the positions. -/
theorem levEN : kernelRun.sl.r_167 c arg0 f0
    = keep (n := 128) kernelRun.sl.r_151
        (tail128N (n := 256) (q := 1) (by rfl) kernelRun.sl.r_151 (kernelRun.sl.r_149 c arg0 f0) (kernelRun.sl.r_150 c arg0 f0)) := by exact rfl
end

end Cert.Model
-- ==== Proof.Columns.lean ====
module

public import proofs.«01_k».proof.Proof.Levels

/-
  The columns' selection: eight rounds, each of which takes the greatest score of every column, the least position that
  holds it, and replaces that entry by −∞.
-/

@[expose] public section

set_option maxRecDepth 65536

noncomputable section

open Idealize.ShloMosaic

namespace Cert.Model

open Cert.KernelIdeal Cert.KernelIdeal.Hand Facts₀ Facts

variable {F : FTy → Type} [FloatOps F]

/-- The greatest score of every column. -/
def colMax (s : FVec F S192x2048 .f32) : FVec F S1x2048 .f32 :=
  shapeCast S1x2048 (multiReduction .maximumf [0] S2048 s 0xFF800000#32 reduces_S192x2048_S2048 (.inl rfl) rfl) shapeCasts_S2048_S1x2048

/-- Where a column holds its greatest score. -/
def colHit (s : FVec F S192x2048 .f32) : IVec S192x2048 1 :=
  cmpf .oeq s (broadcastTo S192x2048 (colMax s) broadcasts_S1x2048_S192x2048)

/-- The least position of a column's greatest score. -/
def colPos (p : IVec S192x2048 32) (s : FVec F S192x2048 .f32) : IVec S1x2048 32 :=
  shapeCast S1x2048
    (multiReductionI .minsi [0] S2048 (select (colHit s) p (broadcast S192x2048 1073741824#32)) 2147483647#32 reduces_S192x2048_S2048 rfl)
    shapeCasts_S2048_S1x2048

/-- The scores with every column's entry at that position replaced by −∞. -/
def colNext (p : IVec S192x2048 32) (s : FVec F S192x2048 .f32) : FVec F S192x2048 .f32 :=
  select (andi (colHit s) (cmpi .eq p (broadcastTo S192x2048 (colPos p s) broadcasts_S1x2048_S192x2048)))
    (broadcast S192x2048 (Scalar.ofBits .f32 0xFF800000#32)) s

/-- The scores after a number of rounds. -/
def colS (p : IVec S192x2048 32) (s : FVec F S192x2048 .f32) : ℕ → FVec F S192x2048 .f32
  | 0 => s
  | t + 1 => colNext p (colS p s t)

/-- Eight rows put one under the other. -/
def eight {α : Type} (x : ℕ → S1x2048.Idx → α) : S8x2048.Idx → α :=
  concatenate S8x2048 0 [⟨S1x2048, x 0⟩, ⟨S1x2048, x 1⟩, ⟨S1x2048, x 2⟩, ⟨S1x2048, x 3⟩, ⟨S1x2048, x 4⟩, ⟨S1x2048, x 5⟩, ⟨S1x2048, x 6⟩, ⟨S1x2048, x 7⟩]
    concatenates_S1x2048_S1x2048_S1x2048_S1x2048_S1x2048_S1x2048_S1x2048_S1x2048_S8x2048_d0

/-- The left half of the columns over the right half's with their rows in reverse. -/
def fold0 {α : Type} (x : S8x2048.Idx → α) : S16x1024.Idx → α :=
  concatenate S16x1024 0
    [⟨S8x1024, extractStridedSlice S8x1024 ![0, 0] x slices_S8x2048_o0_0_S8x1024⟩,
     ⟨S1x1024, extractStridedSlice S1x1024 ![7, 1024] x slices_S8x2048_o7_1024_S1x1024⟩,
     ⟨S1x1024, extractStridedSlice S1x1024 ![6, 1024] x slices_S8x2048_o6_1024_S1x1024⟩,
     ⟨S1x1024, extractStridedSlice S1x1024 ![5, 1024] x slices_S8x2048_o5_1024_S1x1024⟩,
     ⟨S1x1024, extractStridedSlice S1x1024 ![4, 1024] x slices_S8x2048_o4_1024_S1x1024⟩,
     ⟨S1x1024, extractStridedSlice S1x1024 ![3, 1024] x slices_S8x2048_o3_1024_S1x1024⟩,
     ⟨S1x1024, extractStridedSlice S1x1024 ![2, 1024] x slices_S8x2048_o2_1024_S1x1024⟩,
     ⟨S1x1024, extractStridedSlice S1x1024 ![1, 1024] x slices_S8x2048_o1_1024_S1x1024⟩,
     ⟨S1x1024, extractStridedSlice S1x1024 ![0, 1024] x slices_S8x2048_o0_1024_S1x1024⟩]
    concatenates_S8x1024_S1x1024_S1x1024_S1x1024_S1x1024_S1x1024_S1x1024_S1x1024_S1x1024_S16x1024_d0

/-- The launch's block of scores as the body loads it. -/
def scoresIn (arg0 : Memref sig Kind.tc Space.vmem S192x2048 EltTy.f32) (f0 : BufTy.Contents (Elt F) arg0.view.ty) :
    FVec F S192x2048 .f32 :=
  shapeCast S192x2048 (View.readAt (Elt F) arg0.view (Rect.unit ![0, 0] S192x2048.size inb_S192x2048_S192x2048_0_0).toLoadRect f0)
    shapeCasts_S192x2048_S192x2048

section
variable (c : Dev nD) (arg0 : Memref sig Kind.tc Space.vmem S192x2048 EltTy.f32) (f0 : BufTy.Contents (Elt F) arg0.view.ty)

/-- The body's eight rows of scores. -/
theorem columnsV : kernelRun.sl.r_17 c arg0 f0 = eight fun t => colMax (colS kernelRun.sl.r (scoresIn arg0 f0) t) := by exact rfl
/-- The body's eight rows of positions. -/
theorem columnsN : kernelRun.sl.r_18 c arg0 f0 = eight fun t => colPos kernelRun.sl.r (colS kernelRun.sl.r (scoresIn arg0 f0) t) := by exact rfl
/-- The network starts from the stacked scores -/
theorem startV : kernelRun.sl.r_19 c arg0 f0 = fold0 (kernelRun.sl.r_17 c arg0 f0) := by exact rfl
/-- and the stacked positions. -/
theorem startN : kernelRun.sl.r_20 c arg0 f0 = fold0 (kernelRun.sl.r_18 c arg0 f0) := by exact rfl
end

end Cert.Model
-- ==== Proof.Words.lean ====
module

public import proofs.«01_k».proof.Proof.Merge
public import proofs.«01_k».proof.Proof.Columns
public import Idealize.ShloMosaic.Lib.WordArith

/-
  The integer arithmetic of the kernel: division and remainder rounded down, on words that are not negative; the directions
  of the columns; the position matrix.
-/

@[expose] public section

set_option maxRecDepth 65536

noncomputable section

open Idealize.ShloMosaic Idealize.ShloMosaic.SortNet Idealize.ShloMosaic.WordArith

namespace Cert.Model

/-- A word's sign. -/
def sgn (x : BitVec 32) : BitVec 32 :=
  IntOp.subi ((IntOp.cmpi .sgt x 0#32).setWidth 32) ((IntOp.cmpi .slt x 0#32).setWidth 32)

/-- The quotient by a positive divisor rounded down, as the kernel computes it. -/
def fdiv (x y : BitVec 32) : BitVec 32 :=
  if IntOp.andi (IntOp.cmpi .ne (sgn x) 1#32) (IntOp.cmpi .ne (IntOp.remsi .vector x y) 0#32) = 1#1
  then IntOp.subi (IntOp.divsi .vector x y) 1#32 else IntOp.divsi .vector x y

/-- The remainder by a positive divisor with the divisor's sign, as the kernel computes it. -/
def fmod (x y : BitVec 32) : BitVec 32 :=
  if IntOp.andi (IntOp.xori (IntOp.cmpi .slt (IntOp.remsi .vector x y) 0#32) 0#1) (IntOp.cmpi .ne (IntOp.remsi .vector x y) 0#32) = 1#1
  then IntOp.addi (IntOp.remsi .vector x y) y else IntOp.remsi .vector x y

/-- A small number's word is not negative. -/
theorem msb_small {a : ℕ} (ha : a < 2 ^ 31) : (BitVec.ofNat 32 a).msb = false := by
  rw [BitVec.msb_eq_decide]; simp; omega

section small
variable {a b : ℕ} (ha : a < 2 ^ 31) (hb : b < 2 ^ 31) (h0 : 0 < b)
include ha hb h0

/-- Small numbers are not the division's overflow case. -/
theorem not_corner : ¬ IntOp.SDivCorner (BitVec.ofNat 32 a) (BitVec.ofNat 32 b) := by
  have hb' : (BitVec.ofNat 32 b).toNat = b := toNat_ofNat_of_lt b (by omega)
  rintro (h | ⟨_, h⟩)
  · have := congrArg BitVec.toNat h; rw [hb'] at this; simp at this; omega
  · have := congrArg BitVec.toNat h; rw [hb'] at this; simp at this; omega

/-- The machine's signed quotient of two small words. -/
theorem divsi_small : IntOp.divsi .vector (BitVec.ofNat 32 a) (BitVec.ofNat 32 b) = BitVec.ofNat 32 (a / b) := by
  unfold IntOp.divsi
  rw [if_neg (not_corner ha hb h0), BitVec.sdiv_eq, msb_small ha, msb_small hb]
  apply BitVec.eq_of_toNat_eq
  show (BitVec.ofNat 32 a / BitVec.ofNat 32 b).toNat = _
  have := Nat.div_le_self a b
  rw [BitVec.toNat_udiv, toNat_ofNat_of_lt a (by omega), toNat_ofNat_of_lt b (by omega), toNat_ofNat_of_lt (a / b) (by omega)]

/-- The machine's signed remainder of two small words. -/
theorem remsi_small : IntOp.remsi .vector (BitVec.ofNat 32 a) (BitVec.ofNat 32 b) = BitVec.ofNat 32 (a % b) := by
  unfold IntOp.remsi
  rw [if_neg (not_corner ha hb h0), BitVec.srem_eq, msb_small ha, msb_small hb]
  apply BitVec.eq_of_toNat_eq
  show (BitVec.ofNat 32 a % BitVec.ofNat 32 b).toNat = _
  have := Nat.mod_le a b
  rw [BitVec.toNat_umod, toNat_ofNat_of_lt a (by omega), toNat_ofNat_of_lt b (by omega), toNat_ofNat_of_lt (a % b) (by omega)]

/-- The quotient of small words. -/
theorem fdiv_small : fdiv (BitVec.ofNat 32 a) (BitVec.ofNat 32 b) = BitVec.ofNat 32 (a / b) := by
  unfold fdiv
  rw [divsi_small ha hb h0, remsi_small ha hb h0, if_neg]
  intro h
  rcases Nat.eq_zero_or_pos a with rfl | hpos
  · simp [IntOp.andi, IntOp.cmpi] at h
  · have e1 : IntOp.cmpi .sgt (BitVec.ofNat 32 a) 0#32 = 1#1 := by
      show BitVec.ofBool (BitVec.slt 0#32 (BitVec.ofNat 32 a)) = 1#1
      rw [ofBool_eq_one_iff, BitVec.slt_eq_decide, toInt_ofNat_small a ha]; simp; omega
    have e2 : IntOp.cmpi .slt (BitVec.ofNat 32 a) 0#32 = 0#1 := by
      show BitVec.ofBool (BitVec.slt (BitVec.ofNat 32 a) 0#32) = 0#1
      rw [BitVec.slt_eq_decide, toInt_ofNat_small a ha, decide_eq_false (by simp)]; rfl
    unfold sgn at h
    rw [e1, e2] at h
    have e3 : IntOp.cmpi .ne (IntOp.subi ((1#1).setWidth 32) ((0#1).setWidth 32)) 1#32 = 0#1 := by decide
    rw [e3] at h
    simp [IntOp.andi] at h

/-- The remainder of small words. -/
theorem fmod_small : fmod (BitVec.ofNat 32 a) (BitVec.ofNat 32 b) = BitVec.ofNat 32 (a % b) := by
  unfold fmod
  have hlt : a % b < 2 ^ 31 := lt_of_le_of_lt (Nat.mod_le a b) ha
  rw [remsi_small ha hb h0, if_neg]
  have e2 : IntOp.cmpi .slt (BitVec.ofNat 32 (a % b)) 0#32 = 0#1 := by
    show BitVec.ofBool (BitVec.slt (BitVec.ofNat 32 (a % b)) 0#32) = 0#1
    rw [BitVec.slt_eq_decide, toInt_ofNat_small _ hlt, decide_eq_false (by show ¬ ((a % b : ℕ) : ℤ) < 0; omega)]; rfl
  rw [e2]
  have e3 : IntOp.xori 0#1 0#1 = 0#1 := by decide
  rw [e3]
  intro h
  simp [IntOp.andi] at h
end small

/-- The sum of words is the word of the sum, -/
theorem addi_small (a b : ℕ) : IntOp.addi (BitVec.ofNat 32 a) (BitVec.ofNat 32 b) = BitVec.ofNat 32 (a + b) :=
  (BitVec.ofNat_add a b).symm

/-- the product's the word of the product, -/
theorem muli_small (a b : ℕ) : IntOp.muli (BitVec.ofNat 32 a) (BitVec.ofNat 32 b) = BitVec.ofNat 32 (a * b) :=
  (BitVec.ofNat_mul a b).symm

/-- and the difference's the word of the difference. -/
theorem subi_small {a b : ℕ} (h : b ≤ a) (ha : a < 2 ^ 32) : IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub, toNat_ofNat_of_lt a ha, toNat_ofNat_of_lt b (by omega), toNat_ofNat_of_lt (a - b) (by omega)]
  omega

/-- A column's direction: its left part descends. -/
theorem desc_dirs {W : ℕ} (hi : (⟨3, ![1, 1, W]⟩ : Shape).Iotas .tc 32 [2]) (hW : W < 2 ^ 31) (l : ℕ) (hl : l < 2 ^ 31) (j : Fin W) :
    desc (dirs W hi (BitVec.ofNat 32 l)) j = decide (j.val < 4 * l) := by
  have e : dirs W hi (BitVec.ofNat 32 l) (ix3 (0 : Fin 1) (0 : Fin 1) j)
      = IntOp.cmpi .slt (fdiv (BitVec.ofNat 32 j.val) (BitVec.ofNat 32 4)) (BitVec.ofNat 32 l) := by
    have hio : iota .tc ⟨3, ![1, 1, W]⟩ 32 [2] hi (ix3 (0 : Fin 1) (0 : Fin 1) j) = BitVec.ofNat 32 j.val := by
      show BitVec.ofNat 32 _ = _
      congr 1
      simp
    rw [← hio]; rfl
  unfold desc
  rw [e, fdiv_small (by have := j.isLt; omega) (by omega) (by omega)]
  show decide (BitVec.ofBool (BitVec.slt (BitVec.ofNat 32 (j.val / 4)) (BitVec.ofNat 32 l)) = 1#1) = _
  refine decide_eq_decide.2 ?_
  rw [ofBool_eq_one_iff, BitVec.slt_eq_decide, toInt_ofNat_small _ hl, toInt_ofNat_small _ (by have := j.isLt; omega), decide_eq_true_iff]
  omega

/-- The number, in the order the reference lists the candidates of an image, of the candidate at a row and a column. -/
def pos (a : Fin 192) (j : Fin 2048) : ℕ := (a.val * 512 + j.val / 4) % 8192 * 12 + (a.val * 512 + j.val / 4) / 8192

/-- Every position is below 98304. -/
theorem pos_lt (a : Fin 192) (j : Fin 2048) : pos a j < 98304 := by
  unfold pos; have := a.isLt; have := j.isLt; omega

open Cert.KernelIdeal.Hand in
/-- The position matrix. -/
theorem position (a : Fin 192) (j : Fin 2048) : kernelRun.sl.r (ix2 a j) = BitVec.ofNat 32 (pos a j) := by
  have e0 : kernelRun.sl.v0 (ix2 a j) = BitVec.ofNat 32 a.val := by
    show BitVec.ofNat 32 _ = _
    congr 1
    simp
  have e1 : kernelRun.sl.v1 (ix2 a j) = BitVec.ofNat 32 j.val := by
    show BitVec.ofNat 32 _ = _
    congr 1
    simp
  have e : ∀ m, m = IntOp.addi (IntOp.muli (kernelRun.sl.v0 (ix2 a j)) (BitVec.ofNat 32 512)) (fdiv (kernelRun.sl.v1 (ix2 a j)) (BitVec.ofNat 32 4)) →
      kernelRun.sl.r (ix2 a j) = IntOp.addi (IntOp.muli (IntOp.subi m (IntOp.muli (fdiv m (BitVec.ofNat 32 8192)) (BitVec.ofNat 32 8192))) (BitVec.ofNat 32 12))
        (fdiv m (BitVec.ofNat 32 8192)) := by
    intro m hm; rw [hm]; exact rfl
  have ha := a.isLt
  have hj := j.isLt
  have hm : IntOp.addi (IntOp.muli (kernelRun.sl.v0 (ix2 a j)) (BitVec.ofNat 32 512)) (fdiv (kernelRun.sl.v1 (ix2 a j)) (BitVec.ofNat 32 4))
      = BitVec.ofNat 32 (a.val * 512 + j.val / 4) := by
    rw [e0, e1, fdiv_small (by omega) (by omega) (by omega), muli_small, addi_small]
  rw [e _ hm.symm, fdiv_small (by omega) (by omega) (by omega), muli_small, subi_small (by omega) (by omega), muli_small, addi_small]
  congr 1
  unfold pos
  omega

end Cert.Model
-- ==== Proof.Rounds.lean ====
module

public import proofs.«01_k».proof.Proof.Words
public import Idealize.ShloMosaic.PureOps.Ideal.Laws
public import Idealize.ShloMosaic.Lib.SortNet.Extract

/-
  Rounds of extraction: each takes the greatest score of a set of entries, the least position that holds it, and replaces
  that entry by −∞.  The records taken in n rounds are the n greatest.
-/

@[expose] public section

set_option maxRecDepth 65536

noncomputable section

open Idealize.ShloMosaic Idealize.ShloMosaic.SortNet Idealize.ShloMosaic.WordArith

namespace Cert.Model

/-- Equal records have equal scores and positions. -/
theorem key_inj {v v' : EReal} {n n' : BitVec 32} (h : key v n = key v' n') : v = v' ∧ n = n' := by
  have h' := toLex.injective h
  exact ⟨(Prod.ext_iff.1 h').1, BitVec.eq_of_toInt_eq (OrderDual.toDual.injective (Prod.ext_iff.1 h').2)⟩

/-- The order of records: by score, and among equal scores the later position first. -/
theorem key_le (v v' : EReal) (n n' : BitVec 32) : key v n ≤ key v' n' ↔ v < v' ∨ (v = v' ∧ n'.toInt ≤ n.toInt) := by
  unfold key
  rw [Prod.Lex.toLex_le_toLex]
  exact Iff.rfl

section
variable {ι : Type} [DecidableEq ι]

/-- The records of a set of entries. -/
def recs (A : Finset ι) (s : ι → EReal) (q : ι → BitVec 32) : List E := A.toList.map fun i => key (s i) (q i)

/-- A record is listed exactly when an entry of the set has it. -/
theorem mem_recs {A : Finset ι} {s : ι → EReal} {q : ι → BitVec 32} {x : E} : x ∈ recs A s q ↔ ∃ i ∈ A, key (s i) (q i) = x := by
  unfold recs; rw [List.mem_map]; simp only [Finset.mem_toList]

/-- Entries with different positions have different records. -/
theorem nodup_recs {A : Finset ι} {s : ι → EReal} {q : ι → BitVec 32} (hq : ∀ i ∈ A, ∀ j ∈ A, q i = q j → i = j) : (recs A s q).Nodup := by
  unfold recs
  refine List.Nodup.map_on ?_ A.nodup_toList
  intro i hi j hj h
  exact hq i (Finset.mem_toList.1 hi) j (Finset.mem_toList.1 hj) (key_inj h).2

/-- There are as many records as entries. -/
theorem length_recs (A : Finset ι) (s : ι → EReal) (q : ι → BitVec 32) : (recs A s q).length = A.card := by
  unfold recs; rw [List.length_map, Finset.length_toList]

/-- A greatest score of a set of entries and the least position that holds it. -/
def Takes (A : Finset ι) (s : ι → EReal) (q : ι → BitVec 32) (M : EReal) (N : BitVec 32) : Prop :=
  (∀ i ∈ A, s i ≤ M) ∧ (∀ i ∈ A, s i = M → N.toInt ≤ (q i).toInt) ∧ ∃ i ∈ A, s i = M ∧ q i = N

/-- What `n` rounds take are the `n` greatest records. -/
theorem rounds {A : Finset ι} {s : ι → EReal} {q : ι → BitVec 32} (hq : ∀ i ∈ A, ∀ j ∈ A, q i = q j → i = j)
    (hs : ∀ i ∈ A, ⊥ < s i) (S : ℕ → ι → EReal) (M : ℕ → EReal) (N : ℕ → BitVec 32) (n : ℕ) (hn : n ≤ A.card)
    (h0 : ∀ i ∈ A, S 0 i = s i) (ht : ∀ t < n, Takes A (S t) q (M t) (N t))
    (hnext : ∀ t, t + 1 < n → ∀ i ∈ A, S (t + 1) i = if q i = N t then ⊥ else S t i) :
    (List.range n).map (fun t => key (M t) (N t)) = topList n (recs A s q) := by
  have hS : ∀ t, t < n → ∀ i ∈ A, S t i = if q i ∈ (List.range t).map N then ⊥ else s i := by
    intro t
    induction t with
    | zero => intro _ i hi; rw [h0 i hi]; simp
    | succ t ih =>
      intro ht' i hi
      rw [hnext t ht' i hi, ih (by omega) i hi]
      have hm : q i ∈ (List.range (t + 1)).map N ↔ q i ∈ (List.range t).map N ∨ q i = N t := by
        rw [List.range_succ, List.map_append, List.mem_append, List.map_singleton, List.mem_singleton]
      by_cases h : q i = N t
      · rw [if_pos h, if_pos (hm.2 (Or.inr h))]
      · rw [if_neg h]
        by_cases h' : q i ∈ (List.range t).map N
        · rw [if_pos h', if_pos (hm.2 (Or.inl h'))]
        · rw [if_neg h', if_neg fun hc => (hm.1 hc).elim h' h]
  refine map_range_eq_topList (nodup_recs hq) _ n fun t htn => ?_
  obtain ⟨h1, h2, p, hpA, hpM, hpN⟩ := ht t htn
  -- an entry not taken is left
  obtain ⟨f, hfA, hfN⟩ : ∃ f ∈ A, q f ∉ (List.range t).map N := by
    by_contra hcon
    push Not at hcon
    have hc : (A.image q) ⊆ ((List.range t).map N).toFinset := by
      intro x hx
      obtain ⟨i, hi, rfl⟩ := Finset.mem_image.1 hx
      exact List.mem_toFinset.2 (hcon i hi)
    have h3 := Finset.card_le_card hc
    rw [Finset.card_image_of_injOn (fun i hi j hj h => hq i hi j hj h)] at h3
    have h4 := List.toFinset_card_le ((List.range t).map N)
    rw [List.length_map, List.length_range] at h4
    omega
  have hMpos : ⊥ < M t := by
    refine lt_of_lt_of_le ?_ (h1 f hfA)
    rw [hS t htn f hfA, if_neg hfN]; exact hs f hfA
  have hpnew : q p ∉ (List.range t).map N := by
    intro hc
    have := hS t htn p hpA
    rw [if_pos hc, hpM] at this
    exact absurd this hMpos.ne'
  have hps : s p = M t := by rw [← hpM, hS t htn p hpA, if_neg hpnew]
  refine ⟨mem_recs.2 ⟨p, hpA, by rw [hps, hpN]⟩, ?_, ?_⟩
  · intro hc
    obtain ⟨t', ht', e⟩ := List.mem_map.1 hc
    have := (key_inj e).2
    exact hpnew (by rw [hpN, ← this]; exact List.mem_map_of_mem ht')
  · intro x hx hxn
    obtain ⟨i, hi, rfl⟩ := mem_recs.1 hx
    have hi' : q i ∉ (List.range t).map N := by
      intro hc
      obtain ⟨t', ht', e⟩ := List.mem_map.1 hc
      have ht'' := List.mem_range.1 ht'
      obtain ⟨-, -, p', hp'A, hp'M, hp'N⟩ := ht t' (by omega)
      have hpi : p' = i := hq _ hp'A _ hi (by rw [hp'N, e])
      subst hpi
      refine hxn (List.mem_map.2 ⟨t', ht', ?_⟩)
      have hSt := hS t' (by omega) p' hi
      have hpos' : ⊥ < M t' := by
        -- the maximum at an earlier round is at least that of a left entry
        have hf' : q f ∉ (List.range t').map N := fun hc => hfN (by
          obtain ⟨u, hu, e⟩ := List.mem_map.1 hc
          exact List.mem_map.2 ⟨u, List.mem_range.2 (by have := List.mem_range.1 hu; omega), e⟩)
        refine lt_of_lt_of_le ?_ ((ht t' (by omega)).1 f hfA)
        rw [hS t' (by omega) f hfA, if_neg hf']; exact hs f hfA
      have hne : q p' ∉ (List.range t').map N := by
        intro hc
        rw [if_pos hc, hp'M] at hSt
        exact absurd hSt hpos'.ne'
      rw [if_neg hne] at hSt
      rw [← hSt, hp'M, hp'N]
    have hSi := hS t htn i hi
    rw [if_neg hi'] at hSi
    rw [key_le, ← hSi]
    rcases lt_or_eq_of_le (h1 i hi) with h | h
    · exact Or.inl h
    · exact Or.inr ⟨h, h2 i hi h⟩
end

/-! ### The reductions -/

/-- A fold by `max` bounds every value and, over a set that is not empty, is one of them. -/
theorem fold_max_spec {ι : Type} [DecidableEq ι] (g : ι → EReal) (s : Finset ι) :
    (∀ i ∈ s, g i ≤ s.fold max ⊥ g) ∧ (s.Nonempty → ∃ i ∈ s, g i = s.fold max ⊥ g) := by
  refine ⟨fun i hi => (Finset.le_fold_max _).2 (Or.inr ⟨i, hi, le_refl _⟩), fun hs => ?_⟩
  rcases (Finset.le_fold_max (f := g) (b := ⊥) (s := s) (s.fold max ⊥ g)).1 (le_refl _) with h | ⟨i, hi, h⟩
  · obtain ⟨i, hi⟩ := hs
    refine ⟨i, hi, ?_⟩
    have hb := le_bot_iff.1 h
    rw [hb]
    exact le_bot_iff.1 (hb ▸ (Finset.le_fold_max _).2 (Or.inr ⟨i, hi, le_refl _⟩))
  · exact ⟨i, hi, le_antisymm ((Finset.le_fold_max _).2 (Or.inr ⟨i, hi, le_refl _⟩)) h⟩

/-- A fold by the signed minimum bounds every value from below and is its start or one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := toInt_minsi (g a) (s.fold IntOp.minsi init g)
  refine ⟨fun i hi => ?_, ?_⟩
  · rcases Finset.mem_insert.mp hi with rfl | hi
    · rw [hm]; exact min_le_left _ _
    · exact le_trans (by rw [hm]; exact min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

/-- The two reductions of a round, over a set `B` of entries of which those outside `A` are masked. -/
theorem takes_of {ι : Type} [DecidableEq ι] {A B : Finset ι} (hAB : A ⊆ B) (hA : A.Nonempty) (s : ι → EReal) (q : ι → BitVec 32)
    (hqs : ∀ i ∈ A, (q i).toInt < 1073741824) (x : ι → EReal) (y : ι → BitVec 32) (M : EReal) (N : BitVec 32)
    (hx : ∀ i ∈ B, x i = if i ∈ A then s i else ⊥) (hM : M = B.fold max ⊥ x)
    (hy : ∀ i ∈ B, y i = if i ∈ A ∧ s i = M then q i else 1073741824#32) (hN : N = B.fold IntOp.minsi 2147483647#32 y) :
    Takes A s q M N := by
  obtain ⟨hx1, hx2⟩ := fold_max_spec x B
  obtain ⟨hy1, hy2⟩ := fold_minsi_spec y B 2147483647#32
  rw [← hM] at hx1 hx2
  rw [← hN] at hy1 hy2
  have hle : ∀ i ∈ A, s i ≤ M := fun i hi => by
    have := hx1 i (hAB hi); rwa [hx i (hAB hi), if_pos hi] at this
  obtain ⟨p, hpA, hpM⟩ : ∃ p ∈ A, s p = M := by
    obtain ⟨a, ha⟩ := hA
    obtain ⟨i, hi, h⟩ := hx2 ⟨a, hAB ha⟩
    rw [hx i hi] at h
    by_cases hiA : i ∈ A
    · rw [if_pos hiA] at h; exact ⟨i, hiA, h⟩
    · rw [if_neg hiA] at h
      exact ⟨a, ha, le_antisymm (hle a ha) (h ▸ bot_le)⟩
  have hmin : ∀ i ∈ A, s i = M → N.toInt ≤ (q i).toInt := fun i hi h => by
    have := hy1 i (hAB hi); rwa [hy i (hAB hi), if_pos ⟨hi, h⟩] at this
  refine ⟨hle, hmin, ?_⟩
  have hNlt : N.toInt < 1073741824 := lt_of_le_of_lt (hmin p hpA hpM) (hqs p hpA)
  rcases hy2 with h | ⟨i, hi, h⟩
  · rw [h] at hNlt; exact absurd hNlt (by decide)
  · rw [hy i hi] at h
    by_cases hc : i ∈ A ∧ s i = M
    · rw [if_pos hc] at h; exact ⟨i, hc.1, hc.2, h.symm⟩
    · rw [if_neg hc] at h; rw [h] at hNlt; exact absurd hNlt (by decide)

end Cert.Model
-- ==== Proof.Select.lean ====
module

public import proofs.«01_k».proof.Proof.Words

/-
  The selection network as a whole: from every column's greatest records to every image's.
-/

@[expose] public section

set_option maxRecDepth 65536

noncomputable section

open Idealize.ShloMosaic Idealize.ShloMosaic.SortNet

namespace Cert.Model

open Cert.KernelIdeal Cert.KernelIdeal.Hand Facts₀ Facts

/-- The records of the columns that are equal modulo four, level by level. -/
def gather (base : ℕ → List E) : ℕ → List E :=
  both 4 (both 8 (both 16 (both 32 (both 64 (both 128 (both 256 (both 512 (both 1024 base))))))))

section
variable (c : Dev nD) (arg0 : Memref sig Kind.tc Space.vmem S192x2048 EltTy.f32) (f0 : BufTy.Contents (Elt Ideal) arg0.view.ty)

/-- The level of 1024 columns. -/
theorem to512 (T : ℕ → List E) (h0 : Inv 16 1024 (kernelRun.sl.r_19 c arg0 f0) (kernelRun.sl.r_20 c arg0 f0) T) :
    Inv 32 512 (kernelRun.sl.r_27 c arg0 f0) (kernelRun.sl.r_28 c arg0 f0) (both 1024 T) := by
  have hd : ∀ j, desc kernelRun.sl.r_21 j = decide (j.val < 512) := fun j => by rw [dir1024]; exact desc_dirs _ (by decide) 128 (by decide) j
  have s := srt_of_inv (p := 4) (n := 16) (W := 1024) (by rfl) (by decide) kernelRun.sl.r_21 (kernelRun.sl.r_19 c arg0 f0)
    (tail8V (n := 16) (W := 1024) (q := 1) (by rfl) kernelRun.sl.r_21 (kernelRun.sl.r_19 c arg0 f0) (kernelRun.sl.r_20 c arg0 f0)) (kernelRun.sl.r_20 c arg0 f0)
    (tail8N (n := 16) (W := 1024) (q := 1) (by rfl) kernelRun.sl.r_21 (kernelRun.sl.r_19 c arg0 f0) (kernelRun.sl.r_20 c arg0 f0)) T h0 (fun j => col_tail8 (p := 4) (q := 1) (by rfl) _ j (by decide) (by rfl) _ _)
  rw [lev16V, lev16N]
  exact inv_stack (n := 16) (w := 512) _ _ _ _ s hd

/-- The level of 512 columns. -/
theorem to256 (T : ℕ → List E) (h0 : Inv 32 512 (kernelRun.sl.r_27 c arg0 f0) (kernelRun.sl.r_28 c arg0 f0) T) :
    Inv 64 256 (kernelRun.sl.r_40 c arg0 f0) (stack (n := 32) (w := 256) (kernelRun.sl.r_39 c arg0 f0)) (both 512 T) := by
  have hd : ∀ j, desc kernelRun.sl.r_29 j = decide (j.val < 256) := fun j => by rw [dir512]; exact desc_dirs _ (by decide) 64 (by decide) j
  have s := srt_of_inv (p := 5) (n := 32) (W := 512) (by rfl) (by decide) kernelRun.sl.r_29 (kernelRun.sl.r_27 c arg0 f0)
    (tail16V (n := 32) (W := 512) (q := 1) (by rfl) kernelRun.sl.r_29 (kernelRun.sl.r_27 c arg0 f0) (kernelRun.sl.r_28 c arg0 f0)) (kernelRun.sl.r_28 c arg0 f0)
    (tail16N (n := 32) (W := 512) (q := 1) (by rfl) kernelRun.sl.r_29 (kernelRun.sl.r_27 c arg0 f0) (kernelRun.sl.r_28 c arg0 f0)) T h0 (fun j => col_tail16 (p := 5) (q := 1) (by rfl) _ j (by decide) (by rfl) _ _)
  rw [lev32V, lev32N]
  exact inv_stack (n := 32) (w := 256) _ _ _ _ s hd

/-- The level of 256 columns. -/
theorem to128 (T : ℕ → List E) (h0 : Inv 64 256 (kernelRun.sl.r_40 c arg0 f0) (stack (n := 32) (w := 256) (kernelRun.sl.r_39 c arg0 f0)) T) :
    Inv 128 128 (kernelRun.sl.r_59 c arg0 f0) (kernelRun.sl.r_60 c arg0 f0) (both 256 T) := by
  have hd : ∀ j, desc Gen.k0_pay149 j = decide (j.val < 128) := fun j => by rw [dir256]; exact desc_dirs _ (by decide) 32 (by decide) j
  have s := srt_of_inv (p := 6) (n := 64) (W := 256) (by rfl) (by decide) Gen.k0_pay149 (kernelRun.sl.r_40 c arg0 f0)
    (tail32V (n := 64) (W := 256) (q := 1) (by rfl) Gen.k0_pay149 (kernelRun.sl.r_40 c arg0 f0) (stack (n := 32) (w := 256) (kernelRun.sl.r_39 c arg0 f0))) (stack (n := 32) (w := 256) (kernelRun.sl.r_39 c arg0 f0))
    (tail32N (n := 64) (W := 256) (q := 1) (by rfl) Gen.k0_pay149 (kernelRun.sl.r_40 c arg0 f0) (stack (n := 32) (w := 256) (kernelRun.sl.r_39 c arg0 f0))) T h0 (fun j => col_tail32 (p := 6) (q := 1) (by rfl) _ j (by decide) (by rfl) _ _)
  rw [lev64V, lev64N]
  exact inv_stack (n := 64) (w := 128) _ _ _ _ s hd

/-- The level of 128 columns. -/
theorem to64 (T : ℕ → List E) (h0 : Inv 128 128 (kernelRun.sl.r_59 c arg0 f0) (kernelRun.sl.r_60 c arg0 f0) T) :
    Inv 256 64 (kernelRun.sl.v993 c arg0 f0) (kernelRun.sl.v996 c arg0 f0) (both 128 T) := by
  have hd : ∀ j, desc kernelRun.sl.r_61 j = decide (j.val < 64) := fun j => by rw [dir128]; exact desc_dirs _ (by decide) 16 (by decide) j
  have s := srt_of_inv (p := 7) (n := 128) (W := 128) (by rfl) (by decide) kernelRun.sl.r_61 (kernelRun.sl.r_59 c arg0 f0)
    (tail64V (n := 128) (W := 128) (q := 1) (by rfl) kernelRun.sl.r_61 (kernelRun.sl.r_59 c arg0 f0) (kernelRun.sl.r_60 c arg0 f0)) (kernelRun.sl.r_60 c arg0 f0)
    (tail64N (n := 128) (W := 128) (q := 1) (by rfl) kernelRun.sl.r_61 (kernelRun.sl.r_59 c arg0 f0) (kernelRun.sl.r_60 c arg0 f0)) T h0 (fun j => col_tail64 (p := 7) (q := 1) (by rfl) _ j (by decide) (by rfl) _ _)
  rw [lev128V, lev128N]
  exact inv_stack (n := 128) (w := 64) _ _ _ _ s hd

/-- The level of 64 columns. -/
theorem to32 (T : ℕ → List E) (h0 : Inv 256 64 (kernelRun.sl.v993 c arg0 f0) (kernelRun.sl.v996 c arg0 f0) T) :
    Inv 256 32 (kernelRun.sl.v1285 c arg0 f0) (kernelRun.sl.v1288 c arg0 f0) (both 64 T) := by
  have hd : ∀ j, desc (cmpi .slt kernelRun.sl.v1021 kernelRun.sl.v1022) j = decide (j.val < 32) := fun j => by rw [dir64]; exact desc_dirs _ (by decide) 8 (by decide) j
  have s := srt_keep (p := 8) (W := 64) (by rfl) (cmpi .slt kernelRun.sl.v1021 kernelRun.sl.v1022) (kernelRun.sl.v993 c arg0 f0)
    (tail128V (n := 256) (W := 64) (q := 1) (by rfl) (cmpi .slt kernelRun.sl.v1021 kernelRun.sl.v1022) (kernelRun.sl.v993 c arg0 f0) (kernelRun.sl.v996 c arg0 f0)) (kernelRun.sl.v996 c arg0 f0)
    (tail128N (n := 256) (W := 64) (q := 1) (by rfl) (cmpi .slt kernelRun.sl.v1021 kernelRun.sl.v1022) (kernelRun.sl.v993 c arg0 f0) (kernelRun.sl.v996 c arg0 f0)) T h0 (fun j => col_tail128 (p := 8) (q := 1) (by rfl) _ j (by decide) (by rfl) _ _)
  rw [levAV, levAN]
  exact inv_stack (n := 128) (w := 32) _ _ _ _ s hd

/-- The level of 32 columns. -/
theorem to16 (T : ℕ → List E) (h0 : Inv 256 32 (kernelRun.sl.v1285 c arg0 f0) (kernelRun.sl.v1288 c arg0 f0) T) :
    Inv 256 16 (kernelRun.sl.v1577 c arg0 f0) (kernelRun.sl.v1580 c arg0 f0) (both 32 T) := by
  have hd : ∀ j, desc kernelRun.sl.r_94 j = decide (j.val < 16) := fun j => by rw [dir32]; exact desc_dirs _ (by decide) 4 (by decide) j
  have s := srt_keep (p := 8) (W := 32) (by rfl) kernelRun.sl.r_94 (kernelRun.sl.v1285 c arg0 f0)
    (tail128V (n := 256) (W := 32) (q := 1) (by rfl) kernelRun.sl.r_94 (kernelRun.sl.v1285 c arg0 f0) (kernelRun.sl.v1288 c arg0 f0)) (kernelRun.sl.v1288 c arg0 f0)
    (tail128N (n := 256) (W := 32) (q := 1) (by rfl) kernelRun.sl.r_94 (kernelRun.sl.v1285 c arg0 f0) (kernelRun.sl.v1288 c arg0 f0)) T h0 (fun j => col_tail128 (p := 8) (q := 1) (by rfl) _ j (by decide) (by rfl) _ _)
  rw [levBV, levBN]
  exact inv_stack (n := 128) (w := 16) _ _ _ _ s hd

/-- The level of 16 columns. -/
theorem to8 (T : ℕ → List E) (h0 : Inv 256 16 (kernelRun.sl.v1577 c arg0 f0) (kernelRun.sl.v1580 c arg0 f0) T) :
    Inv 256 8 (kernelRun.sl.r_134 c arg0 f0) (kernelRun.sl.r_135 c arg0 f0) (both 16 T) := by
  have hd : ∀ j, desc kernelRun.sl.r_115 j = decide (j.val < 8) := fun j => by rw [dir16]; exact desc_dirs _ (by decide) 2 (by decide) j
  have s := srt_keep (p := 8) (W := 16) (by rfl) kernelRun.sl.r_115 (kernelRun.sl.v1577 c arg0 f0)
    (tail128V (n := 256) (W := 16) (q := 1) (by rfl) kernelRun.sl.r_115 (kernelRun.sl.v1577 c arg0 f0) (kernelRun.sl.v1580 c arg0 f0)) (kernelRun.sl.v1580 c arg0 f0)
    (tail128N (n := 256) (W := 16) (q := 1) (by rfl) kernelRun.sl.r_115 (kernelRun.sl.v1577 c arg0 f0) (kernelRun.sl.v1580 c arg0 f0)) T h0 (fun j => col_tail128 (p := 8) (q := 1) (by rfl) _ j (by decide) (by rfl) _ _)
  rw [levCV, levCN]
  exact inv_stack (n := 128) (w := 8) _ _ _ _ s hd

/-- The level of 8 columns. -/
theorem to4 (T : ℕ → List E) (h0 : Inv 256 8 (kernelRun.sl.r_134 c arg0 f0) (kernelRun.sl.r_135 c arg0 f0) T) :
    Inv 256 4 (kernelRun.sl.r_149 c arg0 f0) (kernelRun.sl.r_150 c arg0 f0) (both 8 T) := by
  have hd : ∀ j, desc kernelRun.sl.r_136 j = decide (j.val < 4) := fun j => by rw [dir8]; exact desc_dirs _ (by decide) 1 (by decide) j
  have s := srt_keep (p := 8) (W := 8) (by rfl) kernelRun.sl.r_136 (kernelRun.sl.r_134 c arg0 f0)
    (tail128V (n := 256) (W := 8) (q := 1) (by rfl) kernelRun.sl.r_136 (kernelRun.sl.r_134 c arg0 f0) (kernelRun.sl.r_135 c arg0 f0)) (kernelRun.sl.r_135 c arg0 f0)
    (tail128N (n := 256) (W := 8) (q := 1) (by rfl) kernelRun.sl.r_136 (kernelRun.sl.r_134 c arg0 f0) (kernelRun.sl.r_135 c arg0 f0)) T h0 (fun j => col_tail128 (p := 8) (q := 1) (by rfl) _ j (by decide) (by rfl) _ _)
  rw [levDV, levDN]
  exact inv_stack (n := 128) (w := 4) _ _ _ _ s hd

/-- The last level, of four columns. -/
theorem toEnd (T : ℕ → List E) (h0 : Inv 256 4 (kernelRun.sl.r_149 c arg0 f0) (kernelRun.sl.r_150 c arg0 f0) T) : Srt 128 4 kernelRun.sl.r_151 (kernelRun.sl.r_166 c arg0 f0) (kernelRun.sl.r_167 c arg0 f0) (both 4 T) := by
  rw [levEV, levEN]
  exact srt_keep (p := 8) (W := 4) (by rfl) kernelRun.sl.r_151 (kernelRun.sl.r_149 c arg0 f0)
    (tail128V (n := 256) (W := 4) (q := 1) (by rfl) kernelRun.sl.r_151 (kernelRun.sl.r_149 c arg0 f0) (kernelRun.sl.r_150 c arg0 f0)) (kernelRun.sl.r_150 c arg0 f0)
    (tail128N (n := 256) (W := 4) (q := 1) (by rfl) kernelRun.sl.r_151 (kernelRun.sl.r_149 c arg0 f0) (kernelRun.sl.r_150 c arg0 f0)) T h0 (fun j => col_tail128 (p := 8) (q := 1) (by rfl) _ j (by decide) (by rfl) _ _)

/-- What the network leaves of every image's columns. -/
theorem network (base : ℕ → List E) (h0 : Inv 16 1024 (kernelRun.sl.r_19 c arg0 f0) (kernelRun.sl.r_20 c arg0 f0) base) :
    Srt 128 4 kernelRun.sl.r_151 (kernelRun.sl.r_166 c arg0 f0) (kernelRun.sl.r_167 c arg0 f0) (gather base) :=
  toEnd _ _ _ _ (to4 _ _ _ _ (to8 _ _ _ _ (to16 _ _ _ _ (to32 _ _ _ _ (to64 _ _ _ _ (to128 _ _ _ _ (to256 _ _ _ _ (to512 _ _ _ _ h0))))))))

/-- Every image's column of records is descending: the 128 greatest of its columns' records. -/
theorem network_col (base : ℕ → List E) (h0 : Inv 16 1024 (kernelRun.sl.r_19 c arg0 f0) (kernelRun.sl.r_20 c arg0 f0) base) (b : Fin 4) :
    colL (kernelRun.sl.r_166 c arg0 f0) (kernelRun.sl.r_167 c arg0 f0) b = topList 128 (gather base b.val) := by
  have := network c arg0 f0 base h0 b
  rw [dir4, desc_dirs _ (by decide) 1 (by decide) b, decide_eq_true (by omega), if_pos rfl] at this
  exact this
end

/-! ### What is gathered -/

/-- What a level holds of the columns: every record of the columns that fall on a number modulo `W`, once. -/
def Holds (base : ℕ → List E) (W : ℕ) (T : ℕ → List E) : Prop :=
  ∀ j, j < W → (T j).Nodup ∧ ∀ x, x ∈ T j ↔ ∃ c, c < 2048 ∧ c % W = j ∧ x ∈ base c

/-- Joining two columns' lists keeps the property that every list holds its columns' greatest. -/
theorem holds_both {base : ℕ → List E} (hdis : ∀ c c', c < 2048 → c' < 2048 → c % 4 = c' % 4 → ∀ x, x ∈ base c → x ∈ base c' → c = c')
    {W : ℕ} {T : ℕ → List E} (h : Holds base (2 * W) T) (hW : 0 < W) (h4 : 4 ∣ W) : Holds base W (both W T) := by
  intro j hj
  obtain ⟨n1, m1⟩ := h j (by omega)
  obtain ⟨n2, m2⟩ := h (j + W) (by omega)
  have hmod : ∀ c, c % W = j ↔ c % (2 * W) = j ∨ c % (2 * W) = j + W := by
    intro c
    have e : c % W = c % (2 * W) % W := (Nat.mod_mul_left_mod c 2 W).symm
    have hlt : c % (2 * W) < 2 * W := Nat.mod_lt _ (by omega)
    rw [e]
    generalize c % (2 * W) = d at hlt
    constructor
    · intro hd
      rcases Nat.lt_or_ge d W with hdW | hdW
      · left; rwa [Nat.mod_eq_of_lt hdW] at hd
      · right
        rw [Nat.mod_eq_sub_mod hdW, Nat.mod_eq_of_lt (by omega)] at hd
        omega
    · rintro (hd | hd)
      · subst hd; exact Nat.mod_eq_of_lt hj
      · subst hd; rw [Nat.add_mod_right]; exact Nat.mod_eq_of_lt hj
  refine ⟨?_, fun x => ?_⟩
  · unfold both
    rw [List.nodup_append]
    refine ⟨n1, n2, fun a ha b hb hab => ?_⟩
    obtain ⟨c, hc, hcm, hx⟩ := (m1 a).1 ha
    obtain ⟨c', hc', hcm', hx'⟩ := (m2 b).1 hb
    subst hab
    have h4c : c % 4 = c' % 4 := by
      obtain ⟨k, rfl⟩ := h4
      have e1 : c % 4 = j % 4 := by rw [← hcm, Nat.mod_mod_of_dvd _ ⟨2 * k, by ring⟩]
      have e2 : c' % 4 = j % 4 := by
        have : c' % 4 = (c' % (2 * (4 * k))) % 4 := by rw [Nat.mod_mod_of_dvd _ ⟨2 * k, by ring⟩]
        rw [this, hcm']; omega
      omega
    have := hdis c c' hc hc' h4c a hx hx'
    subst this
    omega
  · unfold both
    rw [List.mem_append, m1, m2]
    constructor
    · rintro (⟨c, hc, hcm, hx⟩ | ⟨c, hc, hcm, hx⟩)
      · exact ⟨c, hc, (hmod c).2 (Or.inl hcm), hx⟩
      · exact ⟨c, hc, (hmod c).2 (Or.inr hcm), hx⟩
    · rintro ⟨c, hc, hcm, hx⟩
      rcases (hmod c).1 hcm with h | h
      · exact Or.inl ⟨c, hc, h, hx⟩
      · exact Or.inr ⟨c, hc, h, hx⟩

/-- An image's gathered records are those of its columns. -/
theorem holds_gather {base : ℕ → List E} (hdis : ∀ c c', c < 2048 → c' < 2048 → c % 4 = c' % 4 → ∀ x, x ∈ base c → x ∈ base c' → c = c')
    (hn : ∀ c, c < 2048 → (base c).Nodup) : Holds base 4 (gather base) := by
  have h0 : Holds base 2048 base := fun j hj => ⟨hn j hj, fun x =>
    ⟨fun hx => ⟨j, hj, Nat.mod_eq_of_lt hj, hx⟩, fun ⟨c, hc, hcm, hx⟩ => by rw [Nat.mod_eq_of_lt hc] at hcm; rwa [hcm] at hx⟩⟩
  exact holds_both hdis (holds_both hdis (holds_both hdis (holds_both hdis (holds_both hdis (holds_both hdis (holds_both hdis (holds_both hdis
    (holds_both hdis h0 (by decide) (by decide)) (by decide) (by decide)) (by decide) (by decide)) (by decide) (by decide)) (by decide) (by decide)) (by decide) (by decide)) (by decide) (by decide)) (by decide) (by decide)) (by decide) (by decide)

end Cert.Model
-- ==== Proof.Tops.lean ====
module

public import proofs.«01_k».proof.Proof.Rounds
public import proofs.«01_k».proof.Proof.Select

/-
  The columns' eight records: the eight greatest of every column.
-/

@[expose] public section

set_option maxRecDepth 65536

noncomputable section

open Idealize.ShloMosaic Idealize.ShloMosaic.SortNet Idealize.ShloMosaic.WordArith

namespace Cert.Model

open Cert.KernelIdeal Cert.KernelIdeal.Hand Facts₀ Facts

/-- The entries of a column. -/
def colA (j : ℕ) : Finset S192x2048.Idx := Finset.univ.filter fun i => (i 1).val = j

/-- The entries of an image: the columns of one residue modulo 4. -/
def imgA (b : ℕ) : Finset S192x2048.Idx := Finset.univ.filter fun i => (i 1).val % 4 = b

/-- An entry is in a column when its second index is the column's number, -/
theorem mem_colA {j : ℕ} {i : S192x2048.Idx} : i ∈ colA j ↔ (i 1).val = j := by unfold colA; simp
/-- and in an image when that index's remainder by 4 is the image's. -/
theorem mem_imgA {b : ℕ} {i : S192x2048.Idx} : i ∈ imgA b ↔ (i 1).val % 4 = b := by unfold imgA; simp

/-- The position matrix at an entry. -/
theorem position' (i : S192x2048.Idx) : kernelRun.sl.r i = BitVec.ofNat 32 (pos (i 0) (i 1)) := by
  have h := position (i 0) (i 1)
  rwa [show (ix2 (i 0) (i 1) : S192x2048.Idx) = i from (eq_ix2 i).symm] at h

/-- A position's word read as an integer, -/
theorem position_toInt (i : S192x2048.Idx) : (kernelRun.sl.r i).toInt = (pos (i 0) (i 1) : ℤ) := by
  have := pos_lt (i 0) (i 1)
  rw [position', toInt_ofNat_small _ (by omega)]

/-- which is below the kernel's large number. -/
theorem position_lt (i : S192x2048.Idx) : (kernelRun.sl.r i).toInt < 1073741824 := by
  have := pos_lt (i 0) (i 1)
  rw [position_toInt]; omega

/-- The position's formula is one-to-one. -/
theorem num_inj {m m' : ℕ} (h : m < 98304) (h' : m' < 98304) (e : m % 8192 * 12 + m / 8192 = m' % 8192 * 12 + m' / 8192) : m = m' := by
  have a : m / 8192 < 12 := by omega
  have b : m' / 8192 < 12 := by omega
  generalize hq : m / 8192 = q at *
  generalize hq' : m' / 8192 = q' at *
  generalize hr : m % 8192 = r at *
  generalize hr' : m' % 8192 = r' at *
  have : q = q' := by omega
  omega

/-- An image's positions are distinct. -/
theorem position_inj {b : ℕ} : ∀ i ∈ imgA b, ∀ i' ∈ imgA b, kernelRun.sl.r i = kernelRun.sl.r i' → i = i' := by
  intro i hi i' hi' h
  have h1 := mem_imgA.1 hi
  have h2 := mem_imgA.1 hi'
  have h3 := congrArg BitVec.toInt h
  rw [position_toInt, position_toInt] at h3
  have a1 : (i 0).val < 192 := (i 0).isLt
  have a2 : (i 1).val < 2048 := (i 1).isLt
  have a3 : (i' 0).val < 192 := (i' 0).isLt
  have a4 : (i' 1).val < 2048 := (i' 1).isLt
  unfold pos at h3
  have hm := num_inj (m := (i 0).val * 512 + (i 1).val / 4) (m' := (i' 0).val * 512 + (i' 1).val / 4) (by omega) (by omega) (by exact_mod_cast h3)
  have e0 : (i 0).val = (i' 0).val := by omega
  have e1 : (i 1).val = (i' 1).val := by omega
  rw [eq_ix2 i, eq_ix2 i', Fin.ext e0, Fin.ext e1]

/-- A column belongs to one image. -/
theorem colA_sub (j : ℕ) : colA j ⊆ imgA (j % 4) := fun i hi => mem_imgA.2 (by rw [mem_colA.1 hi])

/-- A column has at least eight entries. -/
theorem card_colA (j : ℕ) (hj : j < 2048) : 8 ≤ (colA j).card := by
  have h : (Finset.univ.image fun a : Fin 192 => (ix2 a (⟨j, hj⟩ : Fin 2048) : S192x2048.Idx)) ⊆ colA j := by
    intro x hx
    obtain ⟨a, -, rfl⟩ := Finset.mem_image.1 hx
    exact mem_colA.2 rfl
  have h' := Finset.card_le_card h
  rw [Finset.card_image_of_injective _ (fun a a' e => congrFun e 0), Finset.card_univ, Fintype.card_fin] at h'
  omega

/-- The entries that reduce into a column's index are the column's. -/
theorem filter_drop (h : S192x2048.Reduces [0] S2048) (j : Fin 2048) :
    (Finset.univ.filter fun i => h.drop i = (ix1 j : S2048.Idx)) = colA j.val := by
  ext i
  rw [mem_colA, Finset.mem_filter]
  constructor
  · rintro ⟨-, e⟩
    have := congrArg (fun f : S2048.Idx => (f 0).val) e
    simpa [h.drop_val] using this
  · intro e
    refine ⟨Finset.mem_univ _, ?_⟩
    rw [eq_ix1 (h.drop i)]
    congr 1
    exact Fin.ext ((h.drop_val i 0).trans e)

section
variable (s : FVec Ideal S192x2048 .f32)

/-- The word of minus infinity is minus infinity. -/
theorem ofBits_ninf : (FloatOps.ofBits (F := Ideal) .f32 0xFF800000#32 : EReal) = ⊥ := by
  simp [FloatOps.ofBits, Ideal.ofBits, Ideal.ieee]

/-- A column's greatest score is the maximum over its entries. -/
theorem colMax_apply (j : Fin 2048) : colMax s (ix2 (0 : Fin 1) j) = (colA j.val).fold max ⊥ s := by
  unfold colMax
  rw [shapeCast_apply _ _ _ (ix1 j : S2048.Idx) (by rw [Shape.rowMajor_val_two, Shape.rowMajor_val_one]; simp),
    ← filter_drop reduces_S192x2048_S2048, ← ofBits_ninf]
  exact multiReduction_maximumf_eq_fold _ _ _ _ rfl _

/-- A row broadcast over the matrix reads at the column. -/
theorem row_apply {α : Type} (x : S1x2048.Idx → α) (i : S192x2048.Idx) :
    broadcastTo S192x2048 x broadcasts_S1x2048_S192x2048 i = x (ix2 (0 : Fin 1) (i 1)) :=
  broadcastTo_apply _ _ _ _ (fun a => by
    match a with
    | ⟨0, _⟩ => rfl
    | ⟨1, _⟩ => rfl)

/-- The entries that equal their column's greatest. -/
theorem colHit_apply (i : S192x2048.Idx) : colHit s i = BitVec.ofBool (decide (s i = colMax s (ix2 (0 : Fin 1) (i 1)))) := by
  unfold colHit
  show Ideal.cmp .oeq (s i) (broadcastTo S192x2048 (colMax s) broadcasts_S1x2048_S192x2048 i) = _
  rw [row_apply]
  rfl

/-- A column's least position is the minimum over the entries that hold the greatest score. -/
theorem colPos_apply (p : IVec S192x2048 32) (j : Fin 2048) : colPos p s (ix2 (0 : Fin 1) j)
    = (colA j.val).fold IntOp.minsi 2147483647#32 (select (colHit s) p (broadcast S192x2048 1073741824#32)) := by
  unfold colPos
  rw [shapeCast_apply _ _ _ (ix1 j : S2048.Idx) (by rw [Shape.rowMajor_val_two, Shape.rowMajor_val_one]; simp),
    ← filter_drop reduces_S192x2048_S2048]
  exact multiReductionI_eq_fold .minsi _ _ _ rfl _

/-- A round's two rows. -/
theorem col_takes (j : Fin 2048) : Takes (colA j.val) s kernelRun.sl.r (colMax s (ix2 (0 : Fin 1) j)) (colPos kernelRun.sl.r s (ix2 (0 : Fin 1) j)) := by
  have hj : ∀ i ∈ colA j.val, i 1 = j := fun i hi => Fin.ext (mem_colA.1 hi)
  refine takes_of (Finset.Subset.refl _) (Finset.card_pos.1 (by have := card_colA j.val j.isLt; omega)) s kernelRun.sl.r (fun i _ => position_lt i) s
    (select (colHit s) kernelRun.sl.r (broadcast S192x2048 1073741824#32)) _ _ (fun i hi => (if_pos hi).symm) (colMax_apply s j) ?_ (colPos_apply s _ j)
  intro i hi
  show (if colHit s i = 1#1 then kernelRun.sl.r i else 1073741824#32) = _
  rw [colHit_apply, hj i hi]
  by_cases h : s i = colMax s (ix2 (0 : Fin 1) j)
  · rw [decide_eq_true h, if_pos (by decide), if_pos ⟨hi, h⟩]
  · rw [decide_eq_false h, if_neg (by decide), if_neg fun hc => h hc.2]

/-- The scores after a round. -/
theorem colNext_apply (j : Fin 2048) (i : S192x2048.Idx) (hi : i ∈ colA j.val) :
    colNext kernelRun.sl.r s i = if kernelRun.sl.r i = colPos kernelRun.sl.r s (ix2 (0 : Fin 1) j) then ⊥ else s i := by
  have hj : i 1 = j := Fin.ext (mem_colA.1 hi)
  unfold colNext
  show (if colHit s i &&& BitVec.ofBool (decide (kernelRun.sl.r i = broadcastTo S192x2048 (colPos kernelRun.sl.r s) broadcasts_S1x2048_S192x2048 i)) = 1#1
    then FloatOps.ofBits (F := Ideal) .f32 0xFF800000#32 else s i) = _
  rw [row_apply, colHit_apply, ofBits_ninf, hj]
  obtain ⟨-, -, x, hx, hxM, hxN⟩ := col_takes s j
  by_cases h : kernelRun.sl.r i = colPos kernelRun.sl.r s (ix2 (0 : Fin 1) j)
  · have : x = i := position_inj x (colA_sub _ hx) i (colA_sub _ hi) (by rw [hxN, h])
    subst this
    rw [decide_eq_true h, decide_eq_true hxM, if_pos (by decide), if_pos h]
  · rw [decide_eq_false h, if_neg h, if_neg]
    cases decide (s i = colMax s (ix2 (0 : Fin 1) j)) <;> decide
end

/-- The records of a column. -/
def colRecs (s : FVec Ideal S192x2048 .f32) (j : ℕ) : List E := recs (colA j) s kernelRun.sl.r

/-- The eight rounds take a column's eight greatest records. -/
theorem col_top (s : FVec Ideal S192x2048 .f32) (hs : ∀ i, ⊥ < s i) (j : Fin 2048) :
    (List.range 8).map (fun t => key (colMax (colS kernelRun.sl.r s t) (ix2 (0 : Fin 1) j)) (colPos kernelRun.sl.r (colS kernelRun.sl.r s t) (ix2 (0 : Fin 1) j)))
      = topList 8 (colRecs s j.val) :=
  rounds (fun i hi i' hi' => position_inj i (colA_sub _ hi) i' (colA_sub _ hi')) (fun i _ => hs i) (fun t => colS kernelRun.sl.r s t) _ _ 8
    (card_colA _ j.isLt) (fun i _ => rfl) (fun t _ => col_takes _ j) (fun t _ i hi => colNext_apply _ j i hi)

end Cert.Model
-- ==== Proof.Base.lean ====
module

public import proofs.«01_k».proof.Proof.Tops

/-
  What the selection network is given: every column's eight greatest records, the right half's columns reversed under the
  left half's.
-/

@[expose] public section

set_option maxRecDepth 65536

noncomputable section

open Idealize.ShloMosaic Idealize.ShloMosaic.SortNet Idealize.ShloMosaic.WordArith

namespace Cert.Model

open Cert.KernelIdeal Cert.KernelIdeal.Hand Facts₀ Facts

/-- Row `t` of the eight stacked rows is row number `t`. -/
theorem eight_apply {α : Type} (x : ℕ → S1x2048.Idx → α) (t : Fin 8) (j : Fin 2048) :
    eight x (ix2 t j) = x t.val (ix2 (0 : Fin 1) j) := by
  unfold eight
  refine concatenate_apply_piece (t := S8x2048) 0 _ _ _ t.val ?_ S1x2048 (x t.val) ?_ rfl t.val ?_ _ ?_ ?_
  · exact (show t.val < 8 from t.isLt)
  · obtain ⟨t, ht⟩ := t; dsimp only; interval_cases t <;> rfl
  · obtain ⟨t, ht⟩ := t; dsimp only; interval_cases t <;> rfl
  · intro b hb
    match b with
    | ⟨0, _⟩ => exact absurd rfl hb
    | ⟨1, _⟩ => rfl
  · rfl

/-- The first eight rows of the stack are the left half of the columns. -/
theorem fold0_left {α : Type} (x : S8x2048.Idx → α) (a : Fin 16) (j : Fin 1024) (ha : a.val < 8) :
    fold0 x (ix2 a j) = x (ix2 (⟨a.val, ha⟩ : Fin 8) (⟨j.val, by omega⟩ : Fin 2048)) := by
  unfold fold0
  refine (concatenate_apply_piece (t := S16x1024) 0 _ _ _ 0 ?_ S8x1024 (extractStridedSlice S8x1024 ![0, 0] x slices_S8x2048_o0_0_S8x1024)
    rfl rfl 0 rfl (ix2 (⟨a.val, ha⟩ : Fin 8) j) ?_ ?_).trans ?_
  · exact (show 0 < 9 by decide)
  · intro b hb
    match b with
    | ⟨0, _⟩ => exact absurd rfl hb
    | ⟨1, _⟩ => rfl
  · show 0 + a.val = a.val; omega
  · exact extractStridedSlice_apply _ _ _ _ _ (fun b => by
      match b with
      | ⟨0, _⟩ => show a.val = 0 + a.val; omega
      | ⟨1, _⟩ => show j.val = 0 + j.val; omega)

/-- A row's right half lies inside the eight rows. -/
theorem slices_row (r : ℕ) (h : r < 8) : S8x2048.Slices ![r, 1024] S1x1024 := by interval_cases r <;> decide

/-- The last eight rows of the stack are the right half of the columns, their rows in reverse order. -/
theorem fold0_right {α : Type} (x : S8x2048.Idx → α) (a : Fin 16) (j : Fin 1024) (ha : 8 ≤ a.val) :
    fold0 x (ix2 a j) = x (ix2 (⟨15 - a.val, by omega⟩ : Fin 8) (⟨j.val + 1024, by omega⟩ : Fin 2048)) := by
  have h15 : 15 - a.val < 8 := by omega
  unfold fold0
  refine (concatenate_apply_piece (t := S16x1024) 0 _ _ _ (a.val - 7) ?_ S1x1024
    (extractStridedSlice S1x1024 ![15 - a.val, 1024] x (slices_row _ h15)) ?_ rfl a.val ?_ (ix2 (0 : Fin 1) j) ?_ ?_).trans ?_
  · exact (show a.val - 7 < 9 by omega)
  · obtain ⟨a, ha'⟩ := a; dsimp only at ha ⊢; interval_cases a <;> rfl
  · obtain ⟨a, ha'⟩ := a; dsimp only at ha ⊢; interval_cases a <;> rfl
  · intro b hb
    match b with
    | ⟨0, _⟩ => exact absurd rfl hb
    | ⟨1, _⟩ => rfl
  · rfl
  · exact extractStridedSlice_apply _ _ _ _ _ (fun b => by
      match b with
      | ⟨0, _⟩ => rfl
      | ⟨1, _⟩ => show j.val + 1024 = 1024 + j.val; omega)

section
variable (c : Dev nD) (arg0 : Memref sig Kind.tc Space.vmem S192x2048 EltTy.f32) (f0 : BufTy.Contents (Elt Ideal) arg0.view.ty)

/-- What a column brings to the network. -/
def base (s : FVec Ideal S192x2048 .f32) (j : ℕ) : List E := topList 8 (colRecs s j)

/-- A record the body has for a column. -/
def took (s : FVec Ideal S192x2048 .f32) (j : Fin 2048) (t : ℕ) : E :=
  key (colMax (colS kernelRun.sl.r s t) (ix2 (0 : Fin 1) j)) (colPos kernelRun.sl.r (colS kernelRun.sl.r s t) (ix2 (0 : Fin 1) j))

/-- The body's record in round `t` for a column is the record that round takes. -/
theorem rec_took (t : Fin 8) (j : Fin 2048) :
    key (kernelRun.sl.r_17 c arg0 f0 (ix2 t j)) (kernelRun.sl.r_18 c arg0 f0 (ix2 t j)) = took (scoresIn arg0 f0) j t.val := by
  rw [columnsV, columnsN, eight_apply, eight_apply]; rfl

/-- The eight records the rounds take of a column are the column's list given to the network. -/
theorem took_base (hs : ∀ i, ⊥ < scoresIn arg0 f0 i) (j : Fin 2048) : (List.range 8).map (took (scoresIn arg0 f0) j) = base (scoresIn arg0 f0) j.val :=
  col_top _ hs j

/-- The network's input. -/
theorem inv_base (hs : ∀ i, ⊥ < scoresIn arg0 f0 i) :
    Inv 16 1024 (kernelRun.sl.r_19 c arg0 f0) (kernelRun.sl.r_20 c arg0 f0) (base (scoresIn arg0 f0)) := by
  intro j
  have e1 := took_base arg0 f0 hs (⟨j.val, by omega⟩ : Fin 2048)
  have e2 := took_base arg0 f0 hs (⟨j.val + 1024, by omega⟩ : Fin 2048)
  have l1 : topList 128 (base (scoresIn arg0 f0) j.val) = base (scoresIn arg0 f0) j.val :=
    topList_eq_self (pairwise_topList _ _) (by rw [← e1]; simp)
  have l2 : topList 128 (base (scoresIn arg0 f0) (j.val + 1024)) = base (scoresIn arg0 f0) (j.val + 1024) :=
    topList_eq_self (pairwise_topList _ _) (by rw [← e2]; simp)
  rw [l1, l2, ← e1, ← e2]
  refine List.ext_getElem (by simp [colL_length]) fun a h1 h2 => ?_
  have ha : a < 16 := by rwa [colL_length] at h1
  rw [colL_getElem]
  show key (kernelRun.sl.r_19 c arg0 f0 (ix2 (⟨a, ha⟩ : Fin 16) j)) (kernelRun.sl.r_20 c arg0 f0 (ix2 (⟨a, ha⟩ : Fin 16) j)) = _
  rw [startV c arg0 f0, startN c arg0 f0]
  rcases Nat.lt_or_ge a 8 with h | h
  · rw [fold0_left _ _ _ h, fold0_left _ _ _ h, List.getElem_append_left (by simpa using h), List.getElem_map, List.getElem_range]
    exact rec_took c arg0 f0 ⟨a, h⟩ _
  · rw [fold0_right _ _ _ h, fold0_right _ _ _ h, List.getElem_append_right (by simpa using h), List.getElem_reverse, List.getElem_map, List.getElem_range]
    rw [rec_took c arg0 f0 (⟨15 - a, by omega⟩ : Fin 8)]
    have e : 15 - a = 8 - 1 - (a - 8) := by omega
    simp only [List.length_map, List.length_range]
    rw [← e]
end

end Cert.Model
-- ==== Proof.Check.lean ====
module

public import proofs.«01_k».proof.Proof.Base

/-
  The check: where no column's eighth record exceeds its image's hundredth, the hundred greatest that the network leaves are
  the hundred greatest of the image.
-/

@[expose] public section

set_option maxRecDepth 65536

noncomputable section

open Idealize.ShloMosaic Idealize.ShloMosaic.SortNet Idealize.ShloMosaic.WordArith

namespace Cert.Model

open Cert.KernelIdeal Cert.KernelIdeal.Hand Facts₀ Facts

/-- A row put beside itself. -/
def rep {α : Type} (n m : ℕ) (h : Shape.Concatenates [⟨2, ![1, n]⟩, ⟨2, ![1, n]⟩] ⟨2, ![1, m]⟩ 1) (x : (⟨2, ![1, n]⟩ : Shape).Idx → α) :
    (⟨2, ![1, m]⟩ : Shape).Idx → α :=
  concatenate ⟨2, ![1, m]⟩ 1 [⟨⟨2, ![1, n]⟩, x⟩, ⟨⟨2, ![1, n]⟩, x⟩] h

/-- A row repeated twice over reads at the remainder by its length. -/
theorem rep_apply {α : Type} (n m : ℕ) (hn : 0 < n) (hm : m = 2 * n) (h) (x : (⟨2, ![1, n]⟩ : Shape).Idx → α) (j : Fin m) :
    rep n m h x (ix2 (0 : Fin 1) j) = x (ix2 (0 : Fin 1) (⟨j.val % n, Nat.mod_lt _ hn⟩ : Fin n)) := by
  unfold rep
  rcases Nat.lt_or_ge j.val n with hlt | hge
  · refine concatenate_pair_apply_left (t := ⟨2, ![1, m]⟩) (s₁ := ⟨2, ![1, n]⟩) (s₂ := ⟨2, ![1, n]⟩) 1 x x _ _ rfl _ fun b => ?_
    match b with
    | ⟨0, _⟩ => rfl
    | ⟨1, _⟩ => exact Nat.mod_eq_of_lt hlt
  · have e : j.val % n = j.val - n := by rw [Nat.mod_eq_sub_mod hge, Nat.mod_eq_of_lt (by have := j.isLt; omega)]
    refine concatenate_pair_apply_right (t := ⟨2, ![1, m]⟩) (s₁ := ⟨2, ![1, n]⟩) (s₂ := ⟨2, ![1, n]⟩) 1 x x _ _ rfl rfl _ (fun b hb => ?_) ?_
    · match b with
      | ⟨0, _⟩ => rfl
      | ⟨1, _⟩ => exact absurd rfl hb
    · show j.val % n + n = j.val
      omega

/-- Four values repeated along a row of 2048. -/
def spread {α : Type} (x : S1x4.Idx → α) : S1x2048.Idx → α :=
  rep 1024 2048 concatenates_S1x1024_S1x1024_S1x2048_d1 (rep 512 1024 concatenates_S1x512_S1x512_S1x1024_d1
    (rep 256 512 concatenates_S1x256_S1x256_S1x512_d1 (rep 128 256 concatenates_S1x128_S1x128_S1x256_d1
    (rep 64 128 concatenates_S1x64_S1x64_S1x128_d1 (rep 32 64 concatenates_S1x32_S1x32_S1x64_d1
    (rep 16 32 concatenates_S1x16_S1x16_S1x32_d1 (rep 8 16 concatenates_S1x8_S1x8_S1x16_d1 (rep 4 8 concatenates_S1x4_S1x4_S1x8_d1 x))))))))

/-- Four entries repeated over 2048 columns read at the column's image. -/
theorem spread_apply {α : Type} (x : S1x4.Idx → α) (j : Fin 2048) :
    spread x (ix2 (0 : Fin 1) j) = x (ix2 (0 : Fin 1) (⟨j.val % 4, Nat.mod_lt _ (by decide)⟩ : Fin 4)) := by
  unfold spread
  rw [rep_apply 1024 2048 (by decide) rfl, rep_apply 512 1024 (by decide) rfl, rep_apply 256 512 (by decide) rfl, rep_apply 128 256 (by decide) rfl,
    rep_apply 64 128 (by decide) rfl, rep_apply 32 64 (by decide) rfl, rep_apply 16 32 (by decide) rfl, rep_apply 8 16 (by decide) rfl,
    rep_apply 4 8 (by decide) rfl]
  congr 2
  exact Fin.ext (by show j.val % 1024 % 512 % 256 % 128 % 64 % 32 % 16 % 8 % 4 = j.val % 4; omega)

variable {F : FTy → Type} [FloatOps F]

/-- Where a column's eighth record exceeds its image's hundredth. -/
def bad (cv : FVec F S8x2048 .f32) (cn : IVec S8x2048 32) (v : FVec F S1x4 .f32) (n : IVec S1x4 32) : IVec S1x2048 1 :=
  ori (cmpf .ogt (extractStridedSlice S1x2048 ![7, 0] cv slices_S8x2048_o7_0_S1x2048) (spread v))
    (andi (cmpf .oeq (extractStridedSlice S1x2048 ![7, 0] cv slices_S8x2048_o7_0_S1x2048) (spread v))
      (cmpi .slt (extractStridedSlice S1x2048 ![7, 0] cn slices_S8x2048_o7_0_S1x2048) (spread n)))

/-- The greatest of these bits. -/
def worst (b : IVec S1x2048 1) : BitVec 32 :=
  extractAt ![0, 0, 0] (shapeCast S1x1x1 (multiReductionI .maxsi [1, 2] S1 (shapeCast S1x1x2048 (extui 32 b natLt_1_32) shapeCasts_S1x2048_S1x1x2048)
    2147483648#32 reduces_S1x1x2048_S1 rfl) shapeCasts_S1_S1x1x1) inpos_S1x1x1_p0_0_0

/-- The body's check value is the greatest entry of `bad`. -/
theorem pay614 (cv : FVec F S8x2048 .f32) (cn : IVec S8x2048 32) (i : IVec S128x4 32) (v : FVec F S1x4 .f32) :
    Cert.KernelIdeal.Gen.k0_pay614 cv cn i v = broadcast S1x1 (worst (bad cv cn v (extractStridedSlice S1x4 ![99, 0] i slices_S128x4_o99_0_S1x4))) := by
  exact rfl

section
variable (c : Dev nD) (arg0 : Memref sig Kind.tc Space.vmem S192x2048 EltTy.f32) (f0 : BufTy.Contents (Elt F) arg0.view.ty)

/-- The hundredth records. -/
def v100 : FVec F S1x4 .f32 := extractStridedSlice S1x4 ![99, 0] (kernelRun.sl.r_166 c arg0 f0) slices_S128x4_o99_0_S1x4
/-- The positions in the images' hundredth records. -/
def n100 : IVec S1x4 32 := extractStridedSlice S1x4 ![99, 0] (kernelRun.sl.r_167 c arg0 f0) slices_S128x4_o99_0_S1x4

/-- The body's branch condition, from the eighth and the hundredth records. -/
theorem check_eq : kernelRun.sl.v2535 c arg0 f0 = Scalar.cmpi CmpIPredicate.ne (Scalar.extui
    (Scalar.cmpi CmpIPredicate.sge (worst (bad (kernelRun.sl.r_17 c arg0 f0) (kernelRun.sl.r_18 c arg0 f0) (v100 c arg0 f0) (n100 c arg0 f0))) 1#32)) 0#32 := by
  have h : kernelRun.sl.v2535 c arg0 f0 = Scalar.cmpi CmpIPredicate.ne (Scalar.extui (Scalar.cmpi CmpIPredicate.sge
    (extractAt ![0, 0] (Cert.KernelIdeal.Gen.k0_pay614 (kernelRun.sl.r_17 c arg0 f0) (kernelRun.sl.r_18 c arg0 f0) (kernelRun.sl.r_167 c arg0 f0) (v100 c arg0 f0))
      inpos_S1x1_p0_0) 1#32)) 0#32 := by exact rfl
  rw [pay614, show ∀ x : BitVec 32, extractAt ![0, 0] (broadcast S1x1 x) inpos_S1x1_p0_0 = x from fun x => rfl] at h
  unfold n100
  exact h
end

/-- When the result has one index, every index reduces into it. -/
theorem filter_all {t : Shape} (s : Shape) (axes : List (Fin s.rank)) (h : s.Reduces axes t) (j : t.Idx) (hj : ∀ j' : t.Idx, j' = j) :
    (Finset.univ.filter fun i => h.drop i = j) = Finset.univ := by
  ext i; simp [hj (h.drop i)]

/-- A one-element vector has one index. -/
theorem one_idx (j j' : S1.Idx) : j = j' := by
  rw [eq_ix1 j, eq_ix1 j']; congr 1; exact Subsingleton.elim (α := Fin 1) _ _

/-- Every bit is at most the greatest. -/
theorem worst_le (b : IVec S1x2048 1) (j : Fin 2048) : ((b (ix2 (0 : Fin 1) j)).setWidth 32).toInt ≤ (worst b).toInt := by
  have h : worst b = multiReductionI .maxsi [1, 2] S1 (shapeCast S1x1x2048 (extui 32 b natLt_1_32) shapeCasts_S1x2048_S1x1x2048)
      2147483648#32 reduces_S1x1x2048_S1 rfl (ix1 (0 : Fin 1)) := by
    unfold worst
    rw [show ∀ x : S1x1x1.Idx → BitVec 32, extractAt ![0, 0, 0] x inpos_S1x1x1_p0_0_0 = x (ix3 (0 : Fin 1) (0 : Fin 1) (0 : Fin 1)) from fun x => by
      unfold extractAt; congr 1; funext a; match a with
        | ⟨0, _⟩ => rfl
        | ⟨1, _⟩ => rfl
        | ⟨2, _⟩ => rfl]
    exact shapeCast_apply _ _ _ _ (by rw [Shape.rowMajor_val_three, Shape.rowMajor_val_one]; rfl)
  rw [h]
  have e := multiReductionI_eq_fold (axes := [1, 2]) (t := S1) .maxsi (shapeCast S1x1x2048 (extui 32 b natLt_1_32) shapeCasts_S1x2048_S1x1x2048)
      2147483648#32 reduces_S1x1x2048_S1 rfl (ix1 (0 : Fin 1))
  refine le_of_le_of_eq ?_ (congrArg BitVec.toInt e.symm)
  have := (fold_maxsi_spec (shapeCast S1x1x2048 (extui 32 b natLt_1_32) shapeCasts_S1x2048_S1x1x2048)
    (Finset.univ.filter fun i => (reduces_S1x1x2048_S1).drop i = (ix1 (0 : Fin 1) : S1.Idx)) 2147483648#32).2.1 (ix3 (0 : Fin 1) (0 : Fin 1) j)
    (Finset.mem_filter.2 ⟨Finset.mem_univ _, one_idx _ _⟩)
  refine le_of_eq_of_le ?_ this
  rw [shapeCast_apply _ _ _ (ix2 (0 : Fin 1) j) (by rw [Shape.rowMajor_val_three, Shape.rowMajor_val_two]; simp)]
  rfl

/-- Where the check passes, no bit is set. -/
theorem bad_none (b : IVec S1x2048 1) (h : ¬ Scalar.cmpi CmpIPredicate.ne (Scalar.extui (Scalar.cmpi CmpIPredicate.sge (worst b) 1#32)) 0#32 = 1#1)
    (j : Fin 2048) : ¬ b (ix2 (0 : Fin 1) j) = 1#1 := by
  intro hb
  have hw := worst_le b j
  rw [hb] at hw
  have h1 : (1#32 : BitVec 32).toInt ≤ (worst b).toInt := hw
  have e : Scalar.cmpi CmpIPredicate.sge (worst b) 1#32 = 1#1 := by
    show BitVec.ofBool (BitVec.sle 1#32 (worst b)) = 1#1
    rw [ofBool_eq_one_iff, BitVec.sle_eq_decide, decide_eq_true h1]
  rw [e] at h
  exact h (by decide)

/-- The bit of a column. -/
theorem bad_apply (cv : FVec Ideal S8x2048 .f32) (cn : IVec S8x2048 32) (v : FVec Ideal S1x4 .f32) (n : IVec S1x4 32) (j : Fin 2048) :
    bad cv cn v n (ix2 (0 : Fin 1) j) = BitVec.ofBool (decide (
      key (v (ix2 (0 : Fin 1) (⟨j.val % 4, Nat.mod_lt _ (by decide)⟩ : Fin 4))) (n (ix2 (0 : Fin 1) (⟨j.val % 4, Nat.mod_lt _ (by decide)⟩ : Fin 4)))
        < key (cv (ix2 (⟨7, by decide⟩ : Fin 8) j)) (cn (ix2 (⟨7, by decide⟩ : Fin 8) j)))) := by
  unfold bad
  have e1 : ∀ {α : Type} (x : S8x2048.Idx → α), extractStridedSlice S1x2048 ![7, 0] x slices_S8x2048_o7_0_S1x2048 (ix2 (0 : Fin 1) j) = x (ix2 (⟨7, by decide⟩ : Fin 8) j) :=
    fun x => extractStridedSlice_apply _ _ _ _ _ (fun b => by
      match b with
      | ⟨0, _⟩ => rfl
      | ⟨1, _⟩ => show j.val = 0 + j.val; omega)
  show (Ideal.cmp .ogt (extractStridedSlice S1x2048 ![7, 0] cv slices_S8x2048_o7_0_S1x2048 (ix2 (0 : Fin 1) j)) (spread v (ix2 (0 : Fin 1) j)))
    ||| ((Ideal.cmp .oeq (extractStridedSlice S1x2048 ![7, 0] cv slices_S8x2048_o7_0_S1x2048 (ix2 (0 : Fin 1) j)) (spread v (ix2 (0 : Fin 1) j)))
    &&& BitVec.ofBool (BitVec.slt (extractStridedSlice S1x2048 ![7, 0] cn slices_S8x2048_o7_0_S1x2048 (ix2 (0 : Fin 1) j)) (spread n (ix2 (0 : Fin 1) j)))) = _
  rw [e1, e1, spread_apply, spread_apply]
  exact beats_eq _ _ _ _

/-- Row 99 of the network's result, read at an image. -/
theorem row99 {α : Type} (x : S128x4.Idx → α) (b : Fin 4) :
    extractStridedSlice S1x4 ![99, 0] x slices_S128x4_o99_0_S1x4 (ix2 (0 : Fin 1) b) = x (ix2 (⟨99, by decide⟩ : Fin 128) b) :=
  extractStridedSlice_apply _ _ _ _ _ (fun a => by
      match a with
      | ⟨0, _⟩ => rfl
      | ⟨1, _⟩ => show b.val = 0 + b.val; omega)

section
variable (c : Dev nD) (arg0 : Memref sig Kind.tc Space.vmem S192x2048 EltTy.f32) (f0 : BufTy.Contents (Elt Ideal) arg0.view.ty)
/-- The hundredth score of an image is entry 99 of its column, -/
theorem v100_apply (b : Fin 4) : v100 c arg0 f0 (ix2 (0 : Fin 1) b) = kernelRun.sl.r_166 c arg0 f0 (ix2 (⟨99, by decide⟩ : Fin 128) b) := row99 _ b
/-- and so is its position. -/
theorem n100_apply (b : Fin 4) : n100 c arg0 f0 (ix2 (0 : Fin 1) b) = kernelRun.sl.r_167 c arg0 f0 (ix2 (⟨99, by decide⟩ : Fin 128) b) := row99 _ b
end

section
variable (c : Dev nD) (arg0 : Memref sig Kind.tc Space.vmem S192x2048 EltTy.f32) (f0 : BufTy.Contents (Elt Ideal) arg0.view.ty)

/-- Where the check passes, a column's eighth record is at most its image's hundredth. -/
theorem check_le (h : ¬ kernelRun.sl.v2535 c arg0 f0 = 1#1) (j : Fin 2048) :
    took (scoresIn arg0 f0) j 7 ≤ rec (kernelRun.sl.r_166 c arg0 f0) (kernelRun.sl.r_167 c arg0 f0) (⟨99, by decide⟩ : Fin 128)
      (⟨j.val % 4, Nat.mod_lt _ (by decide)⟩ : Fin 4) := by
  have hb := bad_none _ (fun hc => h ((check_eq c arg0 f0).trans hc)) j
  clear h
  by_contra hlt
  rw [not_le, ← rec_took c arg0 f0 (⟨7, by decide⟩ : Fin 8) j] at hlt
  apply hb
  rw [bad_apply, v100_apply, n100_apply, ofBool_eq_one_iff, decide_eq_true_eq]
  exact hlt
end

/-- The records of an image. -/
def imgRecs (s : FVec Ideal S192x2048 .f32) (b : ℕ) : List E := recs (imgA b) s kernelRun.sl.r

/-- A column's records are distinct, -/
theorem nodup_colRecs (s : FVec Ideal S192x2048 .f32) (j : ℕ) : (colRecs s j).Nodup :=
  nodup_recs fun i hi i' hi' => position_inj i (colA_sub _ hi) i' (colA_sub _ hi')

/-- and an image's are. -/
theorem nodup_imgRecs (s : FVec Ideal S192x2048 .f32) (b : ℕ) : (imgRecs s b).Nodup := nodup_recs position_inj

/-- The columns of an image share no record. -/
theorem base_disjoint (s : FVec Ideal S192x2048 .f32) (j j' : ℕ) (hj : j < 2048) (hj' : j' < 2048) (h4 : j % 4 = j' % 4) (x : E)
    (hx : x ∈ base s j) (hx' : x ∈ base s j') : j = j' := by
  obtain ⟨i, hi, e⟩ := mem_recs.1 (mem_of_mem_topList hx)
  obtain ⟨i', hi', e'⟩ := mem_recs.1 (mem_of_mem_topList hx')
  have hq := (key_inj (e.trans e'.symm)).2
  have := position_inj i (colA_sub _ hi) i' (by rw [h4]; exact colA_sub _ hi') hq
  subst this
  rw [← mem_colA.1 hi, ← mem_colA.1 hi']

/-- Every column's list of eight holds its group of columns' greatest at the start. -/
theorem holds_base (s : FVec Ideal S192x2048 .f32) : Holds (base s) 4 (gather (base s)) :=
  holds_gather (base_disjoint s) fun j _ => nodup_topList (nodup_colRecs s j)

section
variable (c : Dev nD) (arg0 : Memref sig Kind.tc Space.vmem S192x2048 EltTy.f32) (f0 : BufTy.Contents (Elt Ideal) arg0.view.ty)

/-- Where the check passes, the first hundred rows of an image's column are the image's hundred greatest records. -/
theorem top100 (hs : ∀ i, ⊥ < scoresIn arg0 f0 i) (h : ¬ kernelRun.sl.v2535 c arg0 f0 = 1#1) (b : Fin 4) :
    (colL (kernelRun.sl.r_166 c arg0 f0) (kernelRun.sl.r_167 c arg0 f0) b).take 100 = topList 100 (imgRecs (scoresIn arg0 f0) b.val) := by
  have hnet := network_col c arg0 f0 _ (inv_base c arg0 f0 hs) b
  obtain ⟨hnd, hmem⟩ := holds_base (scoresIn arg0 f0) b.val b.isLt
  have hlen := colL_length (kernelRun.sl.r_166 c arg0 f0) (kernelRun.sl.r_167 c arg0 f0) b
  have hrow := colL_getElem (kernelRun.sl.r_166 c arg0 f0) (kernelRun.sl.r_167 c arg0 f0) b 99 (by rw [hlen]; decide)
  have hle : ∀ j : Fin 2048, j.val % 4 = b.val → took (scoresIn arg0 f0) j 7 ≤ rec (kernelRun.sl.r_166 c arg0 f0) (kernelRun.sl.r_167 c arg0 f0) (⟨99, by decide⟩ : Fin 128) b := by
    intro j hj
    have := check_le c arg0 f0 h j
    rwa [show (⟨j.val % 4, Nat.mod_lt _ (by decide)⟩ : Fin 4) = b from Fin.ext hj] at this
  rw [hnet] at hlen
  have hrow' : (topList 128 (gather (base (scoresIn arg0 f0)) b.val))[99]'(by rw [hlen]; decide)
      = rec (kernelRun.sl.r_166 c arg0 f0) (kernelRun.sl.r_167 c arg0 f0) (⟨99, by decide⟩ : Fin 128) b := by
    rw [← hrow]; congr 1; exact hnet.symm
  rw [← hrow'] at hle
  rw [hnet]
  clear hnet hrow hrow' h
  generalize gather (base (scoresIn arg0 f0)) b.val = G at *
  have hGL : ∀ x ∈ G, x ∈ imgRecs (scoresIn arg0 f0) b.val := by
    intro x hx
    obtain ⟨j, hj, hjm, hxb⟩ := (hmem x).1 hx
    obtain ⟨i, hi, e⟩ := mem_recs.1 (mem_of_mem_topList hxb)
    exact mem_recs.2 ⟨i, hjm ▸ colA_sub j hi, e⟩
  have htake : (topList 128 G).take 100 = topList 100 G := by
    unfold topList; rw [List.take_take]; rfl
  rw [htake]
  refine topList_eq_of_subset (nodup_imgRecs _ _) hnd hGL fun x hx => ?_
  by_contra hxG
  obtain ⟨i, hi, e⟩ := mem_recs.1 (mem_of_mem_topList hx)
  have hj : (i 1).val < 2048 := (i 1).isLt
  have hjb := mem_imgA.1 hi
  have hxcol : x ∈ colRecs (scoresIn arg0 f0) (i 1).val := mem_recs.2 ⟨i, mem_colA.2 rfl, e⟩
  have hxn : x ∉ base (scoresIn arg0 f0) (i 1).val := fun hc => hxG ((hmem x).2 ⟨_, hj, hjb, hc⟩)
  have h7 : took (scoresIn arg0 f0) (i 1) 7 ∈ base (scoresIn arg0 f0) (i 1).val := by
    rw [← took_base arg0 f0 hs (i 1)]
    exact List.mem_map_of_mem (List.mem_range.2 (by decide))
  have hx99 := le_trans (le_of_not_mem_topList h7 hxcol hxn) (hle (i 1) hjb)
  -- the hundred records the network has are greater
  have hgt : ∀ y ∈ topList 100 G, x < y := by
    intro y hy
    have hy' : y ∈ (topList 128 G).take 100 := by rw [htake]; exact hy
    obtain ⟨k, hk, rfl⟩ := List.getElem_of_mem hy'
    have hk' : k < 100 := by simp at hk; omega
    rw [List.getElem_take] at hy ⊢
    refine lt_of_le_of_ne (le_trans hx99 ?_) fun hc => hxG (by rw [hc]; exact mem_of_mem_topList (List.getElem_mem _))
    rcases Nat.lt_or_ge k 99 with hk99 | hk99
    · exact (List.pairwise_iff_getElem.1 (pairwise_topList 128 G)) k 99 _ _ hk99
    · have : k = 99 := by omega
      subst this; exact le_refl _
  have hcount := countP_lt_of_mem_topList hx
  have hsub : (topList 100 G).Subperm (imgRecs (scoresIn arg0 f0) b.val) :=
    List.subperm_of_subset (nodup_topList hnd) fun y hy => hGL y (mem_of_mem_topList hy)
  have hc2 := hsub.countP_le (fun y => decide (x < y))
  rw [List.countP_eq_length.2 (fun y hy => by simpa using hgt y hy), ← htake, List.length_take, hlen] at hc2
  simp at hc2
  omega
end

end Cert.Model
-- ==== Proof.BodyOut.lean ====
/-
  What the body leaves in the result's buffer: the blocks of the four images, one row of the buffer each, whichever of the
  two ways the hundred picks of an image were found. Generic in the values.
-/
module

public import proofs.«01_k».proof.Proof.IdealFrame
public import proofs.«01_k».proof.Proof.Gen.KernelIdeal.Skeleton
public import proofs.«01_k».proof.Proof.Gen.KernelIdeal.Loops
public import Idealize.ShloMosaic.Lib.Claim
public import Idealize.ShloMosaic.Lib.Pipeline.Frame
public import Idealize.ShloMosaic.Lib.Tactic

@[expose] public section

set_option maxRecDepth 65536

noncomputable section

namespace Cert.KernelIdeal.Outp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four blocks stored when eight maxima of every column are enough. -/
def piecesN (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole) (f0 : BufTy.Contents (Elt F) arg0.view.ty) (f1 : BufTy.Contents (Elt F) arg1.view.ty) (f2 : BufTy.Contents (Elt F) arg2.view.ty) :=
    ([⟨Rect.unit ![3, 0, 0] S1x8x128.size inb_S4x8x128_S1x8x128_3_0_0,
      k0_pay1 (Hand.kernelRun.sl.v4106_1 c arg0 arg4 f0) (Hand.kernelRun.sl.r_732 c arg0 arg1 arg5 f0 f1)
      (Hand.kernelRun.sl.r_738 c arg0 arg1 arg5 f0 f1) (Hand.kernelRun.sl.r_739 c arg2 f2) (Hand.kernelRun.sl.r_740 c arg2 f2)
      (Hand.kernelRun.sl.r_741 c arg0 arg1 arg2 arg5 f0 f1 f2) (Hand.kernelRun.sl.r_742 c arg0 arg1 arg2 arg5 f0 f1 f2)
      (Hand.kernelRun.sl.r_743 c arg0 arg1 arg2 arg5 f0 f1 f2) (Hand.kernelRun.sl.r_744 c arg0 arg1 arg2 arg5 f0 f1 f2)
      (Hand.kernelRun.sl.r_745 c arg0 arg1 arg5 f0 f1)⟩,
      ⟨Rect.unit ![2, 0, 0] S1x8x128.size inb_S4x8x128_S1x8x128_2_0_0,
      k0_pay907 (Hand.kernelRun.sl.v3583_1 c arg0 arg4 f0) (Hand.kernelRun.sl.r_657 c arg0 arg1 arg5 f0 f1)
      (Hand.kernelRun.sl.r_660 c arg0 arg1 arg5 f0 f1) (Hand.kernelRun.sl.r_664 c arg2 f2)
      (Hand.kernelRun.sl.r_665 c arg0 arg1 arg2 arg5 f0 f1 f2) (Hand.kernelRun.sl.r_666 c arg0 arg1 arg2 arg5 f0 f1 f2)
      (Hand.kernelRun.sl.r_667 c arg0 arg1 arg2 arg5 f0 f1 f2) (Hand.kernelRun.sl.r_668 c arg0 arg1 arg2 arg5 f0 f1 f2)
      (Hand.kernelRun.sl.r_669 c arg0 arg1 arg2 arg5 f0 f1 f2) k0_pay906⟩,
      ⟨Rect.unit ![1, 0, 0] S1x8x128.size inb_S4x8x128_S1x8x128_1_0_0,
      k0_pay811 (Hand.kernelRun.sl.v3060_1 c arg0 arg4 f0) (Hand.kernelRun.sl.r_593 c arg0 arg1 arg2 arg5 f0 f1 f2)
      (Hand.kernelRun.sl.r_594 c arg0 arg1 arg2 arg5 f0 f1 f2) (Hand.kernelRun.sl.r_595 c arg0 arg1 arg2 arg5 f0 f1 f2)
      (Hand.kernelRun.sl.r_596 c arg0 arg1 arg2 arg5 f0 f1 f2) (Hand.kernelRun.sl.r_597 c arg0 arg1 arg2 arg5 f0 f1 f2)
      (Hand.kernelRun.sl.r_598 c arg0 arg1 arg2 arg5 f0 f1 f2)⟩,
      ⟨Rect.unit ![0, 0, 0] S1x8x128.size inb_S4x8x128_S1x8x128_0_0_0,
      k0_pay718 (Hand.kernelRun.sl.r_527 c arg0 arg1 arg2 arg4 arg5 f0 f1 f2)⟩] : List (View.Piece (Elt F) S4x8x128 .f32))

/-- The four blocks stored when they are not, and the picks are found one by one. -/
def piecesF (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole) (f0 : BufTy.Contents (Elt F) arg0.view.ty) (f1 : BufTy.Contents (Elt F) arg1.view.ty) (f2 : BufTy.Contents (Elt F) arg2.view.ty) :=
    ([⟨Rect.unit ![3, 0, 0] S1x8x128.size inb_S4x8x128_S1x8x128_3_0_0,
      k0_pay1 (Hand.kernelRun.sl.v4106 c arg0 harg0 arg1 harg1 arg2 harg2 arg3 harg3 arg4 harg4 arg5 harg5 arg6 harg6 f0)
      (Hand.kernelRun.sl.r_448 c arg0 harg0 arg1 harg1 arg2 harg2 arg3 harg3 arg4 harg4 arg5 harg5 arg6 harg6 f0 f1)
      (Hand.kernelRun.sl.r_454 c arg0 harg0 arg1 harg1 arg2 harg2 arg3 harg3 arg4 harg4 arg5 harg5 arg6 harg6 f0 f1)
      (Hand.kernelRun.sl.r_455 c arg2 f2) (Hand.kernelRun.sl.r_456 c arg2 f2)
      (Hand.kernelRun.sl.r_457 c arg0 harg0 arg1 harg1 arg2 harg2 arg3 harg3 arg4 harg4 arg5 harg5 arg6 harg6 f0 f1 f2)
      (Hand.kernelRun.sl.r_458 c arg0 harg0 arg1 harg1 arg2 harg2 arg3 harg3 arg4 harg4 arg5 harg5 arg6 harg6 f0 f1 f2)
      (Hand.kernelRun.sl.r_459 c arg0 harg0 arg1 harg1 arg2 harg2 arg3 harg3 arg4 harg4 arg5 harg5 arg6 harg6 f0 f1 f2)
      (Hand.kernelRun.sl.r_460 c arg0 harg0 arg1 harg1 arg2 harg2 arg3 harg3 arg4 harg4 arg5 harg5 arg6 harg6 f0 f1 f2)
      (Hand.kernelRun.sl.r_461 c arg0 harg0 arg1 harg1 arg2 harg2 arg3 harg3 arg4 harg4 arg5 harg5 arg6 harg6 f0 f1)⟩,
      ⟨Rect.unit ![2, 0, 0] S1x8x128.size inb_S4x8x128_S1x8x128_2_0_0,
      k0_pay907 (Hand.kernelRun.sl.v3583 c arg0 harg0 arg1 harg1 arg2 harg2 arg3 harg3 arg4 harg4 arg5 harg5 arg6 harg6 f0)
      (Hand.kernelRun.sl.r_373 c arg0 harg0 arg1 harg1 arg2 harg2 arg3 harg3 arg4 harg4 arg5 harg5 arg6 harg6 f0 f1)
      (Hand.kernelRun.sl.r_376 c arg0 harg0 arg1 harg1 arg2 harg2 arg3 harg3 arg4 harg4 arg5 harg5 arg6 harg6 f0 f1)
      (Hand.kernelRun.sl.r_380 c arg2 f2)
      (Hand.kernelRun.sl.r_381 c arg0 harg0 arg1 harg1 arg2 harg2 arg3 harg3 arg4 harg4 arg5 harg5 arg6 harg6 f0 f1 f2)
      (Hand.kernelRun.sl.r_382 c arg0 harg0 arg1 harg1 arg2 harg2 arg3 harg3 arg4 harg4 arg5 harg5 arg6 harg6 f0 f1 f2)
      (Hand.kernelRun.sl.r_383 c arg0 harg0 arg1 harg1 arg2 harg2 arg3 harg3 arg4 harg4 arg5 harg5 arg6 harg6 f0 f1 f2)
      (Hand.kernelRun.sl.r_384 c arg0 harg0 arg1 harg1 arg2 harg2 arg3 harg3 arg4 harg4 arg5 harg5 arg6 harg6 f0 f1 f2)
      (Hand.kernelRun.sl.r_385 c arg0 harg0 arg1 harg1 arg2 harg2 arg3 harg3 arg4 harg4 arg5 harg5 arg6 harg6 f0 f1 f2)
      k0_pay906⟩,
      ⟨Rect.unit ![1, 0, 0] S1x8x128.size inb_S4x8x128_S1x8x128_1_0_0,
      k0_pay811 (Hand.kernelRun.sl.v3060 c arg0 harg0 arg1 harg1 arg2 harg2 arg3 harg3 arg4 harg4 arg5 harg5 arg6 harg6 f0)
      (Hand.kernelRun.sl.r_309 c arg0 harg0 arg1 harg1 arg2 harg2 arg3 harg3 arg4 harg4 arg5 harg5 arg6 harg6 f0 f1 f2)
      (Hand.kernelRun.sl.r_310 c arg0 harg0 arg1 harg1 arg2 harg2 arg3 harg3 arg4 harg4 arg5 harg5 arg6 harg6 f0 f1 f2)
      (Hand.kernelRun.sl.r_311 c arg0 harg0 arg1 harg1 arg2 harg2 arg3 harg3 arg4 harg4 arg5 harg5 arg6 harg6 f0 f1 f2)
      (Hand.kernelRun.sl.r_312 c arg0 harg0 arg1 harg1 arg2 harg2 arg3 harg3 arg4 harg4 arg5 harg5 arg6 harg6 f0 f1 f2)
      (Hand.kernelRun.sl.r_313 c arg0 harg0 arg1 harg1 arg2 harg2 arg3 harg3 arg4 harg4 arg5 harg5 arg6 harg6 f0 f1 f2)
      (Hand.kernelRun.sl.r_314 c arg0 harg0 arg1 harg1 arg2 harg2 arg3 harg3 arg4 harg4 arg5 harg5 arg6 harg6 f0 f1 f2)⟩,
      ⟨Rect.unit ![0, 0, 0] S1x8x128.size inb_S4x8x128_S1x8x128_0_0_0,
      k0_pay718
      (Hand.kernelRun.sl.r_243 c arg0 harg0 arg1 harg1 arg2 harg2 arg3 harg3 arg4 harg4 arg5 harg5 arg6 harg6 f0 f1 f2)⟩] : List (View.Piece (Elt F) S4x8x128 .f32))

/-- The result's buffer at the end of the body. -/
def out (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty) : Vec F S4x8x128 .f32 :=
  if Hand.kernelRun.sl.v2535 c arg0 f0 = 1#1 then View.canon (piecesF c arg0 harg0 arg1 harg1 arg2 harg2 arg3 harg3 arg4 harg4 arg5 harg5 arg6 harg6 f0 f1 f2)
  else View.canon (piecesN c arg0 harg0 arg1 harg1 arg2 harg2 arg3 harg3 arg4 harg4 arg5 harg5 arg6 harg6 f0 f1 f2)

/-- Where the check fails, the body writes the pieces of the fallback branch, -/
theorem out_of_short (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty) (h : Hand.kernelRun.sl.v2535 c arg0 f0 = 1#1) :
    out c arg0 harg0 arg1 harg1 arg2 harg2 arg3 harg3 arg4 harg4 arg5 harg5 arg6 harg6 f0 f1 f2 = View.canon (piecesF c arg0 harg0 arg1 harg1 arg2 harg2 arg3 harg3 arg4 harg4 arg5 harg5 arg6 harg6 f0 f1 f2) := if_pos h

/-- and where it passes, those of the other. -/
theorem out_of_enough (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty) (h : ¬ Hand.kernelRun.sl.v2535 c arg0 f0 = 1#1) :
    out c arg0 harg0 arg1 harg1 arg2 harg2 arg3 harg3 arg4 harg4 arg5 harg5 arg6 harg6 f0 f1 f2 = View.canon (piecesN c arg0 harg0 arg1 harg1 arg2 harg2 arg3 harg3 arg4 harg4 arg5 harg5 arg6 harg6 f0 f1 f2) := if_neg h

/-- The four rows of the result's buffer, written one by one, -/
def rows (w3 w2 w1 w0 : Vec F S1x8x128 .f32) : List (View.Piece (Elt F) S4x8x128 .f32) :=
  [⟨Rect.unit ![3, 0, 0] S1x8x128.size inb_S4x8x128_S1x8x128_3_0_0, w3⟩,
   ⟨Rect.unit ![2, 0, 0] S1x8x128.size inb_S4x8x128_S1x8x128_2_0_0, w2⟩,
   ⟨Rect.unit ![1, 0, 0] S1x8x128.size inb_S4x8x128_S1x8x128_1_0_0, w1⟩,
   ⟨Rect.unit ![0, 0, 0] S1x8x128.size inb_S4x8x128_S1x8x128_0_0_0, w0⟩]

/-- cover the buffer, -/
theorem rows_cover (w3 w2 w1 w0 : Vec F S1x8x128 .f32) (y : S4x8x128.Idx) : ∃ p ∈ rows w3 w2 w1 w0, y ∈ p.1.set := by
  have h0 : (y 0).val < 4 := (y 0).isLt
  have h1 : (y 1).val < 8 := (y 1).isLt
  have h2 : (y 2).val < 128 := (y 2).isLt
  have hc : (y 0).val = 0 ∨ (y 0).val = 1 ∨ (y 0).val = 2 ∨ (y 0).val = 3 := by omega
  simp only [rows, List.mem_cons, List.not_mem_nil, or_false, exists_eq_or_imp, exists_eq_left, Rect.mem_set_unit]
  rcases hc with h | h | h | h
  · right; right; right; intro a; fin_cases a <;> simp [h, h1, h2, S1x8x128] <;> omega
  · right; right; left; intro a; fin_cases a <;> simp [h, h1, h2, S1x8x128] <;> omega
  · right; left; intro a; fin_cases a <;> simp [h, h1, h2, S1x8x128] <;> omega
  · left; intro a; fin_cases a <;> simp [h, h1, h2, S1x8x128] <;> omega

/-- The branch's pieces read back are what the body leaves, where the check passes, -/
theorem outN_read (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty) (f3 : BufTy.Contents (Elt F) arg3.view.ty) :
    arg3.view.read (Elt F) (arg3.view.writes (Elt F) f3 (piecesN c arg0 harg0 arg1 harg1 arg2 harg2 arg3 harg3 arg4 harg4 arg5 harg5 arg6 harg6 f0 f1 f2)) = View.canon (piecesN c arg0 harg0 arg1 harg1 arg2 harg2 arg3 harg3 arg4 harg4 arg5 harg5 arg6 harg6 f0 f1 f2) := by
  exact View.read_writes_eq_canon arg3.view f3 _ (rows_cover _ _ _ _)

/-- and where it fails. -/
theorem outF_read (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty) (f3 : BufTy.Contents (Elt F) arg3.view.ty) :
    arg3.view.read (Elt F) (arg3.view.writes (Elt F) f3 (piecesF c arg0 harg0 arg1 harg1 arg2 harg2 arg3 harg3 arg4 harg4 arg5 harg5 arg6 harg6 f0 f1 f2)) = View.canon (piecesF c arg0 harg0 arg1 harg1 arg2 harg2 arg3 harg3 arg4 harg4 arg5 harg5 arg6 harg6 f0 f1 f2) := by
  exact View.read_writes_eq_canon arg3.view f3 _ (rows_cover _ _ _ _)

/-- The body on whole memrefs, its three inputs at read contents and everything it writes at some contents, runs to its
    return with the inputs as they were and `out` of them in the result's buffer. -/
theorem bodyRun (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (x0 : Vec F S192x2048 .f32) (x1 : Vec F S4x72x8192 .f32) (x2 : Vec F S4x3 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2
        ∗ owns (c : Thread nD τ) arg3 fullShare (out c arg0 harg0 arg1 harg1 arg2 harg2 arg3 harg3 arg4 harg4 arg5 harg5 arg6 harg6 (harg0.unread x0) (harg1.unread x1) (harg2.unread x2)) ∗ (∃ d, owns (c : Thread nD τ) arg4 fullShare d)
        ∗ (∃ d, owns (c : Thread nD τ) arg5 fullShare d) ∗ (∃ d, owns (c : Thread nD τ) arg6 fullShare d)) -∗ K ⟨⟩))
      ⊢ wp frame (wpE (defs₀ (F := F)) Variants.none c none) Set.univ
          (cc0__proposal_kernel arg0 harg0 arg1 harg1 arg2 harg2 arg3 harg3 arg4 harg4 arg5 harg5 arg6 harg6) K := by
  simp only [cc0__proposal_kernel_eq_skeleton]; unfold cc0__proposal_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg0.eq_unread hf0
  obtain rfl := harg1.eq_unread hf1
  obtain rfl := harg2.eq_unread hf2
  generalize harg0.unread x0 = f0 at hf0 ⊢
  generalize harg1.unread x1 = f1 at hf1 ⊢
  generalize harg2.unread x2 = f2 at hf2 ⊢
  sl_exec
  rcases Hand.one_or_not (bodyRun.sl.v2535 c arg0 f0) with h | h
  · sl_exec
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists _; isplitr; swap; · iexact H3
      ipureintro
      exact (outF_read c arg0 harg0 arg1 harg1 arg2 harg2 arg3 harg3 arg4 harg4 arg5 harg5 arg6 harg6 f0 f1 f2 f3).trans (out_of_short c arg0 harg0 arg1 harg1 arg2 harg2 arg3 harg3 arg4 harg4 arg5 harg5 arg6 harg6 f0 f1 f2 h).symm
    isplitl [H4]
    · iexists _, _; isplitr; swap; · iexact H4
      ipureintro; rfl
    isplitl [H5]
    · iexists _, _; isplitr; swap; · iexact H5
      ipureintro; rfl
    iexists _, _; isplitr; swap; · iexact H6
    ipureintro; rfl
  · sl_exec
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists _; isplitr; swap; · iexact H3
      ipureintro
      exact (outN_read c arg0 harg0 arg1 harg1 arg2 harg2 arg3 harg3 arg4 harg4 arg5 harg5 arg6 harg6 f0 f1 f2 f3).trans (out_of_enough c arg0 harg0 arg1 harg1 arg2 harg2 arg3 harg3 arg4 harg4 arg5 harg5 arg6 harg6 f0 f1 f2 h).symm
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

end Cert.KernelIdeal.Outp

end
-- ==== Proof.Tail.lean ====
module

public import proofs.«01_k».proof.Proof.BodyOut
public import proofs.«01_k».proof.Proof.Words

/-
  What the kernel does for one image once its hundred scores and positions are picked, written again as functions of
  blocks: the offsets at the picked positions, the anchor boxes there, the boxes they make, clipped, and the rows of the
  result.  The printed program does it four times over, once for every image, and twice, once for either way of picking.
-/

@[expose] public section

set_option maxRecDepth 65536

noncomputable section

open Idealize.ShloMosaic

namespace Cert.KernelIdeal.Tail

open Cert.KernelIdeal Cert.KernelIdeal.Hand Facts₀ Facts

variable {F : FTy → Type} [FloatOps F]

/-- A lane of words. -/
abbrev L := IVec S1x128 32
/-- A lane of numbers. -/
abbrev R (F : FTy → Type) := FVec F S1x128 .f32

/-- One number on every lane. -/
def num (w : BitVec 32) : R F := broadcast S1x128 (Scalar.ofBits (F := F) .f32 w)

/-- The quotient rounded down, lane by lane. -/
def vdiv (d : BitVec 32) (x : L) : L :=
  select (andi (cmpi .ne (subi (extui 32 (cmpi .sgt x (broadcast S1x128 0#32)) natLt_1_32) (extui 32 (cmpi .slt x (broadcast S1x128 0#32)) natLt_1_32))
      (broadcast S1x128 (Scalar.subi (Scalar.extui (Scalar.cmpi .sgt d 0#32)) (Scalar.extui (Scalar.cmpi .slt d 0#32)))))
      (cmpi .ne (remsi x (broadcast S1x128 d)) (broadcast S1x128 0#32)))
    (subi (divsi x (broadcast S1x128 d)) (broadcast S1x128 1#32)) (divsi x (broadcast S1x128 d))

/-- The divisor of a remainder: one instead of zero. -/
def nz (d : BitVec 32) : BitVec 32 := Scalar.select (Scalar.cmpi .eq d 0#32) 1#32 d

/-- The remainder of the quotient rounded down, lane by lane. -/
def vmod (d : BitVec 32) (x : L) : L :=
  select (andi (xori (cmpi .slt (remsi x (broadcast S1x128 (nz d))) (broadcast S1x128 0#32))
        (broadcastTo S1x128 (broadcast S1x128 (Scalar.cmpi .slt (nz d) 0#32)) broadcasts_S1x128_S1x128))
      (cmpi .ne (remsi x (broadcast S1x128 (nz d))) (broadcast S1x128 0#32)))
    (addi (remsi x (broadcast S1x128 (nz d))) (broadcast S1x128 (nz d))) (remsi x (broadcast S1x128 (nz d)))

/-- The cell of a position, -/
def cell (n : L) : L := vdiv 12#32 n
/-- and its anchor. -/
def anchor (n : L) : L := subi n (muli (cell n) (broadcast S1x128 12#32))

/-- One where the cell of the lane is the row's cell of the chunk starting at `s`. -/
def oneHot (s : BitVec 32) (p : L) : FVec F S1024x128 .f32 :=
  sitofp .f32 (extui 32 (cmpi .eq (addi (iota .tc S1024x128 32 [0] iota_S1024x128_d0_w32) (broadcast S1024x128 s))
    (broadcastTo S1024x128 p broadcasts_S1x128_S1024x128)) natLt_1_32)

/-- The offsets of one chunk of cells, at the lanes' cells. -/
def chunk (s : BitVec 32) (p : L) (X : Vec F S1x72x1024 .f32) : FVec F S72x128 .f32 :=
  matmul dot_S72x1024_S1024x128_S72x128_1_0_0_1_n_n none (shapeCast S72x1024 X shapeCasts_S1x72x1024_S72x1024) (oneHot s p)
    (constant S72x128 .f32 0x00000000#32)

/-- The offsets at the lanes' cells: the sum over the chunks. -/
def gather (p : L) (B : Fin 8 → Vec F S1x72x1024 .f32) : FVec F S72x128 .f32 :=
  addf (addf (addf (addf (addf (addf (addf (addf (broadcast S72x128 (Scalar.ofBits .f32 0x00000000#32)) (chunk 0#32 p (B 0))) (chunk 1024#32 p (B 1)))
    (chunk 2048#32 p (B 2))) (chunk 3072#32 p (B 3))) (chunk 4096#32 p (B 4))) (chunk 5120#32 p (B 5))) (chunk 6144#32 p (B 6))) (chunk 7168#32 p (B 7))

/-- Anchor `n`'s six rows lie inside the 72. -/
theorem slices6 (n : ℕ) (hn : n < 12) : S72x128.Slices ![6 * n, 0] S6x128 :=
  ⟨rfl, fun a => by match a with | ⟨0, _⟩ => (show 6 * n + 6 ≤ 72; omega) | ⟨1, _⟩ => (show 0 + 128 ≤ 128; omega)⟩

/-- The six offsets of the lanes' anchors, the first `n` anchors seen to. -/
def picks (G : FVec F S72x128 .f32) (a : L) : (n : ℕ) → n ≤ 12 → FVec F S6x128 .f32
  | 0, _ => broadcast S6x128 (Scalar.ofBits .f32 0x00000000#32)
  | n + 1, h => select (broadcastTo S6x128 (shapeCast S1x128 (cmpi .eq a (broadcast S1x128 (BitVec.ofNat 32 n))) shapeCasts_S1x128_S1x128) broadcasts_S1x128_S6x128)
      (extractStridedSlice S6x128 ![6 * n, 0] G (slices6 n h)) (picks G a n (Nat.le_of_succ_le h))

/-- The anchors' coordinates, as words of numbers. -/
def coords : Fin 6 → Fin 12 → BitVec 32 :=
  ![![0xC2180000#32, 0xC2A80000#32, 0xC3300000#32, 0xC3B40000#32, 0xC1C00000#32, 0xC2600000#32, 0xC2F00000#32, 0xC3780000#32, 0xC1600000#32, 0xC2100000#32, 0xC2A00000#32, 0xC3280000#32],
    ![0xC1800000#32, 0xC2200000#32, 0xC2B00000#32, 0xC3380000#32, 0xC1C00000#32, 0xC2600000#32, 0xC2F00000#32, 0xC3780000#32, 0xC2100000#32, 0xC2A00000#32, 0xC3280000#32, 0xC3AC0000#32],
    ![0x00000000#32, 0x00000000#32, 0x00000000#32, 0x00000000#32, 0x00000000#32, 0x00000000#32, 0x00000000#32, 0x00000000#32, 0x00000000#32, 0x00000000#32, 0x00000000#32, 0x00000000#32],
    ![0x42540000#32, 0x42C60000#32, 0x433F0000#32, 0x43BB8000#32, 0x421C0000#32, 0x428E0000#32, 0x43070000#32, 0x43838000#32, 0x41E80000#32, 0x424C0000#32, 0x42BE0000#32, 0x43370000#32],
    ![0x41F80000#32, 0x425C0000#32, 0x42CE0000#32, 0x43470000#32, 0x421C0000#32, 0x428E0000#32, 0x43070000#32, 0x43838000#32, 0x424C0000#32, 0x42BE0000#32, 0x43370000#32, 0x43B38000#32],
    ![0x41700000#32, 0x41700000#32, 0x41700000#32, 0x41700000#32, 0x41700000#32, 0x41700000#32, 0x41700000#32, 0x41700000#32, 0x41700000#32, 0x41700000#32, 0x41700000#32, 0x41700000#32]]

/-- One coordinate of the lanes' anchors, the first `n` anchors seen to. -/
def places (w : Fin 12 → BitVec 32) (a : L) : (n : ℕ) → n ≤ 12 → R F
  | 0, _ => num 0x00000000#32
  | n + 1, h => select (cmpi .eq a (broadcast S1x128 (BitVec.ofNat 32 n))) (num (w ⟨n, h⟩)) (places w a n (Nat.le_of_succ_le h))

/-- One coordinate of the lanes' anchors. -/
def place (k : Fin 6) (a : L) : R F := places (coords k) a 12 le_rfl

/-- A box's extent along an axis from its two ends, -/
def extent (lo hi : R F) : R F := addf (subf hi lo) (num 0x3F800000#32)
/-- the middle moved by an offset, -/
def middle (lo hi d : R F) : R F := addf (mulf d (extent lo hi)) (addf lo (mulf (num 0x3F000000#32) (extent lo hi)))
/-- the extent scaled by one, -/
def scaled (lo hi d : R F) : R F := mulf (exp d) (extent lo hi)
/-- and the new ends, clipped. -/
def lower (lo hi d d' : R F) (lim : F .f32) : R F :=
  minimumf (broadcast S1x128 lim) (maximumf (num 0x00000000#32) (subf (middle lo hi d) (mulf (num 0x3F000000#32) (scaled lo hi d'))))
/-- The clipped upper corner along an axis. -/
def upper (lo hi d d' : R F) (lim : F .f32) : R F :=
  minimumf (broadcast S1x128 lim) (maximumf (num 0x00000000#32) (addf (middle lo hi d) (mulf (num 0x3F000000#32) (scaled lo hi d'))))

/-- The shifts of the lanes' cells along the three axes. -/
def shiftX (p : L) : R F := sitofp .f32 (muli (vmod 32#32 (vdiv 8#32 p)) (broadcast S1x128 16#32))
/-- the second shift -/
def shiftY (p : L) : R F := sitofp .f32 (muli (vdiv 256#32 p) (broadcast S1x128 16#32))
/-- and the third. -/
def shiftZ (p : L) : R F := sitofp .f32 (vmod 8#32 p)

/-- Row `k` of the six offsets. -/
def row0 (D : FVec F S6x128 .f32) : R F := extractStridedSlice S1x128 ![0, 0] D slices_S6x128_o0_0_S1x128
/-- The second of six rows, -/
def row1 (D : FVec F S6x128 .f32) : R F := extractStridedSlice S1x128 ![1, 0] D slices_S6x128_o1_0_S1x128
/-- the third, -/
def row2 (D : FVec F S6x128 .f32) : R F := extractStridedSlice S1x128 ![2, 0] D slices_S6x128_o2_0_S1x128
/-- the fourth, -/
def row3 (D : FVec F S6x128 .f32) : R F := extractStridedSlice S1x128 ![3, 0] D slices_S6x128_o3_0_S1x128
/-- the fifth -/
def row4 (D : FVec F S6x128 .f32) : R F := extractStridedSlice S1x128 ![4, 0] D slices_S6x128_o4_0_S1x128
/-- and the sixth. -/
def row5 (D : FVec F S6x128 .f32) : R F := extractStridedSlice S1x128 ![5, 0] D slices_S6x128_o5_0_S1x128

/-- An image's limit along an axis. -/
def limit (x : Elt F .f32) : F .f32 := Scalar.subf x (Scalar.ofBits .f32 0x3F800000#32)

/-- The eight rows of one image: its number, the six ends of the boxes, the scores. -/
def block (bits : BitVec 32) (sv : Vec F S1x128 .f32) (p a : L) (D : FVec F S6x128 .f32) (H W T : F .f32) : FVec F S1x8x128 .f32 :=
  shapeCast S1x8x128 (concatenate S8x128 0 [⟨S1x128, num bits⟩,
    ⟨S1x128, lower (addf (place 0 a) (shiftX p)) (addf (place 3 a) (shiftX p)) (row0 D) (row3 D) W⟩,
    ⟨S1x128, lower (addf (place 1 a) (shiftY p)) (addf (place 4 a) (shiftY p)) (row1 D) (row4 D) H⟩,
    ⟨S1x128, lower (addf (place 2 a) (shiftZ p)) (addf (place 5 a) (shiftZ p)) (row2 D) (row5 D) T⟩,
    ⟨S1x128, upper (addf (place 0 a) (shiftX p)) (addf (place 3 a) (shiftX p)) (row0 D) (row3 D) W⟩,
    ⟨S1x128, upper (addf (place 1 a) (shiftY p)) (addf (place 4 a) (shiftY p)) (row1 D) (row4 D) H⟩,
    ⟨S1x128, upper (addf (place 2 a) (shiftZ p)) (addf (place 5 a) (shiftZ p)) (row2 D) (row5 D) T⟩,
    ⟨S1x128, sv⟩] concatenates_S1x128_S1x128_S1x128_S1x128_S1x128_S1x128_S1x128_S1x128_S8x128_d0) shapeCasts_S8x128_S1x8x128

/-- The same from the picked scores and positions, the image's offsets in eight chunks and its three sizes. -/
def tail (bits : BitVec 32) (sv : Vec F S1x128 .f32) (sn : Vec F S1x128 .i32) (B : Fin 8 → Vec F S1x72x1024 .f32) (im : Fin 3 → Elt F .f32) :
    FVec F S1x8x128 .f32 :=
  block bits sv (cell sn) (anchor sn) (picks (gather (cell sn) B) (anchor sn) 12 le_rfl) (limit (im 0)) (limit (im 1)) (limit (im 2))

/-- A chunk of an image's offsets lies inside the array, -/
theorem inChunk (b : Fin 4) (k : Fin 8) : ∀ a : Fin 3, (![b.val, 0, 1024 * k.val] : Fin 3 → ℕ) a + S1x72x1024.size a ≤ S4x72x8192.size a := by
  revert b k; decide
/-- and an image's size does. -/
theorem inSize (b : Fin 4) (k : Fin 3) : ∀ a : Fin 2, (![b.val, k.val] : Fin 2 → ℕ) a + S1x1.size a ≤ S4x3.size a := by
  revert b k; decide

section bridge
variable (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f1 : BufTy.Contents (Elt F) arg1.view.ty) (f2 : BufTy.Contents (Elt F) arg2.view.ty)

/-- The eight chunks of an image's offsets, -/
def chunks (b : Fin 4) (arg1 : Memref sig .tc .vmem S4x72x8192 .f32) (f1 : BufTy.Contents (Elt F) arg1.view.ty) (k : Fin 8) : Vec F S1x72x1024 .f32 :=
  View.readAt (Elt F) arg1.view (Rect.unit ![b.val, 0, 1024 * k.val] S1x72x1024.size (inChunk b k) : Rect S4x72x8192).toLoadRect f1
/-- and its three sizes. -/
def sizes (b : Fin 4) (arg2 : Memref sig .tc .smem S4x3 .f32) (f2 : BufTy.Contents (Elt F) arg2.view.ty) (k : Fin 3) : Elt F .f32 :=
  View.readAt (Elt F) arg2.view (Rect.unit ![b.val, k.val] S1x1.size (inSize b k) : Rect S4x3).toLoadRect f2 (Shape.Idx.first (show 0 < S1x1.numel by decide))

/-- Image 0's block when eight maxima of every column are enough, -/
theorem blockN0 : Gen.k0_pay718 (kernelRun.sl.r_527 c arg0 arg1 arg2 arg4 arg5 f0 f1 f2)
    = tail 0x00000000#32 (kernelRun.sl.v2537_1 c arg0 arg4 f0) (kernelRun.sl.v2536_1 c arg0 arg5 f0) (chunks 0 arg1 f1) (sizes 0 arg2 f2) := by
  exact rfl

/-- and when they are not. -/
theorem blockF0 : Gen.k0_pay718 (kernelRun.sl.r_243 c arg0 harg0 arg1 harg1 arg2 harg2 arg3 harg3 arg4 harg4 arg5 harg5 arg6 harg6 f0 f1 f2)
    = tail 0x00000000#32 (kernelRun.sl.v2537 c arg0 harg0 arg1 harg1 arg2 harg2 arg3 harg3 arg4 harg4 arg5 harg5 arg6 harg6 f0) (kernelRun.sl.v2536 c arg0 harg0 arg1 harg1 arg2 harg2 arg3 harg3 arg4 harg4 arg5 harg5 arg6 harg6 f0) (chunks 0 arg1 f1) (sizes 0 arg2 f2) := by
  exact rfl

/-- Image 1's block when eight maxima of every column are enough, -/
theorem blockN1 : Gen.k0_pay811 (kernelRun.sl.v3060_1 c arg0 arg4 f0) (kernelRun.sl.r_593 c arg0 arg1 arg2 arg5 f0 f1 f2) (kernelRun.sl.r_594 c arg0 arg1 arg2 arg5 f0 f1 f2) (kernelRun.sl.r_595 c arg0 arg1 arg2 arg5 f0 f1 f2) (kernelRun.sl.r_596 c arg0 arg1 arg2 arg5 f0 f1 f2) (kernelRun.sl.r_597 c arg0 arg1 arg2 arg5 f0 f1 f2) (kernelRun.sl.r_598 c arg0 arg1 arg2 arg5 f0 f1 f2)
    = tail 0x3F800000#32 (kernelRun.sl.v3060_1 c arg0 arg4 f0) (kernelRun.sl.v3059_1 c arg0 arg5 f0) (chunks 1 arg1 f1) (sizes 1 arg2 f2) := by
  exact rfl

/-- and when they are not. -/
theorem blockF1 : Gen.k0_pay811 (kernelRun.sl.v3060 c arg0 harg0 arg1 harg1 arg2 harg2 arg3 harg3 arg4 harg4 arg5 harg5 arg6 harg6 f0) (kernelRun.sl.r_309 c arg0 harg0 arg1 harg1 arg2 harg2 arg3 harg3 arg4 harg4 arg5 harg5 arg6 harg6 f0 f1 f2) (kernelRun.sl.r_310 c arg0 harg0 arg1 harg1 arg2 harg2 arg3 harg3 arg4 harg4 arg5 harg5 arg6 harg6 f0 f1 f2) (kernelRun.sl.r_311 c arg0 harg0 arg1 harg1 arg2 harg2 arg3 harg3 arg4 harg4 arg5 harg5 arg6 harg6 f0 f1 f2) (kernelRun.sl.r_312 c arg0 harg0 arg1 harg1 arg2 harg2 arg3 harg3 arg4 harg4 arg5 harg5 arg6 harg6 f0 f1 f2) (kernelRun.sl.r_313 c arg0 harg0 arg1 harg1 arg2 harg2 arg3 harg3 arg4 harg4 arg5 harg5 arg6 harg6 f0 f1 f2) (kernelRun.sl.r_314 c arg0 harg0 arg1 harg1 arg2 harg2 arg3 harg3 arg4 harg4 arg5 harg5 arg6 harg6 f0 f1 f2)
    = tail 0x3F800000#32 (kernelRun.sl.v3060 c arg0 harg0 arg1 harg1 arg2 harg2 arg3 harg3 arg4 harg4 arg5 harg5 arg6 harg6 f0) (kernelRun.sl.v3059 c arg0 harg0 arg1 harg1 arg2 harg2 arg3 harg3 arg4 harg4 arg5 harg5 arg6 harg6 f0) (chunks 1 arg1 f1) (sizes 1 arg2 f2) := by
  exact rfl

/-- Image 2's block when eight maxima of every column are enough, -/
theorem blockN2 : Gen.k0_pay907 (kernelRun.sl.v3583_1 c arg0 arg4 f0) (kernelRun.sl.r_657 c arg0 arg1 arg5 f0 f1) (kernelRun.sl.r_660 c arg0 arg1 arg5 f0 f1) (kernelRun.sl.r_664 c arg2 f2) (kernelRun.sl.r_665 c arg0 arg1 arg2 arg5 f0 f1 f2) (kernelRun.sl.r_666 c arg0 arg1 arg2 arg5 f0 f1 f2) (kernelRun.sl.r_667 c arg0 arg1 arg2 arg5 f0 f1 f2) (kernelRun.sl.r_668 c arg0 arg1 arg2 arg5 f0 f1 f2) (kernelRun.sl.r_669 c arg0 arg1 arg2 arg5 f0 f1 f2) Gen.k0_pay906
    = tail 0x40000000#32 (kernelRun.sl.v3583_1 c arg0 arg4 f0) (kernelRun.sl.v3582_1 c arg0 arg5 f0) (chunks 2 arg1 f1) (sizes 2 arg2 f2) := by
  exact rfl

/-- and when they are not. -/
theorem blockF2 : Gen.k0_pay907 (kernelRun.sl.v3583 c arg0 harg0 arg1 harg1 arg2 harg2 arg3 harg3 arg4 harg4 arg5 harg5 arg6 harg6 f0) (kernelRun.sl.r_373 c arg0 harg0 arg1 harg1 arg2 harg2 arg3 harg3 arg4 harg4 arg5 harg5 arg6 harg6 f0 f1) (kernelRun.sl.r_376 c arg0 harg0 arg1 harg1 arg2 harg2 arg3 harg3 arg4 harg4 arg5 harg5 arg6 harg6 f0 f1) (kernelRun.sl.r_380 c arg2 f2) (kernelRun.sl.r_381 c arg0 harg0 arg1 harg1 arg2 harg2 arg3 harg3 arg4 harg4 arg5 harg5 arg6 harg6 f0 f1 f2) (kernelRun.sl.r_382 c arg0 harg0 arg1 harg1 arg2 harg2 arg3 harg3 arg4 harg4 arg5 harg5 arg6 harg6 f0 f1 f2) (kernelRun.sl.r_383 c arg0 harg0 arg1 harg1 arg2 harg2 arg3 harg3 arg4 harg4 arg5 harg5 arg6 harg6 f0 f1 f2) (kernelRun.sl.r_384 c arg0 harg0 arg1 harg1 arg2 harg2 arg3 harg3 arg4 harg4 arg5 harg5 arg6 harg6 f0 f1 f2) (kernelRun.sl.r_385 c arg0 harg0 arg1 harg1 arg2 harg2 arg3 harg3 arg4 harg4 arg5 harg5 arg6 harg6 f0 f1 f2) Gen.k0_pay906
    = tail 0x40000000#32 (kernelRun.sl.v3583 c arg0 harg0 arg1 harg1 arg2 harg2 arg3 harg3 arg4 harg4 arg5 harg5 arg6 harg6 f0) (kernelRun.sl.v3582 c arg0 harg0 arg1 harg1 arg2 harg2 arg3 harg3 arg4 harg4 arg5 harg5 arg6 harg6 f0) (chunks 2 arg1 f1) (sizes 2 arg2 f2) := by
  exact rfl

/-- Image 3's block when eight maxima of every column are enough, -/
theorem blockN3 : Gen.k0_pay1 (kernelRun.sl.v4106_1 c arg0 arg4 f0) (kernelRun.sl.r_732 c arg0 arg1 arg5 f0 f1) (kernelRun.sl.r_738 c arg0 arg1 arg5 f0 f1) (kernelRun.sl.r_739 c arg2 f2) (kernelRun.sl.r_740 c arg2 f2) (kernelRun.sl.r_741 c arg0 arg1 arg2 arg5 f0 f1 f2) (kernelRun.sl.r_742 c arg0 arg1 arg2 arg5 f0 f1 f2) (kernelRun.sl.r_743 c arg0 arg1 arg2 arg5 f0 f1 f2) (kernelRun.sl.r_744 c arg0 arg1 arg2 arg5 f0 f1 f2) (kernelRun.sl.r_745 c arg0 arg1 arg5 f0 f1)
    = tail 0x40400000#32 (kernelRun.sl.v4106_1 c arg0 arg4 f0) (kernelRun.sl.v4105_1 c arg0 arg5 f0) (chunks 3 arg1 f1) (sizes 3 arg2 f2) := by
  exact rfl

/-- and when they are not. -/
theorem blockF3 : Gen.k0_pay1 (kernelRun.sl.v4106 c arg0 harg0 arg1 harg1 arg2 harg2 arg3 harg3 arg4 harg4 arg5 harg5 arg6 harg6 f0) (kernelRun.sl.r_448 c arg0 harg0 arg1 harg1 arg2 harg2 arg3 harg3 arg4 harg4 arg5 harg5 arg6 harg6 f0 f1) (kernelRun.sl.r_454 c arg0 harg0 arg1 harg1 arg2 harg2 arg3 harg3 arg4 harg4 arg5 harg5 arg6 harg6 f0 f1) (kernelRun.sl.r_455 c arg2 f2) (kernelRun.sl.r_456 c arg2 f2) (kernelRun.sl.r_457 c arg0 harg0 arg1 harg1 arg2 harg2 arg3 harg3 arg4 harg4 arg5 harg5 arg6 harg6 f0 f1 f2) (kernelRun.sl.r_458 c arg0 harg0 arg1 harg1 arg2 harg2 arg3 harg3 arg4 harg4 arg5 harg5 arg6 harg6 f0 f1 f2) (kernelRun.sl.r_459 c arg0 harg0 arg1 harg1 arg2 harg2 arg3 harg3 arg4 harg4 arg5 harg5 arg6 harg6 f0 f1 f2) (kernelRun.sl.r_460 c arg0 harg0 arg1 harg1 arg2 harg2 arg3 harg3 arg4 harg4 arg5 harg5 arg6 harg6 f0 f1 f2) (kernelRun.sl.r_461 c arg0 harg0 arg1 harg1 arg2 harg2 arg3 harg3 arg4 harg4 arg5 harg5 arg6 harg6 f0 f1)
    = tail 0x40400000#32 (kernelRun.sl.v4106 c arg0 harg0 arg1 harg1 arg2 harg2 arg3 harg3 arg4 harg4 arg5 harg5 arg6 harg6 f0) (kernelRun.sl.v4105 c arg0 harg0 arg1 harg1 arg2 harg2 arg3 harg3 arg4 harg4 arg5 harg5 arg6 harg6 f0) (chunks 3 arg1 f1) (sizes 3 arg2 f2) := by
  exact rfl

end bridge

end Cert.KernelIdeal.Tail

end
-- ==== Proof.Loop.lean ====
module

public import proofs.«01_k».proof.Proof.Check
public import proofs.«01_k».proof.Proof.Tail
public import proofs.«01_k».proof.Proof.Gen.KernelIdeal.Loops

/-
  The loop the kernel falls back on: a hundred rounds over the whole of every image, each taking the greatest score left and
  the least position that holds it.
-/

@[expose] public section

set_option maxRecDepth 65536

noncomputable section

open Idealize.ShloMosaic Idealize.ShloMosaic.SortNet Idealize.ShloMosaic.WordArith

namespace Cert.KernelIdeal.Loop

open Cert.KernelIdeal Cert.KernelIdeal.Hand Facts₀ Facts

section model
variable {F : FTy → Type} [FloatOps F]

/-- The greatest score where the mask holds. -/
def lmax (m : IVec S192x2048 1) (s : FVec F S192x2048 .f32) : FVec F S1x1 .f32 :=
  broadcast S1x1 (extractAt ![0, 0, 0] (shapeCast S1x1x1 (multiReduction .maximumf [1, 2] S1
    (shapeCast S1x192x2048 (select m s (broadcast S192x2048 (Scalar.ofBits .f32 0xFF800000#32))) shapeCasts_S192x2048_S1x192x2048)
    0xFF800000#32 reduces_S1x192x2048_S1 (.inl rfl) rfl) shapeCasts_S1_S1x1x1) inpos_S1x1x1_p0_0_0)

/-- The least position there that holds it. -/
def lpos (p : IVec S192x2048 32) (m : IVec S192x2048 1) (s : FVec F S192x2048 .f32) : IVec S1x1 32 :=
  broadcast S1x1 (extractAt ![0, 0, 0] (shapeCast S1x1x1 (multiReductionI .minsi [1, 2] S1
    (shapeCast S1x192x2048 (select (andi m (cmpf .oeq s (broadcastTo S192x2048 (lmax m s) broadcasts_S1x1_S192x2048))) p (broadcast S192x2048 1073741824#32))
      shapeCasts_S192x2048_S1x192x2048)
    2147483647#32 reduces_S1x192x2048_S1 rfl) shapeCasts_S1_S1x1x1) inpos_S1x1x1_p0_0_0)

/-- The scores with that one taken out. -/
def lnext (p : IVec S192x2048 32) (m : IVec S192x2048 1) (s : FVec F S192x2048 .f32) : FVec F S192x2048 .f32 :=
  select (andi m (cmpi .eq p (broadcastTo S192x2048 (lpos p m s) broadcasts_S1x1_S192x2048))) (broadcast S192x2048 (Scalar.ofBits .f32 0xFF800000#32)) s

/-- A row with lane `t` set. -/
def lput {α : Type} (l : IVec S1x128 32) (t : BitVec 32) (x : S1x1.Idx → α) (row : S1x128.Idx → α) : S1x128.Idx → α :=
  select (cmpi .eq l (broadcast S1x128 t)) (broadcastTo S1x128 (shapeCast S1x1 x shapeCasts_S1x1_S1x1) broadcasts_S1x1_S1x128) row

end model

section trip
variable {F : FTy → Type} [FloatOps F]
variable (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
    (f0 : BufTy.Contents (Elt F) arg0.view.ty) (f6 : BufTy.Contents (Elt F) arg6.view.ty)

/-- The scores a trip finds. -/
abbrev found (arg6 : Memref sig .tc .vmem S192x2048 .f32) (f6 : BufTy.Contents (Elt F) arg6.view.ty) : FVec F S192x2048 .f32 :=
  View.readAt (Elt F) arg6.view (Rect.unit ![0, 0] S192x2048.size inb_S192x2048_S192x2048_0_0).toLoadRect f6

/-- What one trip makes of the carried rows. -/
abbrev yields (p : IVec S192x2048 32) (l : IVec S1x128 32) (m0 m1 m2 m3 : IVec S192x2048 1) (t : BitVec 32) (s : FVec F S192x2048 .f32)
    (acc : FVec F S1x128 .f32 × FVec F S1x128 .f32 × FVec F S1x128 .f32 × FVec F S1x128 .f32 × IVec S1x128 32 × IVec S1x128 32 × IVec S1x128 32 × IVec S1x128 32) :
    FVec F S1x128 .f32 × FVec F S1x128 .f32 × FVec F S1x128 .f32 × FVec F S1x128 .f32 × IVec S1x128 32 × IVec S1x128 32 × IVec S1x128 32 × IVec S1x128 32 :=
  (lput l t (lmax m0 s) acc.1, lput l t (lmax m1 (lnext p m0 s)) acc.2.1, lput l t (lmax m2 (lnext p m1 (lnext p m0 s))) acc.2.2.1,
    lput l t (lmax m3 (lnext p m2 (lnext p m1 (lnext p m0 s)))) acc.2.2.2.1, lput l t (lpos p m0 s) acc.2.2.2.2.1,
    lput l t (lpos p m1 (lnext p m0 s)) acc.2.2.2.2.2.1, lput l t (lpos p m2 (lnext p m1 (lnext p m0 s))) acc.2.2.2.2.2.2.1,
    lput l t (lpos p m3 (lnext p m2 (lnext p m1 (lnext p m0 s)))) acc.2.2.2.2.2.2.2)

variable (v1 p : IVec S192x2048 32) (l : IVec S1x128 32) (u0 u1 u2 u3 : FVec F S1x128 .f32) (w0 w1 w2 w3 : IVec S1x128 32) (m0 m1 : IVec S192x2048 1)
  (k : Fin k0_t1_loop.trips)
  (acc : FVec F S1x128 .f32 × FVec F S1x128 .f32 × FVec F S1x128 .f32 × FVec F S1x128 .f32 × IVec S1x128 32 × IVec S1x128 32 × IVec S1x128 32 × IVec S1x128 32)

/-- What one round carries on, -/
theorem tripR : Gen.tripR_k0_t1 Variants.none c none arg0 harg0 arg1 harg1 arg2 harg2 arg3 harg3 arg4 harg4 arg5 harg5 arg6 harg6 v1 p l u0 u1 u2 u3 w0 w1 w2 w3 m0 m1 k acc f6
    = yields p l m0 m1 (Gen.k0_pay22 v1) (Gen.k0_pay23 v1) (Scf.iv 0#32 1#32 k) (found arg6 f6) acc := by
  unfold Gen.tripR_k0_t1 Gen.trip_k0_t1
  exact rfl

/-- and what it writes to the scratch scores. -/
theorem tripL : Gen.tripL_k0_t1 Variants.none c none arg0 harg0 arg1 harg1 arg2 harg2 arg3 harg3 arg4 harg4 arg5 harg5 arg6 harg6 v1 p l u0 u1 u2 u3 w0 w1 w2 w3 m0 m1 k acc f6
    = [⟨Rect.unit ![0, 0] S192x2048.size inb_S192x2048_S192x2048_0_0, shapeCast S192x2048
      (lnext p (Gen.k0_pay23 v1) (lnext p (Gen.k0_pay22 v1) (lnext p m1 (lnext p m0 (found arg6 f6))))) shapeCasts_S192x2048_S192x2048⟩] := by
  unfold Gen.tripL_k0_t1 Gen.trip_k0_t1
  exact rfl

end trip

end Cert.KernelIdeal.Loop

end
-- ==== Proof.LoopTop.lean ====
module

public import proofs.«01_k».proof.Proof.Loop
public import Idealize.ShloMosaic.Lib.VecWindow

/-
  What the fallback loop leaves: in each image's carried rows the hundred greatest records of the image.
-/

@[expose] public section

set_option maxRecDepth 65536

noncomputable section

open Idealize.ShloMosaic Idealize.ShloMosaic.SortNet Idealize.ShloMosaic.WordArith

namespace Cert.KernelIdeal.Loop

open Cert.KernelIdeal Cert.KernelIdeal.Hand Cert.Model Facts₀ Facts

section state
variable {F : FTy → Type} [FloatOps F]
variable (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
variable (v1 p : IVec S192x2048 32) (l : IVec S1x128 32) (u0 u1 u2 u3 : FVec F S1x128 .f32) (w0 w1 w2 w3 : IVec S1x128 32) (m0 m1 m2 m3 : IVec S192x2048 1)
  (G : BufTy.Contents (Elt F) arg6.view.ty) (init : FVec F S1x128 .f32 × FVec F S1x128 .f32 × FVec F S1x128 .f32 × FVec F S1x128 .f32 × IVec S1x128 32 × IVec S1x128 32 × IVec S1x128 32 × IVec S1x128 32)

/-- The scores before a round. -/
def scores (p : IVec S192x2048 32) (m0 m1 m2 m3 : IVec S192x2048 1) (s : FVec F S192x2048 .f32) : ℕ → FVec F S192x2048 .f32
  | 0 => s
  | t + 1 => lnext p m3 (lnext p m2 (lnext p m1 (lnext p m0 (scores p m0 m1 m2 m3 s t))))

/-- The loop has a hundred rounds. -/
theorem trips_eq : k0_t1_loop.trips = 100 := by decide

/-- A trip finds the scores the rounds before it leave. -/
theorem st_scores (k : ℕ) (hk : k ≤ 100) :
    found arg6 (arg6.view.writes (Elt F) G (Gen.st_k0_t1 Variants.none c none arg0 harg0 arg1 harg1 arg2 harg2 arg3 harg3 arg4 harg4 arg5 harg5 arg6 harg6 v1 p l u0 u1 u2 u3 w0 w1 w2 w3 m0 m1 G init k).2) = scores p m0 m1 (Gen.k0_pay22 v1) (Gen.k0_pay23 v1) (found arg6 G) k := by
  induction k with
  | zero => rfl
  | succ k ih =>
    have h := Gen.st_k0_t1_succ Variants.none c none arg0 harg0 arg1 harg1 arg2 harg2 arg3 harg3 arg4 harg4 arg5 harg5 arg6 harg6 v1 p l u0 u1 u2 u3 w0 w1 w2 w3 m0 m1 G init ⟨k, by rw [trips_eq]; omega⟩
    rw [show (Gen.st_k0_t1 Variants.none c none arg0 harg0 arg1 harg1 arg2 harg2 arg3 harg3 arg4 harg4 arg5 harg5 arg6 harg6 v1 p l u0 u1 u2 u3 w0 w1 w2 w3 m0 m1 G init (k + 1)) = _ from h, tripL]
    unfold found
    refine (View.readAt_writes_full arg6.view _ inb_S192x2048_S192x2048_0_0 inb_S192x2048_S192x2048_0_0 _ _).trans ?_
    have e := ih (by omega)
    unfold found at e
    show shapeCast S192x2048 (lnext p (Gen.k0_pay23 v1) _) shapeCasts_S192x2048_S192x2048 = lnext p (Gen.k0_pay23 v1) _
    rw [shapeCast_self]
    exact congrArg (fun z => lnext p (Gen.k0_pay23 v1) (lnext p (Gen.k0_pay22 v1) (lnext p m1 (lnext p m0 z)))) e

/-- A trip's rows. -/
theorem st_rows (k : ℕ) (hk : k < 100) : (Gen.st_k0_t1 Variants.none c none arg0 harg0 arg1 harg1 arg2 harg2 arg3 harg3 arg4 harg4 arg5 harg5 arg6 harg6 v1 p l u0 u1 u2 u3 w0 w1 w2 w3 m0 m1 G init (k + 1)).1
    = yields p l m0 m1 (Gen.k0_pay22 v1) (Gen.k0_pay23 v1) (Scf.iv 0#32 1#32 k) (scores p m0 m1 (Gen.k0_pay22 v1) (Gen.k0_pay23 v1) (found arg6 G) k) (Gen.st_k0_t1 Variants.none c none arg0 harg0 arg1 harg1 arg2 harg2 arg3 harg3 arg4 harg4 arg5 harg5 arg6 harg6 v1 p l u0 u1 u2 u3 w0 w1 w2 w3 m0 m1 G init k).1 := by
  have h := Gen.st_k0_t1_succ Variants.none c none arg0 harg0 arg1 harg1 arg2 harg2 arg3 harg3 arg4 harg4 arg5 harg5 arg6 harg6 v1 p l u0 u1 u2 u3 w0 w1 w2 w3 m0 m1 G init ⟨k, by rw [trips_eq]; omega⟩
  rw [show (Gen.st_k0_t1 Variants.none c none arg0 harg0 arg1 harg1 arg2 harg2 arg3 harg3 arg4 harg4 arg5 harg5 arg6 harg6 v1 p l u0 u1 u2 u3 w0 w1 w2 w3 m0 m1 G init (k + 1)) = _ from h, tripR, st_scores c arg0 harg0 arg1 harg1 arg2 harg2 arg3 harg3 arg4 harg4 arg5 harg5 arg6 harg6 v1 p l u0 u1 u2 u3 w0 w1 w2 w3 m0 m1 G init k (by omega)]

end state

section lanes

/-- The round's word is its number. -/
theorem iv_eq (k : ℕ) : Scf.iv 0#32 1#32 k = BitVec.ofNat 32 k := by
  unfold Scf.iv; simp

/-- A row after its lanes are set one by one. -/
theorem lanes {α : Type} (l : IVec S1x128 32) (hl : ∀ u : Fin 128, l (ix2 (0 : Fin 1) u) = BitVec.ofNat 32 u.val) (X : ℕ → S1x128.Idx → α) (x : ℕ → S1x1.Idx → α)
    (h : ∀ k < 100, X (k + 1) = lput l (Scf.iv 0#32 1#32 k) (x k) (X k)) (k : ℕ) (hk : k ≤ 100) (u : Fin 128) (hu : u.val < k) :
    X k (ix2 (0 : Fin 1) u) = x u.val (ix2 (0 : Fin 1) (0 : Fin 1)) := by
  induction k with
  | zero => omega
  | succ k ih =>
    rw [h k (by omega), iv_eq]
    have e : lput l (BitVec.ofNat 32 k) (x k) (X k) (ix2 (0 : Fin 1) u)
        = if BitVec.ofBool (BitVec.ofNat 32 u.val == BitVec.ofNat 32 k) = 1#1 then x k (ix2 (0 : Fin 1) (0 : Fin 1)) else X k (ix2 (0 : Fin 1) u) := by
      rw [← hl u]
      show (if _ then broadcastTo S1x128 (shapeCast S1x1 (x k) shapeCasts_S1x1_S1x1) broadcasts_S1x1_S1x128 (ix2 (0 : Fin 1) u) else _) = _
      rw [broadcastTo_apply _ _ _ (ix2 (0 : Fin 1) (0 : Fin 1)) (fun a => by
        match a with
          | ⟨0, _⟩ => rfl
          | ⟨1, _⟩ => rfl), shapeCast_self]
      rfl
    rw [e]
    have hul := u.isLt
    by_cases hku : u.val = k
    · rw [hku, if_pos (by simp)]
    · rw [if_neg, ih (by omega) (by omega)]
      intro hh
      rw [ofBool_eq_one_iff, beq_iff_eq] at hh
      have := congrArg BitVec.toNat hh
      rw [toNat_ofNat_of_lt _ (by omega), toNat_ofNat_of_lt _ (by omega)] at this
      exact hku this

end lanes

section image

/-- The entry of the one-block form of the matrix. -/
def flat (i : S1x192x2048.Idx) : S192x2048.Idx := ix2 (i 1) (i 2)

/-- Dropping the leading unit axis loses nothing -/
theorem flat_inj : Function.Injective flat := by
  intro i j h
  have h1 : i 1 = j 1 := congrFun h 0
  have h2 : i 2 = j 2 := congrFun h 1
  rw [eq_ix3 i, eq_ix3 j, h1, h2]
  congr 1
  exact Subsingleton.elim (α := Fin 1) _ _

/-- and reaches every index. -/
theorem flat_image : (Finset.univ : Finset S1x192x2048.Idx).image flat = Finset.univ := by
  ext i
  simp only [Finset.mem_image, Finset.mem_univ, true_and, iff_true]
  exact ⟨ix3 (0 : Fin 1) (i 0) (i 1), (eq_ix2 i).symm⟩

/-- A matrix given a leading unit axis reads at the index without it. -/
theorem cast_flat {α : Type} (x : S192x2048.Idx → α) (i : S1x192x2048.Idx) : shapeCast S1x192x2048 x shapeCasts_S192x2048_S1x192x2048 i = x (flat i) :=
  shapeCast_apply _ _ _ _ (by
    rw [Shape.rowMajor_val_three, Shape.rowMajor_val_two]
    have : (i 0).val = 0 := by have := (i 0).isLt; exact Nat.lt_one_iff.1 this
    show (i 1).val * 2048 + (i 2).val = ((i 0).val * 192 + (i 1).val) * 2048 + (i 2).val
    rw [this]; omega)

/-- A one-element vector taken out and broadcast reads that element. -/
theorem cell_apply {α : Type} (x : S1.Idx → α) (j : S1x1.Idx) :
    broadcast S1x1 (extractAt ![0, 0, 0] (shapeCast S1x1x1 x shapeCasts_S1_S1x1x1) inpos_S1x1x1_p0_0_0) j = x (ix1 (0 : Fin 1)) := by
  show extractAt _ _ _ = _
  rw [show ∀ x : S1x1x1.Idx → α, extractAt ![0, 0, 0] x inpos_S1x1x1_p0_0_0 = x (ix3 (0 : Fin 1) (0 : Fin 1) (0 : Fin 1)) from fun x => by
    unfold extractAt; congr 1; funext a; match a with
      | ⟨0, _⟩ => rfl
      | ⟨1, _⟩ => rfl
      | ⟨2, _⟩ => rfl]
  exact shapeCast_apply _ _ _ _ (by rw [Shape.rowMajor_val_three, Shape.rowMajor_val_one]; rfl)

/-- One cell broadcast over the matrix reads that cell. -/
theorem wide_apply {α : Type} (x : S1x1.Idx → α) (i : S192x2048.Idx) : broadcastTo S192x2048 x broadcasts_S1x1_S192x2048 i = x (ix2 (0 : Fin 1) (0 : Fin 1)) :=
  broadcastTo_apply _ _ _ _ (fun a => by
    match a with
      | ⟨0, _⟩ => rfl
      | ⟨1, _⟩ => rfl)

variable (m : IVec S192x2048 1) (b : ℕ) (hm : ∀ i, m i = BitVec.ofBool (decide (i ∈ imgA b))) (s : FVec Ideal S192x2048 .f32)

/-- A round's score is the greatest over the masked matrix. -/
theorem lmax_apply (j : S1x1.Idx) : lmax m s j = Finset.univ.fold max ⊥ (select m s (broadcast S192x2048 (Scalar.ofBits (F := Ideal) .f32 0xFF800000#32))) := by
  unfold lmax
  rw [cell_apply]
  refine (multiReduction_maximumf_eq_fold _ _ _ _ rfl _).trans ?_
  rw [filter_all _ _ _ _ (fun j' => one_idx _ _), ofBits_ninf, ← flat_image, Finset.fold_image (fun x _ y _ h => flat_inj h)]
  congr 1
  funext i
  exact cast_flat _ i

/-- A round's position is the least among those holding that score. -/
theorem lpos_apply (p : IVec S192x2048 32) (j : S1x1.Idx) : lpos p m s j = Finset.univ.fold IntOp.minsi 2147483647#32
    (select (andi m (cmpf .oeq s (broadcastTo S192x2048 (lmax m s) broadcasts_S1x1_S192x2048))) p (broadcast S192x2048 1073741824#32)) := by
  unfold lpos
  rw [cell_apply]
  refine (multiReductionI_eq_fold .minsi _ _ _ rfl _).trans ?_
  rw [filter_all _ _ _ _ (fun j' => one_idx _ _), ← flat_image, Finset.fold_image (fun x _ y _ h => flat_inj h)]
  congr 1
  funext i
  exact cast_flat _ i

/-- The `and` of two propositions' bits is 1 exactly when both hold. -/
theorem and_ofBool (p q : Prop) [Decidable p] [Decidable q] : IntOp.andi (BitVec.ofBool (decide p)) (BitVec.ofBool (decide q)) = 1#1 ↔ p ∧ q := by
  by_cases hp : p <;> by_cases hq : q <;> simp [hp, hq, IntOp.andi]

/-- An image has an entry. -/
theorem card_imgA_pos (hb : b < 4) : (imgA b).Nonempty := ⟨ix2 (0 : Fin 192) (⟨b, by omega⟩ : Fin 2048), mem_imgA.2 (by show b % 4 = b; omega)⟩

include hm

/-- A round takes a greatest score of its image and the least position that holds it. -/
theorem takes_img (hb : b < 4) : Takes (imgA b) s kernelRun.sl.r (lmax m s (ix2 (0 : Fin 1) (0 : Fin 1))) (lpos kernelRun.sl.r m s (ix2 (0 : Fin 1) (0 : Fin 1))) := by
  refine takes_of (Finset.subset_univ _) (card_imgA_pos b hb) s kernelRun.sl.r (fun i _ => position_lt i) _ _ _ _ ?_ (lmax_apply m s _) ?_ (lpos_apply m s _ _)
  · intro i _
    show (if m i = 1#1 then s i else (Scalar.ofBits (F := Ideal) .f32 0xFF800000#32)) = _
    rw [hm i, show (Scalar.ofBits (F := Ideal) .f32 0xFF800000#32) = ⊥ from ofBits_ninf]
    by_cases h : i ∈ imgA b
    · rw [if_pos h, if_pos (by rw [decide_eq_true h]; rfl)]
    · rw [if_neg h, if_neg (by rw [decide_eq_false h]; decide)]
  · intro i _
    show (if IntOp.andi (m i) (Ideal.cmp .oeq (s i) (broadcastTo S192x2048 (lmax m s) broadcasts_S1x1_S192x2048 i)) = 1#1 then kernelRun.sl.r i else 1073741824#32) = _
    rw [hm i, wide_apply]
    have e : Ideal.cmp .oeq (s i) (lmax m s (ix2 (0 : Fin 1) (0 : Fin 1))) = BitVec.ofBool (decide (s i = lmax m s (ix2 (0 : Fin 1) (0 : Fin 1)))) := rfl
    rw [e]
    exact if_congr (and_ofBool _ _) rfl rfl

/-- A round lowers the entry it took to minus infinity and leaves the others. -/
theorem lnext_apply (p : IVec S192x2048 32) (i : S192x2048.Idx) : lnext p m s i = if i ∈ imgA b ∧ p i = lpos p m s (ix2 (0 : Fin 1) (0 : Fin 1)) then ⊥ else s i := by
  unfold lnext
  show (if IntOp.andi (m i) (IntOp.cmpi .eq (p i) (broadcastTo S192x2048 (lpos p m s) broadcasts_S1x1_S192x2048 i)) = 1#1 then (Scalar.ofBits (F := Ideal) .f32 0xFF800000#32) else s i) = _
  rw [hm i, wide_apply, show (Scalar.ofBits (F := Ideal) .f32 0xFF800000#32) = ⊥ from ofBits_ninf]
  have e : IntOp.cmpi .eq (p i) (lpos p m s (ix2 (0 : Fin 1) (0 : Fin 1))) = BitVec.ofBool (decide (p i = lpos p m s (ix2 (0 : Fin 1) (0 : Fin 1)))) := by
    show BitVec.ofBool (_ == _) = _
    congr 1
  rw [e]
  exact if_congr (and_ofBool _ _) rfl rfl

/-- It leaves every entry of the other images. -/
theorem lnext_other (p : IVec S192x2048 32) (i : S192x2048.Idx) (h : i ∉ imgA b) : lnext p m s i = s i := by
  rw [lnext_apply m b hm s p i, if_neg (fun h' => h h'.1)]

end image

/-- Rows whose first hundred lanes hold the hundred greatest records of an image. -/
def Good (s : FVec Ideal S192x2048 .f32) (b : ℕ) (sv : S1x128.Idx → EReal) (sn : S1x128.Idx → BitVec 32) : Prop :=
  (List.ofFn fun u : Fin 100 => key (sv (ix2 (0 : Fin 1) (Fin.castLE (by decide) u : Fin 128))) (sn (ix2 (0 : Fin 1) (Fin.castLE (by decide) u : Fin 128))))
    = topList 100 (imgRecs s b)

/-- An image has at least a hundred entries. -/
theorem card_imgA (b : ℕ) (hb : b < 4) : 100 ≤ (imgA b).card := by
  have h : (Finset.univ.image fun a : Fin 192 => (ix2 a (⟨b, by omega⟩ : Fin 2048) : S192x2048.Idx)) ⊆ imgA b := by
    intro x hx
    obtain ⟨a, -, rfl⟩ := Finset.mem_image.1 hx
    exact mem_imgA.2 (by show b % 4 = b; omega)
  have h2 := Finset.card_le_card h
  rw [Finset.card_image_of_injective _ (fun a a' h => congrFun h 0)] at h2
  simp at h2
  omega

/-- A hundred rounds over an image leave its hundred greatest records in its rows. -/
theorem good_of (b : ℕ) (hb : b < 4) (m : IVec S192x2048 1) (hm : ∀ i, m i = BitVec.ofBool (decide (i ∈ imgA b))) (s : FVec Ideal S192x2048 .f32) (hs : ∀ i, ⊥ < s i)
    (S C : ℕ → FVec Ideal S192x2048 .f32) (h0 : S 0 = s) (hC : ∀ t, ∀ i ∈ imgA b, C t i = S t i)
    (hS : ∀ t, ∀ i ∈ imgA b, S (t + 1) i = lnext kernelRun.sl.r m (C t) i)
    (sv : S1x128.Idx → EReal) (sn : S1x128.Idx → BitVec 32)
    (hv : ∀ u : Fin 128, u.val < 100 → sv (ix2 (0 : Fin 1) u) = lmax m (C u.val) (ix2 (0 : Fin 1) (0 : Fin 1)))
    (hn : ∀ u : Fin 128, u.val < 100 → sn (ix2 (0 : Fin 1) u) = lpos kernelRun.sl.r m (C u.val) (ix2 (0 : Fin 1) (0 : Fin 1))) :
    Good s b sv sn := by
  have h := rounds (A := imgA b) (s := s) (q := kernelRun.sl.r) (position_inj (b := b)) (fun i _ => hs i) (fun t => S t)
    (fun t => lmax m (C t) (ix2 (0 : Fin 1) (0 : Fin 1))) (fun t => lpos kernelRun.sl.r m (C t) (ix2 (0 : Fin 1) (0 : Fin 1))) 100 (card_imgA b hb)
    (fun i _ => by rw [h0]) (fun t _ => by
      obtain ⟨a1, a2, i, hi, a3, a4⟩ := takes_img m b hm (C t) hb
      exact ⟨fun i hi => by rw [← hC t i hi]; exact a1 i hi, fun i hi h => a2 i hi (by rw [hC t i hi]; exact h), i, hi, by rw [← hC t i hi]; exact a3, a4⟩)
    (fun t _ i hi => by
      rw [hS t i hi, lnext_apply m b hm (C t)]
      by_cases hq : kernelRun.sl.r i = lpos kernelRun.sl.r m (C t) (ix2 (0 : Fin 1) (0 : Fin 1))
      · rw [if_pos ⟨hi, hq⟩, if_pos hq]
      · rw [if_neg (fun h => hq h.2), if_neg hq, hC t i hi])
  unfold Good imgRecs
  rw [← h]
  refine List.ext_getElem (by simp) (fun k h1 h2 => ?_)
  have hk : k < 100 := by simpa using h1
  rw [List.getElem_ofFn, List.getElem_map, List.getElem_range, hv _ (by show k < 100; exact hk), hn _ (by show k < 100; exact hk)]
  rfl

/-- The masks of the images. -/
theorem mask_of (b : ℕ) (hb : b < 4) (m : IVec S192x2048 1) (h : ∀ i, m i = IntOp.cmpi .eq (fmod (kernelRun.sl.v1 i) 4#32) (BitVec.ofNat 32 b)) (i : S192x2048.Idx) :
    m i = BitVec.ofBool (decide (i ∈ imgA b)) := by
  have e1 : kernelRun.sl.v1 i = BitVec.ofNat 32 (i 1).val := by
    rw [eq_ix2 i]
    show BitVec.ofNat 32 _ = _
    congr 1
    simp
  have hi : (i 1).val < 2048 := (i 1).isLt
  rw [h i, e1, show (4#32 : BitVec 32) = BitVec.ofNat 32 4 from rfl, fmod_small (by omega) (by omega) (by omega)]
  show BitVec.ofBool (_ == _) = _
  congr 1
  rw [Bool.eq_iff_iff, beq_iff_eq, decide_eq_true_iff, mem_imgA]
  constructor
  · intro hh
    have := congrArg BitVec.toNat hh
    rwa [toNat_ofNat_of_lt _ (by omega), toNat_ofNat_of_lt _ (by omega)] at this
  · intro hh; rw [hh]

/-- The first mask marks image 0's entries, -/
theorem mask0 (i : S192x2048.Idx) : cmpi CmpIPredicate.eq kernelRun.sl.v4648_1 kernelRun.sl.v4637 i = BitVec.ofBool (decide (i ∈ imgA 0)) :=
  mask_of 0 (by omega) _ (fun i => by exact rfl) i
/-- the second image 1's, -/
theorem mask1 (i : S192x2048.Idx) : cmpi CmpIPredicate.eq kernelRun.sl.v4648_1 kernelRun.sl.v4667 i = BitVec.ofBool (decide (i ∈ imgA 1)) :=
  mask_of 1 (by omega) _ (fun i => by exact rfl) i
/-- the third image 2's -/
theorem mask2 (i : S192x2048.Idx) : Gen.k0_pay22 kernelRun.sl.v1 i = BitVec.ofBool (decide (i ∈ imgA 2)) :=
  mask_of 2 (by omega) _ (fun i => by exact rfl) i
/-- and the fourth image 3's. -/
theorem mask3 (i : S192x2048.Idx) : Gen.k0_pay23 kernelRun.sl.v1 i = BitVec.ofBool (decide (i ∈ imgA 3)) :=
  mask_of 3 (by omega) _ (fun i => by exact rfl) i

/-- No entry is of two images. -/
theorem apart {b b' : ℕ} (h : b ≠ b') {i : S192x2048.Idx} (hi : i ∈ imgA b) : i ∉ imgA b' := fun h' => h ((mem_imgA.1 hi).symm.trans (mem_imgA.1 h'))

section final
variable (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
  (f0 : BufTy.Contents (Elt Ideal) arg0.view.ty)

/-- The lane numbers are the lanes' own. -/
theorem lane (u : Fin 128) : kernelRun.sl.v59 (ix2 (0 : Fin 1) u) = BitVec.ofNat 32 u.val := by
  show BitVec.ofNat 32 _ = _
  congr 1
  simp

/-- The scratch scores start as the scores. -/
theorem entry : found arg6 (arg6.view.writes (Elt Ideal) arg6.view.junk (kernelRun.sl.H6_1 c arg0 f0)) = scoresIn arg0 f0 := by
  unfold kernelRun.sl.H6_1 found
  refine (View.readAt_writes_full arg6.view _ inb_S192x2048_S192x2048_0_0 inb_S192x2048_S192x2048_0_0 _ _).trans ?_
  exact shapeCast_self _ _

/-- The scores before a round, at the kernel's masks. -/
abbrev sc (t : ℕ) : FVec Ideal S192x2048 .f32 :=
  scores kernelRun.sl.r (cmpi CmpIPredicate.eq kernelRun.sl.v4648_1 kernelRun.sl.v4637) (cmpi CmpIPredicate.eq kernelRun.sl.v4648_1 kernelRun.sl.v4667)
    (Gen.k0_pay22 kernelRun.sl.v1) (Gen.k0_pay23 kernelRun.sl.v1) (scoresIn arg0 f0) t
/-- Those scores after the first image's pick. -/
abbrev sc1 (t : ℕ) : FVec Ideal S192x2048 .f32 := lnext kernelRun.sl.r (cmpi CmpIPredicate.eq kernelRun.sl.v4648_1 kernelRun.sl.v4637) (sc arg0 f0 t)
/-- And after the second's. -/
abbrev sc2 (t : ℕ) : FVec Ideal S192x2048 .f32 := lnext kernelRun.sl.r (cmpi CmpIPredicate.eq kernelRun.sl.v4648_1 kernelRun.sl.v4667) (sc1 arg0 f0 t)
/-- And after the third's. -/
abbrev sc3 (t : ℕ) : FVec Ideal S192x2048 .f32 := lnext kernelRun.sl.r (Gen.k0_pay22 kernelRun.sl.v1) (sc2 arg0 f0 t)

/-- Image 0's step changes image 0 only, -/
theorem sc1_of {b : ℕ} (h : b ≠ 0) (t : ℕ) (i : S192x2048.Idx) (hi : i ∈ imgA b) : sc1 arg0 f0 t i = sc arg0 f0 t i :=
  lnext_other _ 0 mask0 _ _ i (apart h hi)
/-- image 1's changes image 1 only, -/
theorem sc2_of {b : ℕ} (h : b ≠ 1) (t : ℕ) (i : S192x2048.Idx) (hi : i ∈ imgA b) : sc2 arg0 f0 t i = sc1 arg0 f0 t i :=
  lnext_other _ 1 mask1 _ _ i (apart h hi)
/-- image 2's changes image 2 only -/
theorem sc3_of {b : ℕ} (h : b ≠ 2) (t : ℕ) (i : S192x2048.Idx) (hi : i ∈ imgA b) : sc3 arg0 f0 t i = sc2 arg0 f0 t i :=
  lnext_other _ 2 mask2 _ _ i (apart h hi)
/-- and image 3's changes image 3 only. -/
theorem sc4_of {b : ℕ} (h : b ≠ 3) (t : ℕ) (i : S192x2048.Idx) (hi : i ∈ imgA b) : sc arg0 f0 (t + 1) i = sc3 arg0 f0 t i :=
  lnext_other _ 3 mask3 _ _ i (apart h hi)

/-- The carried rows before a trip. -/
abbrev carried (k : ℕ) := (Gen.st_k0_t1 (F := Ideal) Variants.none c none arg0 harg0 arg1 harg1 arg2 harg2 arg3 harg3 arg4 harg4 arg5 harg5 arg6 harg6 kernelRun.sl.v1 kernelRun.sl.r kernelRun.sl.v59 Gen.k0_pay615 Gen.k0_pay616 Gen.k0_pay617 Gen.k0_pay618 Gen.k0_pay619 Gen.k0_pay620 Gen.k0_pay621 Gen.k0_pay622 (cmpi CmpIPredicate.eq kernelRun.sl.v4648_1 kernelRun.sl.v4637) (cmpi CmpIPredicate.eq kernelRun.sl.v4648_1 kernelRun.sl.v4667) (arg6.view.writes (Elt Ideal) arg6.view.junk (kernelRun.sl.H6_1 c arg0 f0)) (Gen.k0_pay615, Gen.k0_pay616, Gen.k0_pay617, Gen.k0_pay618, Gen.k0_pay619, Gen.k0_pay620, Gen.k0_pay621, Gen.k0_pay622) k).1

/-- What is carried after one more round. -/
theorem carried_succ (k : ℕ) (hk : k < 100) : carried c arg0 harg0 arg1 harg1 arg2 harg2 arg3 harg3 arg4 harg4 arg5 harg5 arg6 harg6 f0 (k + 1)
    = yields kernelRun.sl.r kernelRun.sl.v59 (cmpi CmpIPredicate.eq kernelRun.sl.v4648_1 kernelRun.sl.v4637) (cmpi CmpIPredicate.eq kernelRun.sl.v4648_1 kernelRun.sl.v4667) (Gen.k0_pay22 kernelRun.sl.v1) (Gen.k0_pay23 kernelRun.sl.v1) (Scf.iv 0#32 1#32 k) (sc arg0 f0 k) (carried c arg0 harg0 arg1 harg1 arg2 harg2 arg3 harg3 arg4 harg4 arg5 harg5 arg6 harg6 f0 k) := by
  have h := st_rows (F := Ideal) c arg0 harg0 arg1 harg1 arg2 harg2 arg3 harg3 arg4 harg4 arg5 harg5 arg6 harg6 kernelRun.sl.v1 kernelRun.sl.r kernelRun.sl.v59 Gen.k0_pay615 Gen.k0_pay616 Gen.k0_pay617 Gen.k0_pay618 Gen.k0_pay619 Gen.k0_pay620 Gen.k0_pay621 Gen.k0_pay622
    (cmpi CmpIPredicate.eq kernelRun.sl.v4648_1 kernelRun.sl.v4637) (cmpi CmpIPredicate.eq kernelRun.sl.v4648_1 kernelRun.sl.v4667) (arg6.view.writes (Elt Ideal) arg6.view.junk (kernelRun.sl.H6_1 c arg0 f0)) (Gen.k0_pay615, Gen.k0_pay616, Gen.k0_pay617, Gen.k0_pay618, Gen.k0_pay619, Gen.k0_pay620, Gen.k0_pay621, Gen.k0_pay622) k hk
  rw [entry] at h
  exact h

/-- The loop's bounds give a hundred rounds. -/
theorem trips100 : Scf.trips k0_t1_loop.lb k0_t1_loop.ub k0_t1_loop.st = 100 := by decide

variable (hs : ∀ i, ⊥ < scoresIn arg0 f0 i)
include hs

/-- Image 0's rows after the loop. -/
theorem good0 : Good (scoresIn arg0 f0) 0 (kernelRun.sl.r_170 c arg0 harg0 arg1 harg1 arg2 harg2 arg3 harg3 arg4 harg4 arg5 harg5 arg6 harg6 f0) (kernelRun.sl.r_174 c arg0 harg0 arg1 harg1 arg2 harg2 arg3 harg3 arg4 harg4 arg5 harg5 arg6 harg6 f0) := by
  unfold kernelRun.sl.r_170 kernelRun.sl.r_174
  rw [trips100]
  exact good_of 0 (by omega) _ mask0 _ hs (sc arg0 f0) (sc arg0 f0) rfl (fun t i hi => rfl) (fun t i hi => (sc4_of arg0 f0 (by omega) t i hi).trans ((sc3_of arg0 f0 (by omega) t i hi).trans (sc2_of arg0 f0 (by omega) t i hi))) _ _
    (fun u hu => lanes kernelRun.sl.v59 lane (fun k => (carried c arg0 harg0 arg1 harg1 arg2 harg2 arg3 harg3 arg4 harg4 arg5 harg5 arg6 harg6 f0 k).1) (fun k => lmax (cmpi CmpIPredicate.eq kernelRun.sl.v4648_1 kernelRun.sl.v4637) (sc arg0 f0 k))
      (fun k hk => by show (carried c arg0 harg0 arg1 harg1 arg2 harg2 arg3 harg3 arg4 harg4 arg5 harg5 arg6 harg6 f0 (k + 1)).1 = _; rw [carried_succ c arg0 harg0 arg1 harg1 arg2 harg2 arg3 harg3 arg4 harg4 arg5 harg5 arg6 harg6 f0 k hk]) 100 (le_refl _) u hu)
    (fun u hu => lanes kernelRun.sl.v59 lane (fun k => (carried c arg0 harg0 arg1 harg1 arg2 harg2 arg3 harg3 arg4 harg4 arg5 harg5 arg6 harg6 f0 k).2.2.2.2.1) (fun k => lpos kernelRun.sl.r (cmpi CmpIPredicate.eq kernelRun.sl.v4648_1 kernelRun.sl.v4637) (sc arg0 f0 k))
      (fun k hk => by show (carried c arg0 harg0 arg1 harg1 arg2 harg2 arg3 harg3 arg4 harg4 arg5 harg5 arg6 harg6 f0 (k + 1)).2.2.2.2.1 = _; rw [carried_succ c arg0 harg0 arg1 harg1 arg2 harg2 arg3 harg3 arg4 harg4 arg5 harg5 arg6 harg6 f0 k hk]) 100 (le_refl _) u hu)

/-- Image 1's rows after the loop. -/
theorem good1 : Good (scoresIn arg0 f0) 1 (kernelRun.sl.r_171 c arg0 harg0 arg1 harg1 arg2 harg2 arg3 harg3 arg4 harg4 arg5 harg5 arg6 harg6 f0) (kernelRun.sl.r_175 c arg0 harg0 arg1 harg1 arg2 harg2 arg3 harg3 arg4 harg4 arg5 harg5 arg6 harg6 f0) := by
  unfold kernelRun.sl.r_171 kernelRun.sl.r_175
  rw [trips100]
  exact good_of 1 (by omega) _ mask1 _ hs (sc arg0 f0) (sc1 arg0 f0) rfl (fun t i hi => sc1_of arg0 f0 (by omega) t i hi) (fun t i hi => (sc4_of arg0 f0 (by omega) t i hi).trans (sc3_of arg0 f0 (by omega) t i hi)) _ _
    (fun u hu => lanes kernelRun.sl.v59 lane (fun k => (carried c arg0 harg0 arg1 harg1 arg2 harg2 arg3 harg3 arg4 harg4 arg5 harg5 arg6 harg6 f0 k).2.1) (fun k => lmax (cmpi CmpIPredicate.eq kernelRun.sl.v4648_1 kernelRun.sl.v4667) (sc1 arg0 f0 k))
      (fun k hk => by show (carried c arg0 harg0 arg1 harg1 arg2 harg2 arg3 harg3 arg4 harg4 arg5 harg5 arg6 harg6 f0 (k + 1)).2.1 = _; rw [carried_succ c arg0 harg0 arg1 harg1 arg2 harg2 arg3 harg3 arg4 harg4 arg5 harg5 arg6 harg6 f0 k hk]) 100 (le_refl _) u hu)
    (fun u hu => lanes kernelRun.sl.v59 lane (fun k => (carried c arg0 harg0 arg1 harg1 arg2 harg2 arg3 harg3 arg4 harg4 arg5 harg5 arg6 harg6 f0 k).2.2.2.2.2.1) (fun k => lpos kernelRun.sl.r (cmpi CmpIPredicate.eq kernelRun.sl.v4648_1 kernelRun.sl.v4667) (sc1 arg0 f0 k))
      (fun k hk => by show (carried c arg0 harg0 arg1 harg1 arg2 harg2 arg3 harg3 arg4 harg4 arg5 harg5 arg6 harg6 f0 (k + 1)).2.2.2.2.2.1 = _; rw [carried_succ c arg0 harg0 arg1 harg1 arg2 harg2 arg3 harg3 arg4 harg4 arg5 harg5 arg6 harg6 f0 k hk]) 100 (le_refl _) u hu)

/-- Image 2's rows after the loop. -/
theorem good2 : Good (scoresIn arg0 f0) 2 (kernelRun.sl.r_172 c arg0 harg0 arg1 harg1 arg2 harg2 arg3 harg3 arg4 harg4 arg5 harg5 arg6 harg6 f0) (kernelRun.sl.r_176 c arg0 harg0 arg1 harg1 arg2 harg2 arg3 harg3 arg4 harg4 arg5 harg5 arg6 harg6 f0) := by
  unfold kernelRun.sl.r_172 kernelRun.sl.r_176
  rw [trips100]
  exact good_of 2 (by omega) _ mask2 _ hs (sc arg0 f0) (sc2 arg0 f0) rfl (fun t i hi => (sc2_of arg0 f0 (by omega) t i hi).trans (sc1_of arg0 f0 (by omega) t i hi)) (fun t i hi => sc4_of arg0 f0 (by omega) t i hi) _ _
    (fun u hu => lanes kernelRun.sl.v59 lane (fun k => (carried c arg0 harg0 arg1 harg1 arg2 harg2 arg3 harg3 arg4 harg4 arg5 harg5 arg6 harg6 f0 k).2.2.1) (fun k => lmax (Gen.k0_pay22 kernelRun.sl.v1) (sc2 arg0 f0 k))
      (fun k hk => by show (carried c arg0 harg0 arg1 harg1 arg2 harg2 arg3 harg3 arg4 harg4 arg5 harg5 arg6 harg6 f0 (k + 1)).2.2.1 = _; rw [carried_succ c arg0 harg0 arg1 harg1 arg2 harg2 arg3 harg3 arg4 harg4 arg5 harg5 arg6 harg6 f0 k hk]) 100 (le_refl _) u hu)
    (fun u hu => lanes kernelRun.sl.v59 lane (fun k => (carried c arg0 harg0 arg1 harg1 arg2 harg2 arg3 harg3 arg4 harg4 arg5 harg5 arg6 harg6 f0 k).2.2.2.2.2.2.1) (fun k => lpos kernelRun.sl.r (Gen.k0_pay22 kernelRun.sl.v1) (sc2 arg0 f0 k))
      (fun k hk => by show (carried c arg0 harg0 arg1 harg1 arg2 harg2 arg3 harg3 arg4 harg4 arg5 harg5 arg6 harg6 f0 (k + 1)).2.2.2.2.2.2.1 = _; rw [carried_succ c arg0 harg0 arg1 harg1 arg2 harg2 arg3 harg3 arg4 harg4 arg5 harg5 arg6 harg6 f0 k hk]) 100 (le_refl _) u hu)

/-- Image 3's rows after the loop. -/
theorem good3 : Good (scoresIn arg0 f0) 3 (kernelRun.sl.r_173 c arg0 harg0 arg1 harg1 arg2 harg2 arg3 harg3 arg4 harg4 arg5 harg5 arg6 harg6 f0) (kernelRun.sl.r_177 c arg0 harg0 arg1 harg1 arg2 harg2 arg3 harg3 arg4 harg4 arg5 harg5 arg6 harg6 f0) := by
  unfold kernelRun.sl.r_173 kernelRun.sl.r_177
  rw [trips100]
  exact good_of 3 (by omega) _ mask3 _ hs (sc arg0 f0) (sc3 arg0 f0) rfl (fun t i hi => (sc3_of arg0 f0 (by omega) t i hi).trans ((sc2_of arg0 f0 (by omega) t i hi).trans (sc1_of arg0 f0 (by omega) t i hi))) (fun t i hi => rfl) _ _
    (fun u hu => lanes kernelRun.sl.v59 lane (fun k => (carried c arg0 harg0 arg1 harg1 arg2 harg2 arg3 harg3 arg4 harg4 arg5 harg5 arg6 harg6 f0 k).2.2.2.1) (fun k => lmax (Gen.k0_pay23 kernelRun.sl.v1) (sc3 arg0 f0 k))
      (fun k hk => by show (carried c arg0 harg0 arg1 harg1 arg2 harg2 arg3 harg3 arg4 harg4 arg5 harg5 arg6 harg6 f0 (k + 1)).2.2.2.1 = _; rw [carried_succ c arg0 harg0 arg1 harg1 arg2 harg2 arg3 harg3 arg4 harg4 arg5 harg5 arg6 harg6 f0 k hk]) 100 (le_refl _) u hu)
    (fun u hu => lanes kernelRun.sl.v59 lane (fun k => (carried c arg0 harg0 arg1 harg1 arg2 harg2 arg3 harg3 arg4 harg4 arg5 harg5 arg6 harg6 f0 k).2.2.2.2.2.2.2) (fun k => lpos kernelRun.sl.r (Gen.k0_pay23 kernelRun.sl.v1) (sc3 arg0 f0 k))
      (fun k hk => by show (carried c arg0 harg0 arg1 harg1 arg2 harg2 arg3 harg3 arg4 harg4 arg5 harg5 arg6 harg6 f0 (k + 1)).2.2.2.2.2.2.2 = _; rw [carried_succ c arg0 harg0 arg1 harg1 arg2 harg2 arg3 harg3 arg4 harg4 arg5 harg5 arg6 harg6 f0 k hk]) 100 (le_refl _) u hu)

end final

end Cert.KernelIdeal.Loop

end
-- ==== Proof.Blocks.lean ====
module

public import proofs.«01_k».proof.Proof.LoopTop
public import Idealize.ShloMosaic.Lib.Pipeline.ReadBack

/-
  The four blocks the body writes: each is one image's block, from rows that hold the image's hundred greatest records.
-/

@[expose] public section

set_option maxRecDepth 65536

noncomputable section

open Idealize.ShloMosaic Idealize.ShloMosaic.SortNet Idealize.ShloMosaic.WordArith

namespace Cert.KernelIdeal.Blocks

open Cert.KernelIdeal Cert.KernelIdeal.Hand Cert.KernelIdeal.Tail Cert.KernelIdeal.Loop Cert.KernelIdeal.Outp Cert.Model Facts₀ Facts

section rows
variable {F : FTy → Type} [FloatOps F]
variable {e : EltTy} (v : View sig .tc .vmem S8x128 e) (w3 w2 w1 w0 : Vec F S1x128 e) (L : List (View.Piece (Elt F) S8x128 e))

/-- Four rows written one by one, over anything. -/
abbrev four : List (View.Piece (Elt F) S8x128 e) :=
  ⟨Rect.unit ![3, 0] S1x128.size inb_S8x128_S1x128_3_0, w3⟩ :: ⟨Rect.unit ![2, 0] S1x128.size inb_S8x128_S1x128_2_0, w2⟩
    :: ⟨Rect.unit ![1, 0] S1x128.size inb_S8x128_S1x128_1_0, w1⟩ :: ⟨Rect.unit ![0, 0] S1x128.size inb_S8x128_S1x128_0_0, w0⟩ :: L

/-- Row 3 read back is what was written to it, -/
theorem back3 : v.readCov (four w3 w2 w1 w0 L) (Rect.unit ![3, 0] S1x128.size inb_S8x128_S1x128_3_0 : Rect S8x128).toLoadRect = w3 := by
  rw [View.readCov_cons_toLoadRect]
/-- so is row 2, -/
theorem back2 : v.readCov (four w3 w2 w1 w0 L) (Rect.unit ![2, 0] S1x128.size inb_S8x128_S1x128_2_0 : Rect S8x128).toLoadRect = w2 := by
  rw [View.readCov_skip _ _ _ _ _ (by decide), View.readCov_cons_toLoadRect]
/-- row 1 -/
theorem back1 : v.readCov (four w3 w2 w1 w0 L) (Rect.unit ![1, 0] S1x128.size inb_S8x128_S1x128_1_0 : Rect S8x128).toLoadRect = w1 := by
  rw [View.readCov_skip _ _ _ _ _ (by decide), View.readCov_skip _ _ _ _ _ (by decide), View.readCov_cons_toLoadRect]
/-- and row 0. -/
theorem back0 : v.readCov (four w3 w2 w1 w0 L) (Rect.unit ![0, 0] S1x128.size inb_S8x128_S1x128_0_0 : Rect S8x128).toLoadRect = w0 := by
  rw [View.readCov_skip _ _ _ _ _ (by decide), View.readCov_skip _ _ _ _ _ (by decide), View.readCov_skip _ _ _ _ _ (by decide), View.readCov_cons_toLoadRect]

/-- A column laid out as a row. -/
theorem column_apply {α : Type} (X : S128x4.Idx → α) (b : Fin 4) (h : S128x4.Slices ![0, b.val] S128x1) (h' : S128x1.ShapeCasts S1x128) (h'' : S1x128.ShapeCasts S1x128)
    (u : Fin 128) : shapeCast S1x128 (shapeCast S1x128 (extractStridedSlice S128x1 ![0, b.val] X h) h') h'' (ix2 (0 : Fin 1) u) = X (ix2 u b) := by
  rw [shapeCast_self, shapeCast_apply _ _ _ (ix2 u (0 : Fin 1) : S128x1.Idx) (by rw [Shape.rowMajor_val_two, Shape.rowMajor_val_two]; simp),
    extractStridedSlice_apply _ _ _ _ (ix2 u b : S128x4.Idx) (fun a => by
      match a with
        | ⟨0, _⟩ => simp
        | ⟨1, _⟩ => simp)]

/-- Four blocks written one by one leave each in its place. -/
theorem rows_canon (w : Fin 4 → Vec F S1x8x128 .f32) (b : Fin 4) (i : Fin 8) (j : Fin 128) :
    View.canon (rows (w 3) (w 2) (w 1) (w 0)) (ix3 b i j) = w b (ix3 (0 : Fin 1) i j) := by
  have hit : ∀ (k : Fin 4) (h : ∀ a, (![k.val, 0, 0] : Fin 3 → ℕ) a + S1x8x128.size a ≤ S4x8x128.size a) (x : Vec F S1x8x128 .f32) (L : List (View.Piece (Elt F) S4x8x128 .f32)),
      View.canon (⟨(Rect.unit ![k.val, 0, 0] S1x8x128.size h : Rect S4x8x128), x⟩ :: L) (ix3 k i j) = x (ix3 (0 : Fin 1) i j) := by
    intro k h x L
    have e := View.canon_cons_emb (Rect.unit ![k.val, 0, 0] S1x8x128.size h : Rect S4x8x128) x L (ix3 (0 : Fin 1) i j)
    rw [← e]
    congr 1
    funext a
    apply Fin.ext
    match a with
      | ⟨0, _⟩ => show k.val = k.val + 1 * 0; omega
      | ⟨1, _⟩ => show i.val = 0 + 1 * i.val; omega
      | ⟨2, _⟩ => show j.val = 0 + 1 * j.val; omega
  have miss : ∀ (k k' : Fin 4) (hk : k ≠ k') (h : ∀ a, (![k.val, 0, 0] : Fin 3 → ℕ) a + S1x8x128.size a ≤ S4x8x128.size a) (x : Vec F S1x8x128 .f32) (L : List (View.Piece (Elt F) S4x8x128 .f32)),
      View.canon (⟨(Rect.unit ![k.val, 0, 0] S1x8x128.size h : Rect S4x8x128), x⟩ :: L) (ix3 k' i j) = View.canon L (ix3 k' i j) := by
    intro k k' hk h x L
    refine View.canon_cons_of_not_mem _ _ ?_
    intro hm
    have hm' : (ix3 k' i j : S4x8x128.Idx) ∈ (Rect.unit ![k.val, 0, 0] S1x8x128.size h : Rect S4x8x128).set := hm
    have h0 := (Rect.mem_set_unit.1 hm') 0
    have h1 : k.val ≤ k'.val ∧ k'.val < k.val + 1 := h0
    exact hk (Fin.ext (by omega))
  unfold rows
  have hb : b = 0 ∨ b = 1 ∨ b = 2 ∨ b = 3 := by omega
  rcases hb with rfl | rfl | rfl | rfl
  · exact (miss 3 0 (by decide) _ _ _).trans ((miss 2 0 (by decide) _ _ _).trans ((miss 1 0 (by decide) _ _ _).trans (hit 0 _ _ _)))
  · exact (miss 3 1 (by decide) _ _ _).trans ((miss 2 1 (by decide) _ _ _).trans (hit 1 _ _ _))
  · exact (miss 3 2 (by decide) _ _ _).trans (hit 2 _ _ _)
  · exact hit 3 _ _ _

end rows

/-- Rows read off a column of a block of lists. -/
theorem good_column (s : FVec Ideal S192x2048 .f32) (b : Fin 4) (V : FVec Ideal S128x4 .f32) (N : IVec S128x4 32) (sv : S1x128.Idx → EReal) (sn : S1x128.Idx → BitVec 32)
    (hv : ∀ u : Fin 128, sv (ix2 (0 : Fin 1) u) = V (ix2 u b)) (hn : ∀ u : Fin 128, sn (ix2 (0 : Fin 1) u) = N (ix2 u b))
    (h : (colL V N b).take 100 = topList 100 (imgRecs s b.val)) : Good s b.val sv sn := by
  unfold Good
  rw [← h]
  refine List.ext_getElem (by rw [List.length_ofFn, List.length_take, colL_length]; rfl) (fun k h1 h2 => ?_)
  have hk : k < 100 := by simpa using h1
  rw [List.getElem_ofFn, List.getElem_take, colL_getElem, hv, hn]
  rfl

section blocks
variable (c : Dev nD) (arg0 : Memref sig .tc .vmem S192x2048 .f32) (harg0 : arg0.IsWhole)
    (arg1 : Memref sig .tc .vmem S4x72x8192 .f32) (harg1 : arg1.IsWhole) (arg2 : Memref sig .tc .smem S4x3 .f32) (harg2 : arg2.IsWhole)
    (arg3 : Memref sig .tc .vmem S4x8x128 .f32) (harg3 : arg3.IsWhole) (arg4 : Memref sig .tc .vmem S8x128 .f32) (harg4 : arg4.IsWhole)
    (arg5 : Memref sig .tc .vmem S8x128 .i32) (harg5 : arg5.IsWhole) (arg6 : Memref sig .tc .vmem S192x2048 .f32) (harg6 : arg6.IsWhole)
  (f0 : BufTy.Contents (Elt Ideal) arg0.view.ty) (f1 : BufTy.Contents (Elt Ideal) arg1.view.ty) (f2 : BufTy.Contents (Elt Ideal) arg2.view.ty)
  (hs : ∀ i, ⊥ < scoresIn arg0 f0 i)

/-- The numbers of the images, as words of numbers. -/
def bits : Fin 4 → BitVec 32 := ![0x00000000#32, 0x3F800000#32, 0x40000000#32, 0x40400000#32]

/-- The rows of scores when eight maxima of every column are enough, -/
def svN (b : Fin 4) : Vec Ideal S1x128 .f32 := ![kernelRun.sl.v2537_1 c arg0 arg4 f0, kernelRun.sl.v3060_1 c arg0 arg4 f0, kernelRun.sl.v3583_1 c arg0 arg4 f0, kernelRun.sl.v4106_1 c arg0 arg4 f0] b
/-- and of positions; -/
def snN (b : Fin 4) : Vec Ideal S1x128 .i32 := ![kernelRun.sl.v2536_1 c arg0 arg5 f0, kernelRun.sl.v3059_1 c arg0 arg5 f0, kernelRun.sl.v3582_1 c arg0 arg5 f0, kernelRun.sl.v4105_1 c arg0 arg5 f0] b
/-- the rows of scores when they are not, -/
def svF (b : Fin 4) : Vec Ideal S1x128 .f32 := ![kernelRun.sl.v2537 c arg0 harg0 arg1 harg1 arg2 harg2 arg3 harg3 arg4 harg4 arg5 harg5 arg6 harg6 f0, kernelRun.sl.v3060 c arg0 harg0 arg1 harg1 arg2 harg2 arg3 harg3 arg4 harg4 arg5 harg5 arg6 harg6 f0, kernelRun.sl.v3583 c arg0 harg0 arg1 harg1 arg2 harg2 arg3 harg3 arg4 harg4 arg5 harg5 arg6 harg6 f0, kernelRun.sl.v4106 c arg0 harg0 arg1 harg1 arg2 harg2 arg3 harg3 arg4 harg4 arg5 harg5 arg6 harg6 f0] b
/-- and of positions. -/
def snF (b : Fin 4) : Vec Ideal S1x128 .i32 := ![kernelRun.sl.v2536 c arg0 harg0 arg1 harg1 arg2 harg2 arg3 harg3 arg4 harg4 arg5 harg5 arg6 harg6 f0, kernelRun.sl.v3059 c arg0 harg0 arg1 harg1 arg2 harg2 arg3 harg3 arg4 harg4 arg5 harg5 arg6 harg6 f0, kernelRun.sl.v3582 c arg0 harg0 arg1 harg1 arg2 harg2 arg3 harg3 arg4 harg4 arg5 harg5 arg6 harg6 f0, kernelRun.sl.v4105 c arg0 harg0 arg1 harg1 arg2 harg2 arg3 harg3 arg4 harg4 arg5 harg5 arg6 harg6 f0] b

include hs in
/-- When the check passes, the rows hold each image's hundred greatest records, -/
theorem goodN (h : ¬ kernelRun.sl.v2535 c arg0 f0 = 1#1) (b : Fin 4) : Good (scoresIn arg0 f0) b.val (svN c arg0 arg4 f0 b) (snN c arg0 arg5 f0 b) := by
  refine good_column _ b (kernelRun.sl.r_166 c arg0 f0) (kernelRun.sl.r_167 c arg0 f0) _ _ ?_ ?_ (top100 c arg0 f0 hs h b)
  · intro u
    have hb : b = 0 ∨ b = 1 ∨ b = 2 ∨ b = 3 := by omega
    rcases hb with rfl | rfl | rfl | rfl
    · exact (congrFun (back0 arg4.view (kernelRun.sl.v2485 c arg0 f0) (kernelRun.sl.v2475 c arg0 f0) (kernelRun.sl.v2465 c arg0 f0) (kernelRun.sl.v2455 c arg0 f0) []) _).trans (column_apply (kernelRun.sl.r_166 c arg0 f0) 0 (by decide) (by decide) (by decide) u)
    · exact (congrFun (back1 arg4.view (kernelRun.sl.v2485 c arg0 f0) (kernelRun.sl.v2475 c arg0 f0) (kernelRun.sl.v2465 c arg0 f0) (kernelRun.sl.v2455 c arg0 f0) []) _).trans (column_apply (kernelRun.sl.r_166 c arg0 f0) 1 (by decide) (by decide) (by decide) u)
    · exact (congrFun (back2 arg4.view (kernelRun.sl.v2485 c arg0 f0) (kernelRun.sl.v2475 c arg0 f0) (kernelRun.sl.v2465 c arg0 f0) (kernelRun.sl.v2455 c arg0 f0) []) _).trans (column_apply (kernelRun.sl.r_166 c arg0 f0) 2 (by decide) (by decide) (by decide) u)
    · exact (congrFun (back3 arg4.view (kernelRun.sl.v2485 c arg0 f0) (kernelRun.sl.v2475 c arg0 f0) (kernelRun.sl.v2465 c arg0 f0) (kernelRun.sl.v2455 c arg0 f0) []) _).trans (column_apply (kernelRun.sl.r_166 c arg0 f0) 3 (by decide) (by decide) (by decide) u)
  · intro u
    have hb : b = 0 ∨ b = 1 ∨ b = 2 ∨ b = 3 := by omega
    rcases hb with rfl | rfl | rfl | rfl
    · exact (congrFun (back0 arg5.view (kernelRun.sl.v2490 c arg0 f0) (kernelRun.sl.v2480 c arg0 f0) (kernelRun.sl.v2470 c arg0 f0) (kernelRun.sl.v2460 c arg0 f0) []) _).trans (column_apply (kernelRun.sl.r_167 c arg0 f0) 0 (by decide) (by decide) (by decide) u)
    · exact (congrFun (back1 arg5.view (kernelRun.sl.v2490 c arg0 f0) (kernelRun.sl.v2480 c arg0 f0) (kernelRun.sl.v2470 c arg0 f0) (kernelRun.sl.v2460 c arg0 f0) []) _).trans (column_apply (kernelRun.sl.r_167 c arg0 f0) 1 (by decide) (by decide) (by decide) u)
    · exact (congrFun (back2 arg5.view (kernelRun.sl.v2490 c arg0 f0) (kernelRun.sl.v2480 c arg0 f0) (kernelRun.sl.v2470 c arg0 f0) (kernelRun.sl.v2460 c arg0 f0) []) _).trans (column_apply (kernelRun.sl.r_167 c arg0 f0) 2 (by decide) (by decide) (by decide) u)
    · exact (congrFun (back3 arg5.view (kernelRun.sl.v2490 c arg0 f0) (kernelRun.sl.v2480 c arg0 f0) (kernelRun.sl.v2470 c arg0 f0) (kernelRun.sl.v2460 c arg0 f0) []) _).trans (column_apply (kernelRun.sl.r_167 c arg0 f0) 3 (by decide) (by decide) (by decide) u)

include hs in
/-- and after the fallback loop they do too. -/
theorem goodF (b : Fin 4) : Good (scoresIn arg0 f0) b.val (svF c arg0 harg0 arg1 harg1 arg2 harg2 arg3 harg3 arg4 harg4 arg5 harg5 arg6 harg6 f0 b) (snF c arg0 harg0 arg1 harg1 arg2 harg2 arg3 harg3 arg4 harg4 arg5 harg5 arg6 harg6 f0 b) := by
  have hb : b = 0 ∨ b = 1 ∨ b = 2 ∨ b = 3 := by omega
  rcases hb with rfl | rfl | rfl | rfl
  · have ev : kernelRun.sl.v2537 c arg0 harg0 arg1 harg1 arg2 harg2 arg3 harg3 arg4 harg4 arg5 harg5 arg6 harg6 f0 = kernelRun.sl.r_170 c arg0 harg0 arg1 harg1 arg2 harg2 arg3 harg3 arg4 harg4 arg5 harg5 arg6 harg6 f0 :=
      (back0 (F := Ideal) arg4.view (Gen.k0_pay629 (kernelRun.sl.r_173 c arg0 harg0 arg1 harg1 arg2 harg2 arg3 harg3 arg4 harg4 arg5 harg5 arg6 harg6 f0)) (Gen.k0_pay627 (kernelRun.sl.r_172 c arg0 harg0 arg1 harg1 arg2 harg2 arg3 harg3 arg4 harg4 arg5 harg5 arg6 harg6 f0)) (Gen.k0_pay625 (kernelRun.sl.r_171 c arg0 harg0 arg1 harg1 arg2 harg2 arg3 harg3 arg4 harg4 arg5 harg5 arg6 harg6 f0)) (Gen.k0_pay623 (kernelRun.sl.r_170 c arg0 harg0 arg1 harg1 arg2 harg2 arg3 harg3 arg4 harg4 arg5 harg5 arg6 harg6 f0)) _).trans (shapeCast_self _ _)
    have en : kernelRun.sl.v2536 c arg0 harg0 arg1 harg1 arg2 harg2 arg3 harg3 arg4 harg4 arg5 harg5 arg6 harg6 f0 = kernelRun.sl.r_174 c arg0 harg0 arg1 harg1 arg2 harg2 arg3 harg3 arg4 harg4 arg5 harg5 arg6 harg6 f0 :=
      (back0 (F := Ideal) arg5.view (Gen.k0_pay630 (kernelRun.sl.r_177 c arg0 harg0 arg1 harg1 arg2 harg2 arg3 harg3 arg4 harg4 arg5 harg5 arg6 harg6 f0)) (Gen.k0_pay628 (kernelRun.sl.r_176 c arg0 harg0 arg1 harg1 arg2 harg2 arg3 harg3 arg4 harg4 arg5 harg5 arg6 harg6 f0)) (Gen.k0_pay626 (kernelRun.sl.r_175 c arg0 harg0 arg1 harg1 arg2 harg2 arg3 harg3 arg4 harg4 arg5 harg5 arg6 harg6 f0)) (Gen.k0_pay624 (kernelRun.sl.r_174 c arg0 harg0 arg1 harg1 arg2 harg2 arg3 harg3 arg4 harg4 arg5 harg5 arg6 harg6 f0)) _).trans (shapeCast_self _ _)
    show Good _ 0 (kernelRun.sl.v2537 c arg0 harg0 arg1 harg1 arg2 harg2 arg3 harg3 arg4 harg4 arg5 harg5 arg6 harg6 f0) (kernelRun.sl.v2536 c arg0 harg0 arg1 harg1 arg2 harg2 arg3 harg3 arg4 harg4 arg5 harg5 arg6 harg6 f0)
    rw [ev, en]
    exact good0 c arg0 harg0 arg1 harg1 arg2 harg2 arg3 harg3 arg4 harg4 arg5 harg5 arg6 harg6 f0 hs
  · have ev : kernelRun.sl.v3060 c arg0 harg0 arg1 harg1 arg2 harg2 arg3 harg3 arg4 harg4 arg5 harg5 arg6 harg6 f0 = kernelRun.sl.r_171 c arg0 harg0 arg1 harg1 arg2 harg2 arg3 harg3 arg4 harg4 arg5 harg5 arg6 harg6 f0 :=
      (back1 (F := Ideal) arg4.view (Gen.k0_pay629 (kernelRun.sl.r_173 c arg0 harg0 arg1 harg1 arg2 harg2 arg3 harg3 arg4 harg4 arg5 harg5 arg6 harg6 f0)) (Gen.k0_pay627 (kernelRun.sl.r_172 c arg0 harg0 arg1 harg1 arg2 harg2 arg3 harg3 arg4 harg4 arg5 harg5 arg6 harg6 f0)) (Gen.k0_pay625 (kernelRun.sl.r_171 c arg0 harg0 arg1 harg1 arg2 harg2 arg3 harg3 arg4 harg4 arg5 harg5 arg6 harg6 f0)) (Gen.k0_pay623 (kernelRun.sl.r_170 c arg0 harg0 arg1 harg1 arg2 harg2 arg3 harg3 arg4 harg4 arg5 harg5 arg6 harg6 f0)) _).trans (shapeCast_self _ _)
    have en : kernelRun.sl.v3059 c arg0 harg0 arg1 harg1 arg2 harg2 arg3 harg3 arg4 harg4 arg5 harg5 arg6 harg6 f0 = kernelRun.sl.r_175 c arg0 harg0 arg1 harg1 arg2 harg2 arg3 harg3 arg4 harg4 arg5 harg5 arg6 harg6 f0 :=
      (back1 (F := Ideal) arg5.view (Gen.k0_pay630 (kernelRun.sl.r_177 c arg0 harg0 arg1 harg1 arg2 harg2 arg3 harg3 arg4 harg4 arg5 harg5 arg6 harg6 f0)) (Gen.k0_pay628 (kernelRun.sl.r_176 c arg0 harg0 arg1 harg1 arg2 harg2 arg3 harg3 arg4 harg4 arg5 harg5 arg6 harg6 f0)) (Gen.k0_pay626 (kernelRun.sl.r_175 c arg0 harg0 arg1 harg1 arg2 harg2 arg3 harg3 arg4 harg4 arg5 harg5 arg6 harg6 f0)) (Gen.k0_pay624 (kernelRun.sl.r_174 c arg0 harg0 arg1 harg1 arg2 harg2 arg3 harg3 arg4 harg4 arg5 harg5 arg6 harg6 f0)) _).trans (shapeCast_self _ _)
    show Good _ 1 (kernelRun.sl.v3060 c arg0 harg0 arg1 harg1 arg2 harg2 arg3 harg3 arg4 harg4 arg5 harg5 arg6 harg6 f0) (kernelRun.sl.v3059 c arg0 harg0 arg1 harg1 arg2 harg2 arg3 harg3 arg4 harg4 arg5 harg5 arg6 harg6 f0)
    rw [ev, en]
    exact good1 c arg0 harg0 arg1 harg1 arg2 harg2 arg3 harg3 arg4 harg4 arg5 harg5 arg6 harg6 f0 hs
  · have ev : kernelRun.sl.v3583 c arg0 harg0 arg1 harg1 arg2 harg2 arg3 harg3 arg4 harg4 arg5 harg5 arg6 harg6 f0 = kernelRun.sl.r_172 c arg0 harg0 arg1 harg1 arg2 harg2 arg3 harg3 arg4 harg4 arg5 harg5 arg6 harg6 f0 :=
      (back2 (F := Ideal) arg4.view (Gen.k0_pay629 (kernelRun.sl.r_173 c arg0 harg0 arg1 harg1 arg2 harg2 arg3 harg3 arg4 harg4 arg5 harg5 arg6 harg6 f0)) (Gen.k0_pay627 (kernelRun.sl.r_172 c arg0 harg0 arg1 harg1 arg2 harg2 arg3 harg3 arg4 harg4 arg5 harg5 arg6 harg6 f0)) (Gen.k0_pay625 (kernelRun.sl.r_171 c arg0 harg0 arg1 harg1 arg2 harg2 arg3 harg3 arg4 harg4 arg5 harg5 arg6 harg6 f0)) (Gen.k0_pay623 (kernelRun.sl.r_170 c arg0 harg0 arg1 harg1 arg2 harg2 arg3 harg3 arg4 harg4 arg5 harg5 arg6 harg6 f0)) _).trans (shapeCast_self _ _)
    have en : kernelRun.sl.v3582 c arg0 harg0 arg1 harg1 arg2 harg2 arg3 harg3 arg4 harg4 arg5 harg5 arg6 harg6 f0 = kernelRun.sl.r_176 c arg0 harg0 arg1 harg1 arg2 harg2 arg3 harg3 arg4 harg4 arg5 harg5 arg6 harg6 f0 :=
      (back2 (F := Ideal) arg5.view (Gen.k0_pay630 (kernelRun.sl.r_177 c arg0 harg0 arg1 harg1 arg2 harg2 arg3 harg3 arg4 harg4 arg5 harg5 arg6 harg6 f0)) (Gen.k0_pay628 (kernelRun.sl.r_176 c arg0 harg0 arg1 harg1 arg2 harg2 arg3 harg3 arg4 harg4 arg5 harg5 arg6 harg6 f0)) (Gen.k0_pay626 (kernelRun.sl.r_175 c arg0 harg0 arg1 harg1 arg2 harg2 arg3 harg3 arg4 harg4 arg5 harg5 arg6 harg6 f0)) (Gen.k0_pay624 (kernelRun.sl.r_174 c arg0 harg0 arg1 harg1 arg2 harg2 arg3 harg3 arg4 harg4 arg5 harg5 arg6 harg6 f0)) _).trans (shapeCast_self _ _)
    show Good _ 2 (kernelRun.sl.v3583 c arg0 harg0 arg1 harg1 arg2 harg2 arg3 harg3 arg4 harg4 arg5 harg5 arg6 harg6 f0) (kernelRun.sl.v3582 c arg0 harg0 arg1 harg1 arg2 harg2 arg3 harg3 arg4 harg4 arg5 harg5 arg6 harg6 f0)
    rw [ev, en]
    exact good2 c arg0 harg0 arg1 harg1 arg2 harg2 arg3 harg3 arg4 harg4 arg5 harg5 arg6 harg6 f0 hs
  · have ev : kernelRun.sl.v4106 c arg0 harg0 arg1 harg1 arg2 harg2 arg3 harg3 arg4 harg4 arg5 harg5 arg6 harg6 f0 = kernelRun.sl.r_173 c arg0 harg0 arg1 harg1 arg2 harg2 arg3 harg3 arg4 harg4 arg5 harg5 arg6 harg6 f0 :=
      (back3 (F := Ideal) arg4.view (Gen.k0_pay629 (kernelRun.sl.r_173 c arg0 harg0 arg1 harg1 arg2 harg2 arg3 harg3 arg4 harg4 arg5 harg5 arg6 harg6 f0)) (Gen.k0_pay627 (kernelRun.sl.r_172 c arg0 harg0 arg1 harg1 arg2 harg2 arg3 harg3 arg4 harg4 arg5 harg5 arg6 harg6 f0)) (Gen.k0_pay625 (kernelRun.sl.r_171 c arg0 harg0 arg1 harg1 arg2 harg2 arg3 harg3 arg4 harg4 arg5 harg5 arg6 harg6 f0)) (Gen.k0_pay623 (kernelRun.sl.r_170 c arg0 harg0 arg1 harg1 arg2 harg2 arg3 harg3 arg4 harg4 arg5 harg5 arg6 harg6 f0)) _).trans (shapeCast_self _ _)
    have en : kernelRun.sl.v4105 c arg0 harg0 arg1 harg1 arg2 harg2 arg3 harg3 arg4 harg4 arg5 harg5 arg6 harg6 f0 = kernelRun.sl.r_177 c arg0 harg0 arg1 harg1 arg2 harg2 arg3 harg3 arg4 harg4 arg5 harg5 arg6 harg6 f0 :=
      (back3 (F := Ideal) arg5.view (Gen.k0_pay630 (kernelRun.sl.r_177 c arg0 harg0 arg1 harg1 arg2 harg2 arg3 harg3 arg4 harg4 arg5 harg5 arg6 harg6 f0)) (Gen.k0_pay628 (kernelRun.sl.r_176 c arg0 harg0 arg1 harg1 arg2 harg2 arg3 harg3 arg4 harg4 arg5 harg5 arg6 harg6 f0)) (Gen.k0_pay626 (kernelRun.sl.r_175 c arg0 harg0 arg1 harg1 arg2 harg2 arg3 harg3 arg4 harg4 arg5 harg5 arg6 harg6 f0)) (Gen.k0_pay624 (kernelRun.sl.r_174 c arg0 harg0 arg1 harg1 arg2 harg2 arg3 harg3 arg4 harg4 arg5 harg5 arg6 harg6 f0)) _).trans (shapeCast_self _ _)
    show Good _ 3 (kernelRun.sl.v4106 c arg0 harg0 arg1 harg1 arg2 harg2 arg3 harg3 arg4 harg4 arg5 harg5 arg6 harg6 f0) (kernelRun.sl.v4105 c arg0 harg0 arg1 harg1 arg2 harg2 arg3 harg3 arg4 harg4 arg5 harg5 arg6 harg6 f0)
    rw [ev, en]
    exact good3 c arg0 harg0 arg1 harg1 arg2 harg2 arg3 harg3 arg4 harg4 arg5 harg5 arg6 harg6 f0 hs

/-- The four pieces written when the check passes are the four images' blocks, -/
theorem piecesN_eq : piecesN c arg0 harg0 arg1 harg1 arg2 harg2 arg3 harg3 arg4 harg4 arg5 harg5 arg6 harg6 f0 f1 f2 = rows (tail (bits 3) (svN c arg0 arg4 f0 3) (snN c arg0 arg5 f0 3) (chunks 3 arg1 f1) (sizes 3 arg2 f2)) (tail (bits 2) (svN c arg0 arg4 f0 2) (snN c arg0 arg5 f0 2) (chunks 2 arg1 f1) (sizes 2 arg2 f2)) (tail (bits 1) (svN c arg0 arg4 f0 1) (snN c arg0 arg5 f0 1) (chunks 1 arg1 f1) (sizes 1 arg2 f2)) (tail (bits 0) (svN c arg0 arg4 f0 0) (snN c arg0 arg5 f0 0) (chunks 0 arg1 f1) (sizes 0 arg2 f2)) := by
  unfold piecesN
  rw [blockN3 c arg0 arg1 arg2 arg4 arg5 f0 f1 f2, blockN2 c arg0 arg1 arg2 arg4 arg5 f0 f1 f2, blockN1 c arg0 arg1 arg2 arg4 arg5 f0 f1 f2, blockN0 c arg0 arg1 arg2 arg4 arg5 f0 f1 f2]
  rfl

/-- and so are those written after the fallback loop. -/
theorem piecesF_eq : piecesF c arg0 harg0 arg1 harg1 arg2 harg2 arg3 harg3 arg4 harg4 arg5 harg5 arg6 harg6 f0 f1 f2 = rows (tail (bits 3) (svF c arg0 harg0 arg1 harg1 arg2 harg2 arg3 harg3 arg4 harg4 arg5 harg5 arg6 harg6 f0 3) (snF c arg0 harg0 arg1 harg1 arg2 harg2 arg3 harg3 arg4 harg4 arg5 harg5 arg6 harg6 f0 3) (chunks 3 arg1 f1) (sizes 3 arg2 f2)) (tail (bits 2) (svF c arg0 harg0 arg1 harg1 arg2 harg2 arg3 harg3 arg4 harg4 arg5 harg5 arg6 harg6 f0 2) (snF c arg0 harg0 arg1 harg1 arg2 harg2 arg3 harg3 arg4 harg4 arg5 harg5 arg6 harg6 f0 2) (chunks 2 arg1 f1) (sizes 2 arg2 f2)) (tail (bits 1) (svF c arg0 harg0 arg1 harg1 arg2 harg2 arg3 harg3 arg4 harg4 arg5 harg5 arg6 harg6 f0 1) (snF c arg0 harg0 arg1 harg1 arg2 harg2 arg3 harg3 arg4 harg4 arg5 harg5 arg6 harg6 f0 1) (chunks 1 arg1 f1) (sizes 1 arg2 f2)) (tail (bits 0) (svF c arg0 harg0 arg1 harg1 arg2 harg2 arg3 harg3 arg4 harg4 arg5 harg5 arg6 harg6 f0 0) (snF c arg0 harg0 arg1 harg1 arg2 harg2 arg3 harg3 arg4 harg4 arg5 harg5 arg6 harg6 f0 0) (chunks 0 arg1 f1) (sizes 0 arg2 f2)) := by
  unfold piecesF
  rw [blockF3 c arg0 harg0 arg1 harg1 arg2 harg2 arg3 harg3 arg4 harg4 arg5 harg5 arg6 harg6 f0 f1 f2, blockF2 c arg0 harg0 arg1 harg1 arg2 harg2 arg3 harg3 arg4 harg4 arg5 harg5 arg6 harg6 f0 f1 f2, blockF1 c arg0 harg0 arg1 harg1 arg2 harg2 arg3 harg3 arg4 harg4 arg5 harg5 arg6 harg6 f0 f1 f2, blockF0 c arg0 harg0 arg1 harg1 arg2 harg2 arg3 harg3 arg4 harg4 arg5 harg5 arg6 harg6 f0 f1 f2]
  rfl

include hs in
/-- What the body writes for each image. -/
theorem out_blocks : ∃ (sv : Fin 4 → Vec Ideal S1x128 .f32) (sn : Fin 4 → Vec Ideal S1x128 .i32), (∀ b : Fin 4, Good (scoresIn arg0 f0) b.val (sv b) (sn b)) ∧
    ∀ (b : Fin 4) (i : Fin 8) (j : Fin 128), out c arg0 harg0 arg1 harg1 arg2 harg2 arg3 harg3 arg4 harg4 arg5 harg5 arg6 harg6 f0 f1 f2 (ix3 b i j) = tail (bits b) (sv b) (sn b) (chunks b arg1 f1) (sizes b arg2 f2) (ix3 (0 : Fin 1) i j) := by
  rcases em (kernelRun.sl.v2535 c arg0 f0 = 1#1) with h | h
  · refine ⟨svF c arg0 harg0 arg1 harg1 arg2 harg2 arg3 harg3 arg4 harg4 arg5 harg5 arg6 harg6 f0, snF c arg0 harg0 arg1 harg1 arg2 harg2 arg3 harg3 arg4 harg4 arg5 harg5 arg6 harg6 f0, goodF c arg0 harg0 arg1 harg1 arg2 harg2 arg3 harg3 arg4 harg4 arg5 harg5 arg6 harg6 f0 hs, fun b i j => ?_⟩
    rw [out_of_short c arg0 harg0 arg1 harg1 arg2 harg2 arg3 harg3 arg4 harg4 arg5 harg5 arg6 harg6 f0 f1 f2 h, piecesF_eq]
    exact rows_canon (fun b => tail (bits b) (svF c arg0 harg0 arg1 harg1 arg2 harg2 arg3 harg3 arg4 harg4 arg5 harg5 arg6 harg6 f0 b) (snF c arg0 harg0 arg1 harg1 arg2 harg2 arg3 harg3 arg4 harg4 arg5 harg5 arg6 harg6 f0 b) (chunks b arg1 f1) (sizes b arg2 f2)) b i j
  · refine ⟨svN c arg0 arg4 f0, snN c arg0 arg5 f0, goodN c arg0 arg4 arg5 f0 hs h, fun b i j => ?_⟩
    rw [out_of_enough c arg0 harg0 arg1 harg1 arg2 harg2 arg3 harg3 arg4 harg4 arg5 harg5 arg6 harg6 f0 f1 f2 h, piecesN_eq]
    exact rows_canon (fun b => tail (bits b) (svN c arg0 arg4 f0 b) (snN c arg0 arg5 f0 b) (chunks b arg1 f1) (sizes b arg2 f2)) b i j

end blocks

end Cert.KernelIdeal.Blocks

end
-- ==== Proof.Lanes.lean ====
module

public import proofs.«01_k».proof.Proof.Blocks
public import Idealize.ShloMosaic.Lib.MatmulPlain

/-
  The kernel's last step read at one lane: from a lane's score and position, an image's offsets and its sizes, the eight
  numbers the lane gives.
-/

@[expose] public section

set_option maxRecDepth 65536

noncomputable section

open Idealize.ShloMosaic Cert.Model Idealize.ShloMosaic.WordArith

namespace Cert.Spec

/-- A number from its word. -/
def lit (w : BitVec 32) : EReal := FloatOps.ofBits (F := Ideal) .f32 w

/-- A box's extent along an axis from its two ends, -/
def extent (lo hi : EReal) : EReal := (hi - lo) + lit 0x3F800000#32
/-- the middle moved by an offset, -/
def middle (lo hi d : EReal) : EReal := d * extent lo hi + (lo + lit 0x3F000000#32 * extent lo hi)
/-- the extent scaled by another, -/
def scaled (lo hi d : EReal) : EReal := FloatOps.exp (F := Ideal) (φ := .f32) d * extent lo hi
/-- and the new lower -/
def lower (lo hi d d' lim : EReal) : EReal :=
  min lim (max (lit 0x00000000#32) (middle lo hi d - lit 0x3F000000#32 * scaled lo hi d'))
/-- and upper end, clipped. -/
def upper (lo hi d d' lim : EReal) : EReal :=
  min lim (max (lit 0x00000000#32) (middle lo hi d + lit 0x3F000000#32 * scaled lo hi d'))

/-- A small whole number. -/
def whole (n : ℕ) : EReal := FloatOps.sitofp (F := Ideal) .f32 (BitVec.ofNat 32 n)

/-- Where a cell moves the anchors to, along each axis. -/
def shift (p : ℕ) : Fin 3 → EReal := ![whole (p / 8 % 32 * 16), whole (p / 256 * 16), whole (p % 8)]

end Cert.Spec

namespace Cert.KernelIdeal.Tail

open Cert.KernelIdeal Cert.KernelIdeal.Hand Facts₀ Facts

/-- The quotient, lane by lane. -/
theorem vdiv_apply (d : BitVec 32) (x : L) (i : S1x128.Idx)
    (hd : Scalar.subi (Scalar.extui (Scalar.cmpi .sgt d 0#32)) (Scalar.extui (Scalar.cmpi .slt d 0#32)) = 1#32) :
    vdiv d x i = fdiv (x i) d := by
  unfold vdiv
  rw [hd]
  exact rfl

/-- The remainder, lane by lane. -/
theorem vmod_apply (d : BitVec 32) (x : L) (i : S1x128.Idx) (hd : nz d = d) (h0 : Scalar.cmpi .slt d 0#32 = 0#1) :
    vmod d x i = fmod (x i) d := by
  unfold vmod
  rw [hd, h0]
  exact rfl

section lane
variable (sn : L) (i : S1x128.Idx) (q : ℕ) (hq : q < 98304) (hsn : sn i = BitVec.ofNat 32 q)
include hq hsn

/-- A lane's cell is its position divided by 12, -/
theorem cell_apply : cell sn i = BitVec.ofNat 32 (q / 12) := by
  unfold cell
  rw [vdiv_apply _ _ _ (by decide), hsn]
  exact fdiv_small (b := 12) (by omega) (by omega) (by omega)

/-- its anchor the remainder. -/
theorem anchor_apply : anchor sn i = BitVec.ofNat 32 (q % 12) := by
  show IntOp.subi (sn i) (IntOp.muli (cell sn i) 12#32) = _
  rw [hsn, cell_apply sn i q hq hsn]
  have e : IntOp.muli (BitVec.ofNat 32 (q / 12)) 12#32 = BitVec.ofNat 32 (q / 12 * 12) := muli_small _ _
  rw [e, subi_small (by omega) (by omega)]
  congr 1
  omega

omit hsn in
/-- The shift of a lane's cell along x, -/
theorem shiftX_apply (p : L) (hp : p i = BitVec.ofNat 32 (q / 12)) : shiftX (F := Ideal) p i = Spec.shift (q / 12) 0 := by
  have e : vmod 32#32 (vdiv 8#32 p) i = BitVec.ofNat 32 (q / 12 / 8 % 32) := by
    rw [vmod_apply _ _ _ (by decide) (by decide), vdiv_apply _ _ _ (by decide), hp]
    have e1 : fdiv (BitVec.ofNat 32 (q / 12)) 8#32 = BitVec.ofNat 32 (q / 12 / 8) := fdiv_small (b := 8) (by omega) (by omega) (by omega)
    rw [e1]
    exact fmod_small (b := 32) (by omega) (by omega) (by omega)
  show FloatOps.sitofp (F := Ideal) .f32 (IntOp.muli (vmod 32#32 (vdiv 8#32 p) i) 16#32) = _
  rw [e, show IntOp.muli (BitVec.ofNat 32 (q / 12 / 8 % 32)) 16#32 = BitVec.ofNat 32 (q / 12 / 8 % 32 * 16) from muli_small _ _]
  rfl

omit hsn in
/-- along y -/
theorem shiftY_apply (p : L) (hp : p i = BitVec.ofNat 32 (q / 12)) : shiftY (F := Ideal) p i = Spec.shift (q / 12) 1 := by
  have e : vdiv 256#32 p i = BitVec.ofNat 32 (q / 12 / 256) := by
    rw [vdiv_apply _ _ _ (by decide), hp]
    exact fdiv_small (b := 256) (by omega) (by omega) (by omega)
  show FloatOps.sitofp (F := Ideal) .f32 (IntOp.muli (vdiv 256#32 p i) 16#32) = _
  rw [e, show IntOp.muli (BitVec.ofNat 32 (q / 12 / 256)) 16#32 = BitVec.ofNat 32 (q / 12 / 256 * 16) from muli_small _ _]
  rfl

omit hsn in
/-- and along t. -/
theorem shiftZ_apply (p : L) (hp : p i = BitVec.ofNat 32 (q / 12)) : shiftZ (F := Ideal) p i = Spec.shift (q / 12) 2 := by
  have e : vmod 8#32 p i = BitVec.ofNat 32 (q / 12 % 8) := by
    rw [vmod_apply _ _ _ (by decide) (by decide), hp]
    exact fmod_small (b := 8) (by omega) (by omega) (by omega)
  show FloatOps.sitofp (F := Ideal) .f32 (vmod 8#32 p i) = _
  rw [e]
  rfl

end lane

/-- Small numbers with the same word are the same. -/
theorem ofNat_inj {m n : ℕ} (hm : m < 2 ^ 32) (hn : n < 2 ^ 32) (h : BitVec.ofNat 32 m = BitVec.ofNat 32 n) : m = n := by
  have := congrArg BitVec.toNat h
  rwa [toNat_ofNat_of_lt m hm, toNat_ofNat_of_lt n hn] at this

/-- Choosing by the word of an equality is choosing by the equality. -/
theorem select_eq_if {α : Type} (x y : BitVec 32) (a b : α) :
    (if IntOp.cmpi .eq x y = 1#1 then a else b) = if x = y then a else b := by
  by_cases h : x = y
  · rw [if_pos h, if_pos]
    subst h
    show BitVec.ofBool (x == x) = 1#1
    rw [beq_self_eq_true]; rfl
  · rw [if_neg h, if_neg]
    show ¬ BitVec.ofBool (x == y) = 1#1
    rw [beq_eq_false_iff_ne.2 h]; decide

/-- A coordinate of the lanes' anchors at a lane. -/
theorem places_apply (w : Fin 12 → BitVec 32) (a : L) (i : S1x128.Idx) (j : Fin 12) (hj : a i = BitVec.ofNat 32 j.val) (n : ℕ) (hn : n ≤ 12) :
    places (F := Ideal) w a n hn i = if j.val < n then Spec.lit (w j) else Spec.lit 0#32 := by
  induction n with
  | zero => rfl
  | succ n ih =>
    show (if IntOp.cmpi .eq (a i) (BitVec.ofNat 32 n) = 1#1 then Spec.lit (w ⟨n, hn⟩) else places (F := Ideal) w a n _ i) = _
    rw [select_eq_if, hj, ih]
    by_cases h : j.val = n
    · rw [if_pos (by rw [h]), if_pos (by omega)]
      congr 2
      exact Fin.ext h.symm
    · rw [if_neg (fun e => h (ofNat_inj (by omega) (by omega) e))]
      by_cases h' : j.val < n
      · rw [if_pos h', if_pos (by omega)]
      · rw [if_neg h', if_neg (by omega)]

/-- A lane's anchor coordinate is the table's entry for its anchor. -/
theorem place_apply (k : Fin 6) (a : L) (i : S1x128.Idx) (j : Fin 12) (hj : a i = BitVec.ofNat 32 j.val) :
    place (F := Ideal) k a i = Spec.lit (coords k j) := by
  unfold place
  rw [places_apply _ _ _ j hj, if_pos j.isLt]

/-- Row `6 j + r` of the 72. -/
def row (j : Fin 12) (r : Fin 6) : Fin 72 := ⟨6 * j.val + r.val, by omega⟩

/-- The six offsets of the lanes' anchors at a lane. -/
theorem picks_apply (G : FVec Ideal S72x128 .f32) (a : L) (u : Fin 128) (r : Fin 6) (j : Fin 12)
    (hj : a (ix2 (0 : Fin 1) u) = BitVec.ofNat 32 j.val) (n : ℕ) (hn : n ≤ 12) :
    picks (F := Ideal) G a n hn (ix2 r u) = if j.val < n then G (ix2 (row j r) u) else Spec.lit 0#32 := by
  induction n with
  | zero => rfl
  | succ n ih =>
    have e1 : broadcastTo S6x128 (shapeCast S1x128 (cmpi .eq a (broadcast S1x128 (BitVec.ofNat 32 n))) shapeCasts_S1x128_S1x128)
        broadcasts_S1x128_S6x128 (ix2 r u) = IntOp.cmpi .eq (a (ix2 (0 : Fin 1) u)) (BitVec.ofNat 32 n) := by
      rw [shapeCast_self]
      exact broadcastTo_apply _ _ (ix2 r u) (ix2 (0 : Fin 1) u) (fun d => by
        match d with
        | ⟨0, _⟩ => rfl
        | ⟨1, _⟩ => rfl)
    have e2 : extractStridedSlice S6x128 ![6 * n, 0] G (slices6 n hn) (ix2 r u) = G (ix2 (row ⟨n, hn⟩ r) u) :=
      extractStridedSlice_apply _ _ _ _ _ (fun d => by
        match d with
        | ⟨0, _⟩ => rfl
        | ⟨1, _⟩ => exact (Nat.zero_add _).symm)
    show (if broadcastTo S6x128 (shapeCast S1x128 (cmpi .eq a (broadcast S1x128 (BitVec.ofNat 32 n))) shapeCasts_S1x128_S1x128)
        broadcasts_S1x128_S6x128 (ix2 r u) = 1#1 then extractStridedSlice S6x128 ![6 * n, 0] G (slices6 n hn) (ix2 r u) else picks (F := Ideal) G a n _ (ix2 r u)) = _
    rw [e1, e2, select_eq_if, hj, ih]
    by_cases h : j.val = n
    · rw [if_pos (by rw [h]), if_pos (by omega)]
      congr 3
      exact Fin.ext h.symm
    · rw [if_neg (fun e => h (ofNat_inj (by omega) (by omega) e))]
      by_cases h' : j.val < n
      · rw [if_pos h', if_pos (by omega)]
      · rw [if_neg h', if_neg (by omega)]

/-- The row of the one-hot matrix at a lane. -/
theorem oneHot_apply (s : ℕ) (hs : s < 8192) (p : L) (k : Fin 1024) (u : Fin 128) (c : ℕ) (hc : c < 8192)
    (hp : p (ix2 (0 : Fin 1) u) = BitVec.ofNat 32 c) :
    oneHot (F := Ideal) (BitVec.ofNat 32 s) p (ix2 k u) = if s + k.val = c then (1 : EReal) else 0 := by
  have e1 : broadcastTo S1024x128 p broadcasts_S1x128_S1024x128 (ix2 k u) = p (ix2 (0 : Fin 1) u) :=
    broadcastTo_apply _ _ (ix2 k u) (ix2 (0 : Fin 1) u) (fun d => by
      match d with
      | ⟨0, _⟩ => rfl
      | ⟨1, _⟩ => rfl)
  have e2 : iota .tc S1024x128 32 [0] iota_S1024x128_d0_w32 (ix2 k u) = BitVec.ofNat 32 k.val := by
    show BitVec.ofNat 32 _ = _
    congr 1
    simp
  show FloatOps.sitofp (F := Ideal) .f32 ((IntOp.cmpi .eq (IntOp.addi (iota .tc S1024x128 32 [0] iota_S1024x128_d0_w32 (ix2 k u)) (BitVec.ofNat 32 s))
    (broadcastTo S1024x128 p broadcasts_S1x128_S1024x128 (ix2 k u))).setWidth 32) = _
  rw [e1, e2, hp, addi_small]
  by_cases h : s + k.val = c
  · rw [if_pos h, show k.val + s = c by omega]
    have : IntOp.cmpi .eq (BitVec.ofNat 32 c) (BitVec.ofNat 32 c) = 1#1 := by
      show BitVec.ofBool (_ == _) = 1#1
      simp
    rw [this]
    show (((BitVec.setWidth 32 1#1).toInt : ℝ) : EReal) = 1
    norm_num [show (BitVec.setWidth 32 1#1).toInt = 1 by decide]
  · rw [if_neg h]
    have : IntOp.cmpi .eq (BitVec.ofNat 32 (k.val + s)) (BitVec.ofNat 32 c) = 0#1 := by
      show BitVec.ofBool (_ == _) = 0#1
      have : ¬ BitVec.ofNat 32 (k.val + s) = BitVec.ofNat 32 c := fun e => h (by have := ofNat_inj (by omega) (by omega) e; omega)
      rw [beq_eq_false_iff_ne.2 this]; rfl
    rw [this]
    show (((BitVec.setWidth 32 0#1).toInt : ℝ) : EReal) = 0
    norm_num [show (BitVec.setWidth 32 0#1).toInt = 0 by decide]

/-- One chunk's part of the offsets at a lane: the offset of the lane's cell when the chunk holds it. -/
theorem chunk_apply (s : ℕ) (hs : s < 8192) (p : L) (X : Vec Ideal S1x72x1024 .f32) (ch : Fin 72) (u : Fin 128) (c : ℕ) (hc : c < 8192)
    (hp : p (ix2 (0 : Fin 1) u) = BitVec.ofNat 32 c) :
    chunk (F := Ideal) (BitVec.ofNat 32 s) p X (ix2 ch u)
      = if h : s ≤ c ∧ c < s + 1024 then X (ix3 (0 : Fin 1) ch (⟨c - s, by omega⟩ : Fin 1024)) else (0 : EReal) := by
  have e0 : chunk (F := Ideal) (BitVec.ofNat 32 s) p X (ix2 ch u)
      = constant (F := Ideal) S72x128 .f32 0x00000000#32 (ix2 ch u) + ∑ k : Fin 1024, shapeCast S72x1024 X shapeCasts_S1x72x1024_S72x1024 (ix2 ch k)
          * oneHot (F := Ideal) (BitVec.ofNat 32 s) p (ix2 k u) :=
    Ideal.matmul_plain_apply (M := 72) (K := 1024) (N := 128) none (shapeCast S72x1024 X shapeCasts_S1x72x1024_S72x1024) (oneHot (F := Ideal) (BitVec.ofNat 32 s) p)
      (constant S72x128 .f32 0x00000000#32) ch u
  have e1 : constant (F := Ideal) S72x128 .f32 0x00000000#32 (ix2 ch u) = (0 : EReal) := Ideal.ofBits_zero_f32
  have e2 : ∀ k : Fin 1024, shapeCast S72x1024 X shapeCasts_S1x72x1024_S72x1024 (ix2 ch k) = X (ix3 (0 : Fin 1) ch k) := fun k =>
    shapeCast_apply _ _ _ _ (by
      rw [Shape.rowMajor_val_two, Shape.rowMajor_val_three]
      show (0 * 72 + ch.val) * 1024 + k.val = ch.val * 1024 + k.val
      omega)
  rw [e0, e1, zero_add]
  simp only [e2, oneHot_apply s hs p _ u c hc hp]
  by_cases h : s ≤ c ∧ c < s + 1024
  · rw [dif_pos h, Finset.sum_eq_single (⟨c - s, by omega⟩ : Fin 1024)]
    · rw [if_pos (show s + (c - s) = c by omega)]; exact mul_one _
    · intro k _ hk
      rw [if_neg (fun e => hk (Fin.ext (show k.val = c - s by omega)))]; exact mul_zero _
    · intro h; exact absurd (Finset.mem_univ _) h
  · rw [dif_neg h]
    refine Finset.sum_eq_zero fun k _ => ?_
    rw [if_neg (fun e => h ⟨by omega, by have := k.isLt; omega⟩)]; exact mul_zero _

/-- The offsets at a lane's cell. -/
theorem gather_apply (p : L) (B : Fin 8 → Vec Ideal S1x72x1024 .f32) (ch : Fin 72) (u : Fin 128) (c : ℕ) (hc : c < 8192)
    (hp : p (ix2 (0 : Fin 1) u) = BitVec.ofNat 32 c) :
    gather (F := Ideal) p B (ix2 ch u) = B (⟨c / 1024, by omega⟩ : Fin 8) (ix3 (0 : Fin 1) ch (⟨c % 1024, by omega⟩ : Fin 1024)) := by
  have hk : ∀ k : Fin 8, chunk (F := Ideal) (BitVec.ofNat 32 (1024 * k.val)) p (B k) (ix2 ch u)
      = if (⟨c / 1024, by omega⟩ : Fin 8) = k then B (⟨c / 1024, by omega⟩ : Fin 8) (ix3 (0 : Fin 1) ch (⟨c % 1024, by omega⟩ : Fin 1024)) else (0 : EReal) := by
    intro k
    rw [chunk_apply (1024 * k.val) (by omega) p (B k) ch u c hc hp]
    by_cases h : (⟨c / 1024, by omega⟩ : Fin 8) = k
    · have hv : c / 1024 = k.val := congrArg Fin.val h
      rw [if_pos h, dif_pos (by omega)]
      subst h
      congr 2
      exact Fin.ext (show c - 1024 * (c / 1024) = c % 1024 by omega)
    · rw [if_neg h, dif_neg]
      intro h'
      exact h (Fin.ext (show c / 1024 = k.val by omega))
  have e : gather (F := Ideal) p B (ix2 ch u) = ((((((((0 : EReal) + chunk (F := Ideal) 0#32 p (B 0) (ix2 ch u)) + chunk (F := Ideal) 1024#32 p (B 1) (ix2 ch u))
      + chunk (F := Ideal) 2048#32 p (B 2) (ix2 ch u)) + chunk (F := Ideal) 3072#32 p (B 3) (ix2 ch u)) + chunk (F := Ideal) 4096#32 p (B 4) (ix2 ch u))
      + chunk (F := Ideal) 5120#32 p (B 5) (ix2 ch u)) + chunk (F := Ideal) 6144#32 p (B 6) (ix2 ch u)) + chunk (F := Ideal) 7168#32 p (B 7) (ix2 ch u) := by
    have : Spec.lit 0x00000000#32 = (0 : EReal) := Ideal.ofBits_zero_f32
    rw [← this]
    rfl
  have e0 := hk 0
  have e1 := hk 1
  have e2 := hk 2
  have e3 := hk 3
  have e4 := hk 4
  have e5 := hk 5
  have e6 := hk 6
  have e7 := hk 7
  rw [e]
  generalize B (⟨c / 1024, by omega⟩ : Fin 8) (ix3 (0 : Fin 1) ch (⟨c % 1024, by omega⟩ : Fin 1024)) = y at e0 e1 e2 e3 e4 e5 e6 e7 ⊢
  generalize (⟨c / 1024, by omega⟩ : Fin 8) = k at e0 e1 e2 e3 e4 e5 e6 e7
  refine Eq.trans (congrArg₂ (· + ·) (congrArg₂ (· + ·) (congrArg₂ (· + ·) (congrArg₂ (· + ·) (congrArg₂ (· + ·) (congrArg₂ (· + ·) (congrArg₂ (· + ·)
    (congrArg ((0 : EReal) + ·) e0) e1) e2) e3) e4) e5) e6) e7) ?_
  fin_cases k <;> simp

/-- The eight numbers a lane gives: from the image's number, the lane's score and position, the offsets of the position's
    cell and anchor, and the image's sizes. -/
def lane (bits : BitVec 32) (v : EReal) (p : ℕ) (a : Fin 12) (d : Fin 6 → EReal) (im : Fin 3 → EReal) : Fin 8 → EReal :=
  let lo : Fin 3 → EReal := fun k => Spec.lit (coords (Fin.castLE (by decide) k) a) + Spec.shift p k
  let hi : Fin 3 → EReal := fun k => Spec.lit (coords (Fin.natAdd 3 k) a) + Spec.shift p k
  let lim : EReal → EReal := fun x => x - Spec.lit 0x3F800000#32
  ![Spec.lit bits,
    Spec.lower (lo 0) (hi 0) (d 0) (d 3) (lim (im 1)), Spec.lower (lo 1) (hi 1) (d 1) (d 4) (lim (im 0)), Spec.lower (lo 2) (hi 2) (d 2) (d 5) (lim (im 2)),
    Spec.upper (lo 0) (hi 0) (d 0) (d 3) (lim (im 1)), Spec.upper (lo 1) (hi 1) (d 1) (d 4) (lim (im 0)), Spec.upper (lo 2) (hi 2) (d 2) (d 5) (lim (im 2)),
    v]

set_option maxHeartbeats 1000000 in
/-- The rows of one image at a lane. -/
theorem tail_apply (bits : BitVec 32) (sv : Vec Ideal S1x128 .f32) (sn : Vec Ideal S1x128 .i32) (B : Fin 8 → Vec Ideal S1x72x1024 .f32)
    (im : Fin 3 → EReal) (u : Fin 128) (q : ℕ) (hq : q < 98304) (hsn : sn (ix2 (0 : Fin 1) u) = BitVec.ofNat 32 q) (r : Fin 8) :
    tail (F := Ideal) bits sv sn B im (ix3 (0 : Fin 1) r u)
      = lane bits (sv (ix2 (0 : Fin 1) u)) (q / 12) ⟨q % 12, by omega⟩
          (fun k => B (⟨q / 12 / 1024, by omega⟩ : Fin 8) (ix3 (0 : Fin 1) (row ⟨q % 12, by omega⟩ k) (⟨q / 12 % 1024, by omega⟩ : Fin 1024))) im r := by
  have hc := cell_apply sn _ q hq hsn
  have ha : anchor sn (ix2 (0 : Fin 1) u) = BitVec.ofNat 32 (⟨q % 12, by omega⟩ : Fin 12).val := anchor_apply sn _ q hq hsn
  have hD : ∀ k : Fin 6, picks (F := Ideal) (gather (cell sn) B) (anchor sn) 12 le_rfl (ix2 k u)
      = B (⟨q / 12 / 1024, by omega⟩ : Fin 8) (ix3 (0 : Fin 1) (row ⟨q % 12, by omega⟩ k) (⟨q / 12 % 1024, by omega⟩ : Fin 1024)) := fun k => by
    rw [picks_apply _ _ u k _ ha, if_pos (Fin.isLt _)]
    exact gather_apply _ B _ u (q / 12) (by omega) hc
  have hp : ∀ k : Fin 6, place (F := Ideal) k (anchor sn) (ix2 (0 : Fin 1) u) = Spec.lit (coords k ⟨q % 12, by omega⟩) :=
    fun k => place_apply k _ _ _ ha
  have hX := shiftX_apply (ix2 (0 : Fin 1) u) q hq _ hc
  have hY := shiftY_apply (ix2 (0 : Fin 1) u) q hq _ hc
  have hZ := shiftZ_apply (ix2 (0 : Fin 1) u) q hq _ hc
  have hr : ∀ (k : Fin 6) (h : S6x128.Slices ![k.val, 0] S1x128) (D : FVec Ideal S6x128 .f32),
      extractStridedSlice S1x128 ![k.val, 0] D h (ix2 (0 : Fin 1) u) = D (ix2 k u) := fun k h D =>
    extractStridedSlice_apply _ _ _ _ _ (fun d => by
      match d with
      | ⟨0, _⟩ => exact (Nat.add_zero _).symm
      | ⟨1, _⟩ => exact (Nat.zero_add _).symm)
  unfold tail block
  rw [shapeCast_apply _ _ (ix3 (0 : Fin 1) r u) (ix2 r u) (by
    rw [Shape.rowMajor_val_two, Shape.rowMajor_val_three]
    show r.val * 128 + u.val = (0 * 8 + r.val) * 128 + u.val
    omega)]
  generalize picks (F := Ideal) (gather (cell sn) B) (anchor sn) 12 le_rfl = D at hD ⊢
  have hlow : ∀ (i j : Fin 6) (S : R Ideal) (s : EReal) (hS : S (ix2 (0 : Fin 1) u) = s) (hi : S6x128.Slices ![i.val, 0] S1x128) (hj : S6x128.Slices ![j.val, 0] S1x128) (lim : EReal),
      lower (F := Ideal) (addf (place i (anchor sn)) S) (addf (place j (anchor sn)) S) (extractStridedSlice S1x128 ![i.val, 0] D hi) (extractStridedSlice S1x128 ![j.val, 0] D hj) lim (ix2 (0 : Fin 1) u)
        = Spec.lower (Spec.lit (coords i ⟨q % 12, by omega⟩) + s) (Spec.lit (coords j ⟨q % 12, by omega⟩) + s) (D (ix2 i u)) (D (ix2 j u)) lim := by
    intro i j S s hS hi hj lim
    rw [← hp i, ← hp j, ← hS, ← hr i hi D, ← hr j hj D]
    exact rfl
  have hup : ∀ (i j : Fin 6) (S : R Ideal) (s : EReal) (hS : S (ix2 (0 : Fin 1) u) = s) (hi : S6x128.Slices ![i.val, 0] S1x128) (hj : S6x128.Slices ![j.val, 0] S1x128) (lim : EReal),
      upper (F := Ideal) (addf (place i (anchor sn)) S) (addf (place j (anchor sn)) S) (extractStridedSlice S1x128 ![i.val, 0] D hi) (extractStridedSlice S1x128 ![j.val, 0] D hj) lim (ix2 (0 : Fin 1) u)
        = Spec.upper (Spec.lit (coords i ⟨q % 12, by omega⟩) + s) (Spec.lit (coords j ⟨q % 12, by omega⟩) + s) (D (ix2 i u)) (D (ix2 j u)) lim := by
    intro i j S s hS hi hj lim
    rw [← hp i, ← hp j, ← hS, ← hr i hi D, ← hr j hj D]
    exact rfl
  have hcat : ∀ (x0 x1 x2 x3 x4 x5 x6 x7 : R Ideal),
      concatenate S8x128 0 [⟨S1x128, x0⟩, ⟨S1x128, x1⟩, ⟨S1x128, x2⟩, ⟨S1x128, x3⟩, ⟨S1x128, x4⟩, ⟨S1x128, x5⟩, ⟨S1x128, x6⟩, ⟨S1x128, x7⟩]
        concatenates_S1x128_S1x128_S1x128_S1x128_S1x128_S1x128_S1x128_S1x128_S8x128_d0 (ix2 r u)
      = (![x0 (ix2 (0 : Fin 1) u), x1 (ix2 (0 : Fin 1) u), x2 (ix2 (0 : Fin 1) u), x3 (ix2 (0 : Fin 1) u), x4 (ix2 (0 : Fin 1) u), x5 (ix2 (0 : Fin 1) u), x6 (ix2 (0 : Fin 1) u), x7 (ix2 (0 : Fin 1) u)] : Fin 8 → EReal) r := by
    intro x0 x1 x2 x3 x4 x5 x6 x7
    refine (concatenate_apply_piece (t := S8x128) 0 _ _ _ r.val ?_ S1x128 ((![x0, x1, x2, x3, x4, x5, x6, x7] : Fin 8 → R Ideal) r) ?_ rfl r.val ?_
      (ix2 (0 : Fin 1) u) ?_ ?_).trans ?_
    · exact (show r.val < 8 from r.isLt)
    · obtain ⟨t, ht⟩ := r; dsimp only; interval_cases t <;> rfl
    · obtain ⟨t, ht⟩ := r; dsimp only; interval_cases t <;> rfl
    · intro b hb
      match b with
      | ⟨0, _⟩ => exact absurd rfl hb
      | ⟨1, _⟩ => rfl
    · rfl
    · fin_cases r <;> rfl
  rw [hcat]
  simp only [← hD]
  unfold lane
  refine congrFun ?_ r
  have l0 := hlow 0 3 _ _ hX slices_S6x128_o0_0_S1x128 slices_S6x128_o3_0_S1x128 (limit (F := Ideal) (im 1))
  have l1 := hlow 1 4 _ _ hY slices_S6x128_o1_0_S1x128 slices_S6x128_o4_0_S1x128 (limit (F := Ideal) (im 0))
  have l2 := hlow 2 5 _ _ hZ slices_S6x128_o2_0_S1x128 slices_S6x128_o5_0_S1x128 (limit (F := Ideal) (im 2))
  have u0 := hup 0 3 _ _ hX slices_S6x128_o0_0_S1x128 slices_S6x128_o3_0_S1x128 (limit (F := Ideal) (im 1))
  have u1 := hup 1 4 _ _ hY slices_S6x128_o1_0_S1x128 slices_S6x128_o4_0_S1x128 (limit (F := Ideal) (im 0))
  have u2 := hup 2 5 _ _ hZ slices_S6x128_o2_0_S1x128 slices_S6x128_o5_0_S1x128 (limit (F := Ideal) (im 2))
  unfold row0 row1 row2 row3 row4 row5
  refine congrArg₂ Matrix.vecCons rfl (congrArg₂ Matrix.vecCons l0 (congrArg₂ Matrix.vecCons l1 (congrArg₂ Matrix.vecCons l2
    (congrArg₂ Matrix.vecCons u0 (congrArg₂ Matrix.vecCons u1 (congrArg₂ Matrix.vecCons u2 rfl))))))

end Cert.KernelIdeal.Tail

end
-- ==== Proof.Launch.lean ====
/-
  The launch, with the result's contents: from any memory with zero counters the program terminates with `out` of the
  blocks the region finds, sliced and transposed by the two host lines after it, in the result's array. Generic in the
  values.
-/
module

public import proofs.«01_k».proof.Proof.BodyOut
public import Idealize.ShloMosaic.Lib.Pipeline.ValueKit
public import Idealize.ShloMosaic.Lib.StableHlo.Run

@[expose] public section

set_option maxRecDepth 65536

noncomputable section

namespace Cert.KernelIdeal.Outp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's buffer when its three input blocks read `x0`, `x1`, `x2`. -/
def blockOut (c : Dev nD) (t : Fin cfg0.N) (x0 : Vec F S192x2048 .f32) (x1 : Vec F S4x72x8192 .f32) (x2 : Vec F S4x3 .f32) :
    Vec F S4x8x128 .f32 :=
  out c (st0_0 t) (hstage0_0 0) (st0_1 t) (hstage0_1 0) (st0_2 t) (hstage0_2 0) (st0_3 t) (hstage0_3 0)
    (Memref.whole cc0_scratch0) (Memref.isWhole_whole _) (Memref.whole cc0_scratch1) (Memref.isWhole_whole _)
    (Memref.whole cc0_scratch2) (Memref.isWhole_whole _)
    ((hstage0_0 0).unread x0) ((hstage0_1 0).unread x1) ((hstage0_2 0).unread x2)

/-- The proof data on core `c`: the arrays as the region finds them, each input's buffer at its block after the body, the
    result's at `blockOut` of the blocks; the scratch at some contents; full shares; nothing owed. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut c t (iblk m c 0 t) (iblk m c 1 t) (iblk m c 2 t)
  Φ _ := Pipeline.ΦA spec0 c
  q _ := fullShare
  owed _ := 0

/-- The arrays are as the region finds them. -/
theorem vA_eq (c : Dev nD) (w : Fin cfg0.W) : (vdats m 0 c).A w = V m c (Pipeline.arrRef spec0 w) := by dsimp only [vdats]
/-- After the body the scores' buffer is at its block, -/
theorem vafter0_0 (c : Dev nD) (t : Fin cfg0.N) : (vdats m 0 c).after 0 t = iblk m c 0 t := by dsimp only [vdats]
/-- the offsets' is, -/
theorem vafter0_1 (c : Dev nD) (t : Fin cfg0.N) : (vdats m 0 c).after 1 t = iblk m c 1 t := by dsimp only [vdats]
/-- the sizes' is, -/
theorem vafter0_2 (c : Dev nD) (t : Fin cfg0.N) : (vdats m 0 c).after 2 t = iblk m c 2 t := by dsimp only [vdats]
/-- and the result's holds what the body computes of the three. -/
theorem vafter0_3 (c : Dev nD) (t : Fin cfg0.N) :
    (vdats m 0 c).after 3 t = blockOut c t (iblk m c 0 t) (iblk m c 1 t) (iblk m c 2 t) := by dsimp only [vdats]
/-- Before the body the scores' buffer is at its block, -/
theorem vbefore0_0 (c : Dev nD) (t : Fin cfg0.N) (d) : (vdats m 0 c).before 0 t d = iblk m c 0 t :=
  before0_0_of m (vdats m 0 c) (vA_eq m c 0) (vafter0_0 m c) t d
/-- the offsets' is -/
theorem vbefore0_1 (c : Dev nD) (t : Fin cfg0.N) (d) : (vdats m 0 c).before 1 t d = iblk m c 1 t :=
  before0_1_of m (vdats m 0 c) (vA_eq m c 1) (vafter0_1 m c) t d
/-- and the sizes' is. -/
theorem vbefore0_2 (c : Dev nD) (t : Fin cfg0.N) (d) : (vdats m 0 c).before 2 t d = iblk m c 2 t :=
  before0_2_of m (vdats m 0 c) (vA_eq m c 2) (vafter0_2 m c) t d

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d)))
/-- and what it returns. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t))

/-- The body at any point: the scratch out of the invariant, `bodyRun`, the scratch back. -/
theorem vsound_body (c : Dev nD) (t : Fin cfg0.N) :
    vbodyPre m c t ⊢ wp frame (wpE (defs₀ (F := F)) Variants.none c none) Set.univ (bodyAt0 t) (fun _ => vbodyPost m c t) := by
  unfold vbodyPre vbodyPost bodyAt0
  simp only [vbefore0_0, vbefore0_1, vbefore0_2]
  rw [show (vdats m 0 c).Φ t.succ = (vdats m 0 c).Φ t.castSucc from rfl,
    show (vdats m 0 c).owesAt () t.succ = (vdats m 0 c).owesAt () t.castSucc from rfl,
    vafter0_0, vafter0_1, vafter0_2, vafter0_3, show (vdats m 0 c).Φ t.castSucc = Pipeline.ΦA spec0 c from rfl, Hand.PhiA0_eq]
  iintro ⟨⟨⟨HS0, HS1, HS2⟩, Hg⟩, Ho, ⟨%d0, H0⟩, ⟨%d1, H1⟩, ⟨%d2, H2⟩, ⟨%d3, H3⟩⟩
  iapply (bodyRun c _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The library's body obligation. -/
theorem vbody_obligation (c : Dev nD) :
    BodyObligation (vdats (F := F) m 0 c) (defs₀ (F := F)) Variants.none () Set.univ := fun t => by
  rw [bigSep_W0, bigSep_W0, Hand.defs₀_row]
  exact triple_restated (vsound_body m c t) rfl .rfl fun _ => .rfl

set_option backward.isDefEq.respectTransparency.types false in
/-- From any memory with zero counters every weakly fair execution terminates with the arrays as the region leaves them,
    carried through the two host lines after it. -/
theorem vrun_main :
    θ_run defs (onTc (τ := τ) (main (F := F))) (s₀ m ρ)
      (Pipeline.FramePost cfgs (vdats m) 0 (Pipeline.afterTail₀ cfgs (vdats m) 0 (V0 m) [hostOps1])) :=
  Pipeline.θ_run_frame_around cfgs (vdats m) (0 : Fin 1) launch0 defs₀ Variants.none m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

/-- The only grid point. -/
abbrev point0 : Fin cfg0.N := ⟨0, by decide⟩

/-- What the region leaves in the result's array: the one block. -/
theorem final_block (c : Dev nD) : (vdats m 0 c).arrAt 3 cfg0.N
    = blockOut c point0 (iblk m c 0 point0) (iblk m c 1 point0) (iblk m c 2 point0) := by
  refine (vdats m 0 c).arrAt_eq_of_after_last 3 point0 (by decide +kernel) _ fun j => ?_
  exact congrFun (vafter0_3 m c point0) _

/-- The two host lines after the region. -/
def hostOut (X : Vec F S4x8x128 .f32) : Vec F S4x100x8 .f32 :=
  transpose S4x100x8 [0, 2, 1] (extractStridedSlice S4x8x100 ![0, 0, 0] X slices_S4x8x128_S4x8x100_0_0_0) transposes_S4x8x100_S4x100x8_0_2_1

/-- The scores as the region finds them, -/
def hostScores (X : Vec F S4x24x8x32x32 .f32) : Vec F S192x2048 .f32 :=
  shapeCast S192x2048 (transpose S192x512x4 [1, 2, 0] (shapeCast S4x192x512
    (extractStridedSlice S4x12x8x32x32 ![0, 12, 0, 0, 0] X slices_S4x24x8x32x32_S4x12x8x32x32_0_12_0_0_0)
    shapeCasts_S4x12x8x32x32_S4x192x512) transposes_S4x192x512_S192x512x4_1_2_0) shapeCasts_S192x512x4_S192x2048

/-- and the offsets. -/
def hostOffsets (X : Vec F S4x72x8x32x32 .f32) : Vec F S4x72x8192 .f32 := shapeCast S4x72x8192 X shapeCasts_S4x72x8x32x32_S4x72x8192

/-- The region finds the scores sliced and rearranged by the host, -/
theorem entry_scores (c : Dev nD) : V m c main_v3 = hostScores (m ((c : Thread nD τ).loc main_arg0)) := by
  show StableHlo.after (List.flatten [hostOps0]) (fun b => m (c, b)) (Proc.devRef .tc main_v3) = _
  simp only [List.flatten_cons, List.flatten_nil, List.append_nil]
  after_results
  rfl

/-- and the offsets reshaped. -/
theorem entry_offsets (c : Dev nD) : V m c main_v4 = hostOffsets (m ((c : Thread nD τ).loc main_arg1)) := by
  show StableHlo.after (List.flatten [hostOps0]) (fun b => m (c, b)) (Proc.devRef .tc main_v4) = _
  simp only [List.flatten_cons, List.flatten_nil, List.append_nil]
  after_results
  rfl

/-- The scores' one block starts at zero, -/
theorem index0_0 : ∀ a, (cfg0.win 0).index point0 a = 0 := by decide +kernel
/-- the offsets' does -/
theorem index0_1 : ∀ a, (cfg0.win 1).index point0 a = 0 := by decide +kernel
/-- and the sizes' does. -/
theorem index0_2 : ∀ a, (cfg0.win 2).index point0 a = 0 := by decide +kernel

/-- The scores' block is the whole array, -/
theorem block0 (c : Dev nD) : iblk m c 0 point0 = hostScores (m ((c : Thread nD τ).loc main_arg0)) := by
  rw [← entry_scores]
  funext j
  unfold iblk
  refine congrArg (V m c main_v3) (funext fun a => Fin.ext ?_)
  exact Pipeline.Window.rect_emb_val_of_index_zero (cfg0.win 0) point0 a (index0_0 a) j

/-- the offsets' is -/
theorem block1 (c : Dev nD) : iblk m c 1 point0 = hostOffsets (m ((c : Thread nD τ).loc main_arg1)) := by
  rw [← entry_offsets]
  funext j
  unfold iblk
  refine congrArg (V m c main_v4) (funext fun a => Fin.ext ?_)
  exact Pipeline.Window.rect_emb_val_of_index_zero (cfg0.win 1) point0 a (index0_1 a) j

/-- and the sizes' is. -/
theorem block2 (c : Dev nD) : iblk m c 2 point0 = m ((c : Thread nD τ).loc main_arg2) := by
  rw [← V_main_arg2 m c]
  funext j
  unfold iblk
  refine congrArg (V m c main_arg2) (funext fun a => Fin.ext ?_)
  exact Pipeline.Window.rect_emb_val_of_index_zero (cfg0.win 2) point0 a (index0_2 a) j

/-- After the region the host slices and transposes the result's array. -/
theorem exit_result (c : Dev nD) : Pipeline.afterTail₀ cfgs (vdats m) 0 (V0 m) [hostOps1] c main_v7
    = hostOut ((vdats m 0 c).arrAt 3 cfg0.N) := by
  unfold Pipeline.afterTail₀
  simp only [List.flatten_cons, List.flatten_nil, List.append_nil]
  after_results
  rw [Pipeline.withArrays_arr spec0 launch0.win.arr_inj c (V0 m c) _ 3]
  rfl

/-- THE RUN: it terminates with the result's array at `blockOut` of the prepared inputs, sliced and transposed, and the
    argument arrays as launched. -/
theorem run : θ_run defs (onTc (τ := τ) (main (F := F))) ⟨m, fun _ => 0, ρ⟩ (fun r => ∀ c : Dev nD,
      r.2.mem ((c.tc : Thread nD τ).loc main_v7)
        = hostOut (blockOut c point0 (hostScores (m ((c : Thread nD τ).loc main_arg0)))
            (hostOffsets (m ((c : Thread nD τ).loc main_arg1))) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨by
      rw [(h c).2 main_v7 (Pipeline.mem_restRefs_of main_v7 (by decide) (by decide)), exit_result, final_block, block0, block1, block2],
      (((h c).2 main_arg0 (Pipeline.mem_restRefs_of main_arg0 (by decide) (by decide))).trans (W_main_arg0 m (vdats m) c)),
      (((h c).2 main_arg1 (Pipeline.mem_restRefs_of main_arg1 (by decide) (by decide))).trans (W_main_arg1 m (vdats m) c)),
      ((h c).1 2).trans (((vdats m 0 c).arrAt_in 2 rfl _).trans ((vA_eq m c 2).trans (V_main_arg2 m c)))⟩) (vrun_main m ρ)

end Cert.KernelIdeal.Outp

end
-- ==== Proof.RefBoxes.lean ====
module

public import proofs.«01_k».proof.Proof.Lanes
public import proofs.«01_k».proof.Proof.Launch
public import proofs.«01_k».proof.Proof.Gen.ReferenceIdeal.Run
public import Idealize.ShloMosaic.Lib.IdealHost

/-
  The reference's tables read at an index: the cells' shifts, the anchors moved to every cell, the offsets, the scores, the
  sizes, and the ends of the boxes.
-/

@[expose] public section

set_option maxRecDepth 65536

noncomputable section

open Idealize.ShloMosaic Cert.Model Idealize.ShloMosaic.WordArith

namespace Cert.ReferenceIdeal.Read

open Cert.ReferenceIdeal Cert.ReferenceIdeal.Value Facts₀ Facts

/-- A word's sign. -/
def hsgn (x : BitVec 32) : BitVec 32 := if x = 0 then 0 else if x.msb then -1 else 1

/-- The host's quotient rounded down. -/
def hdiv (x y : BitVec 32) : BitVec 32 :=
  if IntOp.andi (IntOp.cmpi .ne (hsgn x) (hsgn y))
      (IntOp.cmpi .ne (IntOp.remsi .host x y) 0#32) = 1#1
  then IntOp.subi (IntOp.divsi .host x y) 1#32 else IntOp.divsi .host x y

/-- The host's remainder with the divisor's sign. -/
def hmod (x y : BitVec 32) : BitVec 32 :=
  if IntOp.andi (IntOp.cmpi .ne (IntOp.cmpi .slt (IntOp.remsi .host x y) 0#32) (IntOp.cmpi .slt y 0#32)) (IntOp.cmpi .ne (IntOp.remsi .host x y) 0#32) = 1#1
  then IntOp.addi (IntOp.remsi .host x y) y else IntOp.remsi .host x y

section small
variable {a b : ℕ} (ha : a < 2 ^ 31) (hb : b < 2 ^ 31) (h0 : 0 < b)
include ha hb h0

/-- The host's quotient of small numbers -/
theorem hdivsi_small : IntOp.divsi .host (BitVec.ofNat 32 a) (BitVec.ofNat 32 b) = BitVec.ofNat 32 (a / b) := by
  rw [← divsi_small ha hb h0]
  unfold IntOp.divsi
  rw [if_neg (not_corner ha hb h0), if_neg (not_corner ha hb h0)]

/-- and remainder. -/
theorem hremsi_small : IntOp.remsi .host (BitVec.ofNat 32 a) (BitVec.ofNat 32 b) = BitVec.ofNat 32 (a % b) := by
  rw [← remsi_small ha hb h0]
  unfold IntOp.remsi
  rw [if_neg (not_corner ha hb h0), if_neg (not_corner ha hb h0)]

/-- The quotient rounded down, of small numbers, -/
theorem hdiv_small : hdiv (BitVec.ofNat 32 a) (BitVec.ofNat 32 b) = BitVec.ofNat 32 (a / b) := by
  unfold hdiv
  rw [hdivsi_small ha hb h0, hremsi_small ha hb h0, if_neg]
  intro h
  have hz : ∀ {n : ℕ}, n < 2 ^ 31 → 0 < n → ¬ BitVec.ofNat 32 n = 0 := fun hn hp e => by
    have := congrArg BitVec.toNat e
    rw [toNat_ofNat_of_lt _ (by omega)] at this
    exact absurd this (by simp; omega)
  rcases Nat.eq_zero_or_pos a with rfl | hpos
  · simp [IntOp.andi, IntOp.cmpi] at h
  · unfold hsgn at h
    rw [if_neg (hz ha hpos), if_neg (hz hb h0), msb_small ha, msb_small hb] at h
    simp [IntOp.andi, IntOp.cmpi] at h

/-- and its remainder. -/
theorem hmod_small : hmod (BitVec.ofNat 32 a) (BitVec.ofNat 32 b) = BitVec.ofNat 32 (a % b) := by
  unfold hmod
  have hlt : a % b < 2 ^ 31 := lt_of_le_of_lt (Nat.mod_le a b) ha
  have e2 : ∀ {n : ℕ}, n < 2 ^ 31 → IntOp.cmpi .slt (BitVec.ofNat 32 n) 0#32 = 0#1 := fun {n} hn => by
    show BitVec.ofBool (BitVec.slt (BitVec.ofNat 32 n) 0#32) = 0#1
    rw [BitVec.slt_eq_decide, toInt_ofNat_small _ hn, decide_eq_false (by show ¬ ((n : ℕ) : ℤ) < 0; omega)]; rfl
  rw [hremsi_small ha hb h0, if_neg]
  rw [e2 hlt, e2 hb]
  intro h
  simp [IntOp.andi, IntOp.cmpi] at h
end small

variable (V0 : Valuation τ sig (Elt Ideal))

/-- The first table of cells' shifts, -/
theorem v6_apply (p : Fin 8192) : res_main_v6 V0 (ix3 p (0 : Fin 1) (0 : Fin 1)) = Spec.shift p.val 0 := by
  have e : res_main_v6 V0 (ix3 p (0 : Fin 1) (0 : Fin 1))
      = FloatOps.sitofp (F := Ideal) .f32 (IntOp.muli (hmod (hdiv (BitVec.ofNat 32 p.val) 8#32) 32#32) 16#32) := by
    exact rfl
  rw [e, show hdiv (BitVec.ofNat 32 p.val) 8#32 = BitVec.ofNat 32 (p.val / 8) from hdiv_small (b := 8) (by omega) (by omega) (by omega),
    show hmod (BitVec.ofNat 32 (p.val / 8)) 32#32 = BitVec.ofNat 32 (p.val / 8 % 32) from hmod_small (b := 32) (by omega) (by omega) (by omega),
    show IntOp.muli (BitVec.ofNat 32 (p.val / 8 % 32)) 16#32 = BitVec.ofNat 32 (p.val / 8 % 32 * 16) from muli_small _ _]
  rfl

/-- the second -/
theorem v10_apply (p : Fin 8192) : res_main_v10 V0 (ix3 p (0 : Fin 1) (0 : Fin 1)) = Spec.shift p.val 1 := by
  have e : res_main_v10 V0 (ix3 p (0 : Fin 1) (0 : Fin 1))
      = FloatOps.sitofp (F := Ideal) .f32 (IntOp.muli (hdiv (BitVec.ofNat 32 p.val) 256#32) 16#32) := by
    exact rfl
  rw [e, show hdiv (BitVec.ofNat 32 p.val) 256#32 = BitVec.ofNat 32 (p.val / 256) from hdiv_small (b := 256) (by omega) (by omega) (by omega),
    show IntOp.muli (BitVec.ofNat 32 (p.val / 256)) 16#32 = BitVec.ofNat 32 (p.val / 256 * 16) from muli_small _ _]
  rfl

/-- and the third. -/
theorem v12_apply (p : Fin 8192) : res_main_v12 V0 (ix3 p (0 : Fin 1) (0 : Fin 1)) = Spec.shift p.val 2 := by
  have e : res_main_v12 V0 (ix3 p (0 : Fin 1) (0 : Fin 1)) = FloatOps.sitofp (F := Ideal) .f32 (hmod (BitVec.ofNat 32 p.val) 8#32) := by
    exact rfl
  rw [e, show hmod (BitVec.ofNat 32 p.val) 8#32 = BitVec.ofNat 32 (p.val % 8) from hmod_small (b := 8) (by omega) (by omega) (by omega)]
  rfl

/-- The kernel's anchor coordinates are the reference's. -/
theorem coords_eq : ∀ (k : Fin 6) (a : Fin 12), Cert.KernelIdeal.Tail.coords k a = lit0 ⟨6 * a.val + k.val, by omega⟩ := by decide

/-- A coordinate's axis. -/
def axis : Fin 6 → Fin 3 := ![0, 1, 2, 0, 1, 2]

/-- The anchors moved to the cells. -/
theorem v19_apply (b : Fin 4) (q : Fin 98304) (k : Fin 6) :
    res_main_v19 V0 (ix3 b q k) = Spec.lit (Cert.KernelIdeal.Tail.coords k ⟨q.val % 12, by omega⟩) + Spec.shift (q.val / 12) (axis k) := by
  unfold res_main_v19
  rw [broadcastInDim_apply _ _ _ _ (ix3 (0 : Fin 1) q k) (fun a => by
      match a with
      | ⟨0, _⟩ => rfl
      | ⟨1, _⟩ => rfl
      | ⟨2, _⟩ => rfl),
    shapeCast_apply _ _ _ (ix3 (⟨q.val / 12, by omega⟩ : Fin 8192) (⟨q.val % 12, by omega⟩ : Fin 12) k) (by
      rw [Shape.rowMajor_val_three, Shape.rowMajor_val_three]
      show (q.val / 12 * 12 + q.val % 12) * 6 + k.val = (0 * 98304 + q.val) * 6 + k.val
      omega)]
  refine congrArg₂ (fun x y : EReal => x + y) ?_ ?_
  · rw [broadcastInDim_apply _ _ _ _ (ix3 (0 : Fin 1) (⟨q.val % 12, by omega⟩ : Fin 12) k) (fun a => by
      match a with
      | ⟨0, _⟩ => rfl
      | ⟨1, _⟩ => rfl
      | ⟨2, _⟩ => rfl),
      broadcastInDim_apply _ _ _ _ (ix2 (⟨q.val % 12, by omega⟩ : Fin 12) k) (fun a => by
      match a with
      | ⟨0, _⟩ => rfl
      | ⟨1, _⟩ => rfl), coords_eq]
    refine congrArg (fun i => Spec.lit (lit0 i)) (Fin.ext ?_)
    rw [Shape.rowMajor_val_two]
    show q.val % 12 * 6 + k.val = 6 * (q.val % 12) + k.val
    omega
  · rw [broadcastInDim_apply _ _ _ _ (ix3 (⟨q.val / 12, by omega⟩ : Fin 8192) (0 : Fin 1) k) (fun a => by
      match a with
      | ⟨0, _⟩ => rfl
      | ⟨1, _⟩ => rfl
      | ⟨2, _⟩ => rfl)]
    refine (concatenate_apply_piece (t := S8192x1x6) 2 _ _ _ k.val ?_ S8192x1x1
      ((![res_main_v6 V0, res_main_v10 V0, res_main_v12 V0, res_main_v6 V0, res_main_v10 V0, res_main_v12 V0] : Fin 6 → FVec Ideal S8192x1x1 .f32) k)
      ?_ rfl k.val ?_ (ix3 (⟨q.val / 12, by omega⟩ : Fin 8192) (0 : Fin 1) (0 : Fin 1)) ?_ ?_).trans ?_
    · exact (show k.val < 6 from k.isLt)
    · obtain ⟨t, ht⟩ := k; dsimp only; interval_cases t <;> rfl
    · obtain ⟨t, ht⟩ := k; dsimp only; interval_cases t <;> rfl
    · intro c hc
      match c with
      | ⟨0, _⟩ => rfl
      | ⟨1, _⟩ => rfl
      | ⟨2, _⟩ => exact absurd rfl hc
    · rfl
    · have h6 := v6_apply V0 (⟨q.val / 12, by omega⟩ : Fin 8192)
      have h10 := v10_apply V0 (⟨q.val / 12, by omega⟩ : Fin 8192)
      have h12 := v12_apply V0 (⟨q.val / 12, by omega⟩ : Fin 8192)
      obtain ⟨t, ht⟩ := k
      interval_cases t
      · exact h6
      · exact h10
      · exact h12
      · exact h6
      · exact h10
      · exact h12

/-- The offsets. -/
theorem v21_apply (b : Fin 4) (q : Fin 98304) (k : Fin 6) :
    res_main_v21 V0 (ix3 b q k) = Cert.KernelIdeal.Outp.hostOffsets (V0 (Proc.devRef .tc main_arg1))
      (ix3 b (Cert.KernelIdeal.Tail.row ⟨q.val % 12, by omega⟩ k) (⟨q.val / 12, by omega⟩ : Fin 8192)) := by
  unfold res_main_v21 Cert.KernelIdeal.Outp.hostOffsets
  rw [shapeCast_apply _ _ _ (ix5 b (⟨q.val / 12 / 1024, by omega⟩ : Fin 8) (⟨q.val / 12 / 32 % 32, by omega⟩ : Fin 32) (⟨q.val / 12 % 32, by omega⟩ : Fin 32)
      (Cert.KernelIdeal.Tail.row ⟨q.val % 12, by omega⟩ k)) (by
      refine (Shape.rowMajor_val_five _).trans (Eq.trans ?_ (Shape.rowMajor_val_three (d := ![4, 98304, 6]) (ix3 b q k)).symm)
      show (((b.val * 8 + q.val / 12 / 1024) * 32 + q.val / 12 / 32 % 32) * 32 + q.val / 12 % 32) * 72 + (6 * (q.val % 12) + k.val) = (b.val * 98304 + q.val) * 6 + k.val
      omega),
    shapeCast_apply _ _ _ (ix5 b (Cert.KernelIdeal.Tail.row ⟨q.val % 12, by omega⟩ k) (⟨q.val / 12 / 1024, by omega⟩ : Fin 8) (⟨q.val / 12 / 32 % 32, by omega⟩ : Fin 32)
      (⟨q.val / 12 % 32, by omega⟩ : Fin 32)) (by
      rw [Shape.rowMajor_val_five, Shape.rowMajor_val_three]
      show (((b.val * 72 + (6 * (q.val % 12) + k.val)) * 8 + q.val / 12 / 1024) * 32 + q.val / 12 / 32 % 32) * 32 + q.val / 12 % 32
        = (b.val * 72 + (6 * (q.val % 12) + k.val)) * 8192 + q.val / 12
      omega)]
  exact transpose_apply _ _ _ _ _ (fun a => by
    match a with
    | ⟨0, _⟩ => rfl
    | ⟨1, _⟩ => rfl
    | ⟨2, _⟩ => rfl
    | ⟨3, _⟩ => rfl
    | ⟨4, _⟩ => rfl)

/-- The scores. -/
theorem v23_apply (r : Fin 192) (j : Fin 2048) (b : Fin 4) (hb : j.val % 4 = b.val) :
    res_main_v23 V0 (ix2 b (⟨pos r j, pos_lt r j⟩ : Fin 98304)) = Cert.KernelIdeal.Outp.hostScores (V0 (Proc.devRef .tc main_arg0)) (ix2 r j) := by
  have hr := r.isLt
  have hj := j.isLt
  obtain ⟨m, hm⟩ : ∃ m, m = r.val * 512 + j.val / 4 := ⟨_, rfl⟩
  have hm' : m < 98304 := by omega
  have hp : pos r j = m % 8192 * 12 + m / 8192 := by unfold pos; rw [hm]
  unfold res_main_v23 Cert.KernelIdeal.Outp.hostScores
  rw [shapeCast_apply _ _ _ (ix5 b (⟨m % 8192 / 1024, by omega⟩ : Fin 8) (⟨m / 32 % 32, by omega⟩ : Fin 32) (⟨m % 32, by omega⟩ : Fin 32)
      (⟨m / 8192, by omega⟩ : Fin 12)) (by
      refine (Shape.rowMajor_val_five _).trans (Eq.trans ?_ (Shape.rowMajor_val_two (d := ![4, 98304]) (ix2 b (⟨pos r j, pos_lt r j⟩ : Fin 98304))).symm)
      show (((b.val * 8 + m % 8192 / 1024) * 32 + m / 32 % 32) * 32 + m % 32) * 12 + m / 8192 = b.val * 98304 + pos r j
      omega),
    transpose_apply _ _ _ _ (ix5 b (⟨m / 8192, by omega⟩ : Fin 12) (⟨m % 8192 / 1024, by omega⟩ : Fin 8) (⟨m / 32 % 32, by omega⟩ : Fin 32) (⟨m % 32, by omega⟩ : Fin 32)) (fun a => by
    match a with
    | ⟨0, _⟩ => rfl
    | ⟨1, _⟩ => rfl
    | ⟨2, _⟩ => rfl
    | ⟨3, _⟩ => rfl
    | ⟨4, _⟩ => rfl),
    shapeCast_apply _ _ (ix2 r j) (ix3 r (⟨j.val / 4, by omega⟩ : Fin 512) b) (by
      rw [Shape.rowMajor_val_three, Shape.rowMajor_val_two]
      show (r.val * 512 + j.val / 4) * 4 + b.val = r.val * 2048 + j.val
      omega),
    transpose_apply _ _ _ (ix3 r (⟨j.val / 4, by omega⟩ : Fin 512) b) (ix3 b r (⟨j.val / 4, by omega⟩ : Fin 512)) (fun a => by
    match a with
    | ⟨0, _⟩ => rfl
    | ⟨1, _⟩ => rfl
    | ⟨2, _⟩ => rfl),
    shapeCast_apply _ _ (ix3 b r (⟨j.val / 4, by omega⟩ : Fin 512)) (ix5 b (⟨m / 8192, by omega⟩ : Fin 12) (⟨m % 8192 / 1024, by omega⟩ : Fin 8) (⟨m / 32 % 32, by omega⟩ : Fin 32) (⟨m % 32, by omega⟩ : Fin 32)) (by
      rw [Shape.rowMajor_val_five, Shape.rowMajor_val_three]
      show (((b.val * 12 + m / 8192) * 8 + m % 8192 / 1024) * 32 + m / 32 % 32) * 32 + m % 32 = (b.val * 192 + r.val) * 512 + j.val / 4
      omega)]

/-- The sizes in the order of the axes. -/
def size (im : S4x3.Idx → EReal) (b : Fin 4) : Fin 3 → EReal := ![im (ix2 b (1 : Fin 3)), im (ix2 b (0 : Fin 3)), im (ix2 b (2 : Fin 3))]

/-- The limits. -/
theorem v57_apply (b : Fin 4) (k : Fin 3) :
    res_main_v57 V0 (ix3 b (0 : Fin 1) k) = size (V0 (Proc.devRef .tc main_arg2)) b k - Spec.lit 0x3F800000#32 := by
  unfold res_main_v57
  refine congrArg₂ (fun x y : EReal => x - y) ?_ rfl
  have hcol : ∀ (i : Fin 3) (h : S4x3.Slices ![0, i.val] S4x1),
      (broadcastInDim S4x1 ![0] bcast_S4_S4x1_0 (shapeCast _ (extractStridedSlice S4x1 ![0, i.val] (V0 (Proc.devRef .tc main_arg2)) h) shapeCasts_S4x1_S4) :
        FVec Ideal S4x1 .f32) (ix2 b (0 : Fin 1)) = V0 (Proc.devRef .tc main_arg2) (ix2 b i) := by
    intro i h
    rw [broadcastInDim_apply _ _ _ _ (ix1 b) (fun a => by
        match a with
        | ⟨0, _⟩ => rfl),
      shapeCast_apply _ _ _ (ix2 b (0 : Fin 1)) (by
        rw [Shape.rowMajor_val_two, Shape.rowMajor_val_one]
        show b.val * 1 + 0 = b.val
        omega)]
    exact extractStridedSlice_apply _ _ _ _ _ (fun a => by
      match a with
      | ⟨0, _⟩ => exact (Nat.zero_add _).symm
      | ⟨1, _⟩ => exact (Nat.add_zero _).symm)
  rw [broadcastInDim_apply _ _ _ _ (ix2 b k) (fun a => by
    match a with
    | ⟨0, _⟩ => rfl
    | ⟨1, _⟩ => rfl)]
  refine (concatenate_apply_piece (t := S4x3) 1 _ _ _ k.val ?_ S4x1
      ((![broadcastInDim S4x1 ![0] bcast_S4_S4x1_0 (shapeCast _ (extractStridedSlice S4x1 ![0, 1] (V0 (Proc.devRef .tc main_arg2)) slices_S4x3_S4x1_0_1) shapeCasts_S4x1_S4),
        broadcastInDim S4x1 ![0] bcast_S4_S4x1_0 (shapeCast _ (extractStridedSlice S4x1 ![0, 0] (V0 (Proc.devRef .tc main_arg2)) slices_S4x3_S4x1_0_0) shapeCasts_S4x1_S4),
        broadcastInDim S4x1 ![0] bcast_S4_S4x1_0 (shapeCast _ (extractStridedSlice S4x1 ![0, 2] (V0 (Proc.devRef .tc main_arg2)) slices_S4x3_S4x1_0_2) shapeCasts_S4x1_S4)] : Fin 3 → FVec Ideal S4x1 .f32) k)
      ?_ rfl k.val ?_ (ix2 b (0 : Fin 1)) ?_ ?_).trans ?_
  · exact (show k.val < 3 from k.isLt)
  · obtain ⟨t, ht⟩ := k; dsimp only; interval_cases t <;> rfl
  · obtain ⟨t, ht⟩ := k; dsimp only; interval_cases t <;> rfl
  · intro c hc
    match c with
    | ⟨0, _⟩ => rfl
    | ⟨1, _⟩ => exact absurd rfl hc
  · rfl
  · obtain ⟨t, ht⟩ := k
    interval_cases t
    · exact hcol 1 slices_S4x3_S4x1_0_1
    · exact hcol 0 slices_S4x3_S4x1_0_0
    · exact hcol 2 slices_S4x3_S4x1_0_2

end Cert.ReferenceIdeal.Read

end
-- ==== Proof.RefSort.lean ====
module

public import proofs.«01_k».proof.Proof.Words
public import Idealize.ShloMosaic.Lib.SortNet.Positions
public import Idealize.ShloMosaic.Lib.PlanTiles.StableSort

/-
  The reference's order: a stable sort by descending score leaves the candidates in the order of the pairs of score and
  position, greatest first, a lower position first among equal scores.
-/

@[expose] public section

noncomputable section

open Idealize.ShloMosaic Idealize.ShloMosaic.SortNet Idealize.ShloMosaic.WordArith Idealize.ShloMosaic.PlanTiles

namespace Cert.Model

section rank
variable {n : ℕ} (f : Fin n → EReal)

/-- How many candidates score less. -/
def below (k : Fin n) : ℕ := (Finset.univ.filter fun k' => f k' < f k).card

/-- Fewer candidates lie below one than below another exactly when it scores less, -/
theorem below_lt (a b : Fin n) : below f a < below f b ↔ f a < f b := by
  constructor
  · intro h
    by_contra hn
    refine absurd h (not_lt.2 (Finset.card_le_card fun x hx => ?_))
    rw [Finset.mem_filter] at hx ⊢
    exact ⟨hx.1, lt_of_lt_of_le hx.2 (not_lt.1 hn)⟩
  · intro h
    refine Finset.card_lt_card ((Finset.ssubset_iff_of_subset fun x hx => ?_).2 ⟨a, ?_, ?_⟩)
    · rw [Finset.mem_filter] at hx ⊢
      exact ⟨hx.1, hx.2.trans h⟩
    · rw [Finset.mem_filter]; exact ⟨Finset.mem_univ _, h⟩
    · rw [Finset.mem_filter]; exact fun hx => lt_irrefl _ hx.2

/-- and as many only when the two score the same. -/
theorem below_eq (a b : Fin n) : below f a = below f b → f a = f b := by
  intro h
  by_contra hne
  rcases lt_or_gt_of_ne hne with h' | h'
  · exact absurd ((below_lt f a b).2 h') (by omega)
  · exact absurd ((below_lt f b a).2 h') (by omega)

/-- The reference's comparison of two candidates. -/
def ahead (k k' : Fin n) : Bool := decide (f k' < f k)

/-- A candidate's pair of score and position. -/
def pair (k : Fin n) : E := key (f k) (BitVec.ofNat 32 k.val)

/-- The stably sorted pairs are the pairs sorted. -/
theorem map_stable (hn : n < 2 ^ 31) :
    (sortPositions n (ahead f)).map (pair f) = (List.ofFn (pair f)).insertionSort (· ≥ ·) := by
  have e : ahead f = fun a b => decide (below f b < below f a) := by
    funext a b
    exact decide_eq_decide.2 (below_lt f b a).symm
  refine List.Perm.eq_of_pairwise (le := (· ≥ ·)) (fun a b _ _ h h' => le_antisymm h' h) ?_ (List.pairwise_insertionSort (· ≥ ·) _) ?_
  · rw [List.pairwise_map, e]
    refine (pairwise_stableSort_lex (below f) (· < ·) (List.finRange n) (List.pairwise_lt_finRange n)).imp fun {a b} h => ?_
    refine le_of_lt ((key_lt _ _ _ _).2 ?_)
    rcases h with h | ⟨h, h'⟩
    · exact Or.inl ((below_lt f b a).1 h)
    · refine Or.inr ⟨(below_eq f a b h).symm, ?_⟩
      have := a.isLt
      have := b.isLt
      rw [toInt_ofNat_small _ (by omega), toInt_ofNat_small _ (by omega)]
      exact Int.ofNat_lt.2 h'
  · refine ((perm_sortPositions n (ahead f)).map (pair f)).trans ?_
    rw [← List.ofFn_eq_map]
    exact (List.perm_insertionSort _ _).symm

/-- The pair at a place among the first is the pair of the candidate the stable sort puts there. -/
theorem topList_stable (hn : n < 2 ^ 31) (K : ℕ) (u : Fin n) (hu : u.val < K) :
    (topList K (List.ofFn (pair f)))[u.val]? = some (pair f (sortedFrom (ahead f) u)) := by
  unfold topList
  rw [← map_stable f hn, List.getElem?_take_of_lt hu, List.getElem?_map]
  unfold sortedFrom
  rw [List.getElem?_eq_getElem (by rw [length_sortPositions]; exact u.isLt)]
  rfl

end rank

end Cert.Model

end
-- ==== Proof.RefOut.lean ====
module

public import proofs.«01_k».proof.Proof.RefBoxes
public import proofs.«01_k».proof.Proof.RefSort
public import Idealize.ShloMosaic.Lib.ReduceAll

/-
  The reference's result read at an index: the candidate its order puts at a place, that candidate's box and score.
-/

@[expose] public section

set_option maxRecDepth 65536

noncomputable section

open Idealize.ShloMosaic Cert.Model Idealize.ShloMosaic.WordArith

namespace Cert.ReferenceIdeal.Read

open Cert.ReferenceIdeal Cert.ReferenceIdeal.Value Facts₀ Facts

variable (V0 : Valuation τ sig (Elt Ideal))

/-- The first three of six, -/
def fst3 (k : Fin 3) : Fin 6 := Fin.castLE (by decide) k
/-- and the last three. -/
def snd3 (k : Fin 3) : Fin 6 := Fin.natAdd 3 k

/-- The first three of a box's six numbers, -/
theorem slice0_apply (x : S4x98304x6.Idx → EReal) (b : Fin 4) (q : Fin 98304) (k : Fin 3) :
    extractStridedSlice S4x98304x3 ![0, 0, 0] x slices_S4x98304x6_S4x98304x3_0_0_0 (ix3 b q k) = x (ix3 b q (fst3 k)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- and the last three. -/
theorem slice3_apply (x : S4x98304x6.Idx → EReal) (b : Fin 4) (q : Fin 98304) (k : Fin 3) :
    extractStridedSlice S4x98304x3 ![0, 0, 3] x slices_S4x98304x6_S4x98304x3_0_0_3 (ix3 b q k) = x (ix3 b q (snd3 k)) :=
  extractStridedSlice_apply _ _ _ _ _ (fun a => by
    match a with
    | ⟨0, _⟩ => exact (Nat.zero_add _).symm
    | ⟨1, _⟩ => exact (Nat.zero_add _).symm
    | ⟨2, _⟩ => rfl)

section box
variable (b : Fin 4) (q : Fin 98304) (k : Fin 3)

/-- A box's extent along an axis, -/
theorem v28_apply : res_main_v28 V0 (ix3 b q k) = Spec.extent (res_main_v19 V0 (ix3 b q (fst3 k))) (res_main_v19 V0 (ix3 b q (snd3 k))) := by
  rw [← slice0_apply (res_main_v19 V0) b q k, ← slice3_apply (res_main_v19 V0) b q k]
  exact rfl

/-- its shifted middle -/
theorem v35_apply : res_main_v35 V0 (ix3 b q k)
    = Spec.middle (res_main_v19 V0 (ix3 b q (fst3 k))) (res_main_v19 V0 (ix3 b q (snd3 k))) (res_main_v21 V0 (ix3 b q (fst3 k))) := by
  unfold Spec.middle
  rw [← v28_apply, ← slice0_apply (res_main_v19 V0) b q k, ← slice0_apply (res_main_v21 V0) b q k]
  exact rfl

/-- and its scaled extent. -/
theorem v38_apply : res_main_v38 V0 (ix3 b q k)
    = Spec.scaled (res_main_v19 V0 (ix3 b q (fst3 k))) (res_main_v19 V0 (ix3 b q (snd3 k))) (res_main_v21 V0 (ix3 b q (snd3 k))) := by
  unfold Spec.scaled
  rw [← v28_apply, ← slice3_apply (res_main_v21 V0) b q k]
  exact rfl

/-- The lower ends of the clipped boxes, -/
def lows : FVec Ideal S4x98304x3 .f32 :=
  minimumf (broadcastInDim S4x98304x3 ![0, 1, 2] bcast_S4x1x3_S4x98304x3_0_1_2 (res_main_v57 V0)) (maximumf (broadcastInDim S4x98304x3 ![] bcast_S_S4x98304x3 (id (constant S_ .f32 0x00000000#32))) (subf (res_main_v35 V0) (mulf (broadcastInDim S4x98304x3 ![] bcast_S_S4x98304x3 (constant S_ .f32 0x3F000000#32)) (res_main_v38 V0))))

/-- and the upper. -/
def ups : FVec Ideal S4x98304x3 .f32 :=
  minimumf (broadcastInDim S4x98304x3 ![0, 1, 2] bcast_S4x1x3_S4x98304x3_0_1_2 (res_main_v57 V0)) (maximumf (broadcastInDim S4x98304x3 ![] bcast_S_S4x98304x3 (id (constant S_ .f32 0x00000000#32))) (addf (res_main_v35 V0) (mulf (broadcastInDim S4x98304x3 ![] bcast_S_S4x98304x3 (constant S_ .f32 0x3F000000#32)) (res_main_v38 V0))))

/-- The limit along an axis is the image's size less one. -/
theorem limit_apply : broadcastInDim S4x98304x3 ![0, 1, 2] bcast_S4x1x3_S4x98304x3_0_1_2 (res_main_v57 V0) (ix3 b q k)
    = size (V0 (Proc.devRef .tc main_arg2)) b k - Spec.lit 0x3F800000#32 := by
  rw [← v57_apply]
  exact broadcastInDim_apply _ _ _ _ _ (fun a => by
    match a with
    | ⟨0, _⟩ => rfl
    | ⟨1, _⟩ => rfl
    | ⟨2, _⟩ => rfl)

/-- A box's clipped lower corner -/
theorem lows_apply : lows V0 (ix3 b q k)
    = Spec.lower (res_main_v19 V0 (ix3 b q (fst3 k))) (res_main_v19 V0 (ix3 b q (snd3 k))) (res_main_v21 V0 (ix3 b q (fst3 k))) (res_main_v21 V0 (ix3 b q (snd3 k)))
        (size (V0 (Proc.devRef .tc main_arg2)) b k - Spec.lit 0x3F800000#32) := by
  unfold Spec.lower
  rw [← limit_apply V0 b q k, ← v35_apply, ← v38_apply]
  exact rfl

/-- and its clipped upper corner. -/
theorem ups_apply : ups V0 (ix3 b q k)
    = Spec.upper (res_main_v19 V0 (ix3 b q (fst3 k))) (res_main_v19 V0 (ix3 b q (snd3 k))) (res_main_v21 V0 (ix3 b q (fst3 k))) (res_main_v21 V0 (ix3 b q (snd3 k)))
        (size (V0 (Proc.devRef .tc main_arg2)) b k - Spec.lit 0x3F800000#32) := by
  unfold Spec.upper
  rw [← limit_apply V0 b q k, ← v35_apply, ← v38_apply]
  exact rfl

end box

/-- The clipped boxes. -/
def boxes : FVec Ideal S4x98304x6 .f32 :=
  concatenate S4x98304x6 2 [⟨S4x98304x3, lows V0⟩, ⟨S4x98304x3, ups V0⟩] concatenates_S4x98304x3_S4x98304x3_S4x98304x6_d2

/-- The first three numbers of a clipped box are its lower corner, -/
theorem boxes_fst (b : Fin 4) (q : Fin 98304) (k : Fin 3) : boxes V0 (ix3 b q (fst3 k)) = lows V0 (ix3 b q k) := by
  unfold boxes
  refine concatenate_apply_piece (t := S4x98304x6) 2 _ _ _ 0 ?_ S4x98304x3 (lows V0) rfl rfl 0 rfl (ix3 b q k) ?_ ?_
  · exact (show _ < 2 by decide)
  · intro c hc
    match c with
    | ⟨0, _⟩ => rfl
    | ⟨1, _⟩ => rfl
    | ⟨2, _⟩ => exact absurd rfl hc
  · exact Nat.zero_add _

/-- the last three its upper. -/
theorem boxes_snd (b : Fin 4) (q : Fin 98304) (k : Fin 3) : boxes V0 (ix3 b q (snd3 k)) = ups V0 (ix3 b q k) := by
  unfold boxes
  refine concatenate_apply_piece (t := S4x98304x6) 2 _ _ _ 1 ?_ S4x98304x3 (ups V0) rfl rfl 3 rfl (ix3 b q k) ?_ ?_
  · exact (show _ < 2 by decide)
  · intro c hc
    match c with
    | ⟨0, _⟩ => rfl
    | ⟨1, _⟩ => rfl
    | ⟨2, _⟩ => exact absurd rfl hc
  · rfl

/-! ## The order -/

/-- The reference's comparison of two scores. -/
theorem comparator_apply (x y : EReal) (i j : BitVec 32) :
    (comparator_f32_i32_d1 (F := Ideal) (x, i) (y, j) == 1#1) = decide (x < y) := by
  have h0 : (FloatOps.ofBits (F := Ideal) .f32 0x00000000#32 : EReal) = 0 := Ideal.ofBits_zero_f32
  have hs : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32)) (FloatOps.ofBits (F := Ideal) .f32 0x00000000#32) z) = z := by
    intro z
    have e1 : FloatOps.cmpf (F := Ideal) (φ := .f32) .une z z = 0#1 := by
      show BitVec.ofBool _ = _
      simp
    rw [e1]
    by_cases h : z = 0
    · have e2 : FloatOps.cmpf (F := Ideal) (φ := .f32) .oeq z (FloatOps.ofBits (F := Ideal) .f32 0x00000000#32) = 1#1 := by
        rw [h0]
        show BitVec.ofBool _ = _
        simp [h]
      rw [e2, h0]
      exact h.symm
    · have e2 : FloatOps.cmpf (F := Ideal) (φ := .f32) .oeq z (FloatOps.ofBits (F := Ideal) .f32 0x00000000#32) = 0#1 := by
        rw [h0]
        show BitVec.ofBool _ = _
        simp [h]
      rw [e2]
      rfl
  unfold comparator_f32_i32_d1
  dsimp only
  rw [hs x, hs y]
  show (BitVec.ofBool (decide (x < y)) == 1#1) = decide (x < y)
  by_cases h : x < y <;> simp [h]

/-- An image's scores in the reference's order of candidates. -/
def scores (b : Fin 4) (k : Fin 98304) : EReal := res_main_v23 V0 (ix2 b k)

/-- The candidate at a place. -/
def best (b : Fin 4) (u : Fin 100) : Fin 98304 := sortedFrom (ahead (scores V0 b)) (Fin.castLE (by decide) u)

/-- A sort of two tables along their rows: the second at a place. -/
theorem sort2_row {m n : ℕ} {α β : Type} (cmp : α × β → α × β → BitVec 1) (x : (⟨2, ![m, n]⟩ : Shape).Idx → α) (y : (⟨2, ![m, n]⟩ : Shape).Idx → β) (b : Fin m) (v : Fin n) :
    (Host.sort2 ⟨2, ![m, n]⟩ 1 cmp x y).2 (ix2 b v)
      = y (ix2 b (sortedFrom (fun k k' : Fin n => cmp (x (ix2 b k), y (ix2 b k)) (x (ix2 b k'), y (ix2 b k')) == 1#1) v)) := by
  have e : ∀ k : Fin n, (ix2 b v : (⟨2, ![m, n]⟩ : Shape).Idx).along 1 k = ix2 b k := fun k => by
    funext a
    match a with
    | ⟨0, _⟩ => rfl
    | ⟨1, _⟩ => rfl
  have hB : (fun k k' : Fin n => cmp (x ((ix2 b v : (⟨2, ![m, n]⟩ : Shape).Idx).along 1 k), y ((ix2 b v : (⟨2, ![m, n]⟩ : Shape).Idx).along 1 k))
        (x ((ix2 b v : (⟨2, ![m, n]⟩ : Shape).Idx).along 1 k'), y ((ix2 b v : (⟨2, ![m, n]⟩ : Shape).Idx).along 1 k')) == 1#1)
      = fun k k' : Fin n => cmp (x (ix2 b k), y (ix2 b k)) (x (ix2 b k'), y (ix2 b k')) == 1#1 := by
    funext k k'
    rw [e, e]
  rw [← hB]
  refine Eq.trans ?_ (congrArg y (e _))
  unfold Host.sort2
  rw [dif_pos (show 1 < 2 by decide)]
  rfl

/-- The sorted positions are the stable order's. -/
theorem sorted_apply (b : Fin 4) (v : Fin 98304) :
    (Host.sort2 S4x98304 1 comparator_f32_i32_d1 (res_main_v61 V0) (res_main_call6_v0 V0)).2 (ix2 b v) = BitVec.ofNat 32 (sortedFrom (ahead (scores V0 b)) v).val := by
  have hB : (fun k k' : Fin 98304 => comparator_f32_i32_d1 (F := Ideal) (res_main_v61 V0 (ix2 b k), res_main_call6_v0 V0 (ix2 b k))
        (res_main_v61 V0 (ix2 b k'), res_main_call6_v0 V0 (ix2 b k')) == 1#1) = ahead (scores V0 b) := by
    funext k k'
    rw [comparator_apply]
    unfold ahead
    refine decide_eq_decide.2 ?_
    show -(scores V0 b k) < -(scores V0 b k') ↔ scores V0 b k' < scores V0 b k
    exact EReal.neg_lt_neg_iff
  refine (sort2_row (m := 4) (n := 98304) comparator_f32_i32_d1 (res_main_v61 V0) (res_main_call6_v0 V0) b v).trans ?_
  rw [hB]
  rfl

/-- The first hundred of the sorted positions, -/
theorem v63_apply (b : Fin 4) (u : Fin 100) : res_main_v63 V0 (ix2 b u) = BitVec.ofNat 32 (best V0 b u).val := by
  unfold res_main_v63
  rw [extractStridedSlice_apply _ _ _ _ (ix2 b (Fin.castLE (by decide) u : Fin 98304)) (fun a => by
    match a with
    | ⟨0, _⟩ => exact (Nat.zero_add _).symm
    | ⟨1, _⟩ => exact (Nat.zero_add _).symm)]
  exact sorted_apply V0 b _

/-! ## The candidates' boxes and scores -/

/-- A position that is not negative is not wrapped. -/
theorem wrap_apply (n : ℕ) (hn : n < 98304) :
    (if IntOp.cmpi .slt (BitVec.ofNat 32 n) 0#32 = 1#1 then IntOp.addi (BitVec.ofNat 32 n) 98304#32 else BitVec.ofNat 32 n) = BitVec.ofNat 32 n := by
  have e2 : IntOp.cmpi .slt (BitVec.ofNat 32 n) 0#32 = 0#1 := by
    show BitVec.ofBool (BitVec.slt (BitVec.ofNat 32 n) 0#32) = 0#1
    rw [BitVec.slt_eq_decide, toInt_ofNat_small _ (by omega), decide_eq_false (by show ¬ ((n : ℕ) : ℤ) < 0; omega)]; rfl
  rw [e2, if_neg (by decide)]

/-- The positions with a unit axis, -/
theorem v64_apply (b : Fin 4) (u : Fin 100) : res_main_v64 V0 (ix3 b u (0 : Fin 1)) = BitVec.ofNat 32 (best V0 b u).val := by
  rw [← v63_apply]
  exact broadcastInDim_apply _ _ _ _ _ (fun a => by
    match a with
    | ⟨0, _⟩ => rfl
    | ⟨1, _⟩ => rfl)

/-- as the boxes are taken at them -/
theorem call7_apply (b : Fin 4) (u : Fin 100) : res_main_call7_v4 V0 (ix3 b u (0 : Fin 1)) = BitVec.ofNat 32 (best V0 b u).val := by
  rw [← wrap_apply _ (best V0 b u).isLt, ← v64_apply]
  exact rfl

/-- and as the scores are. -/
theorem call8_apply (b : Fin 4) (u : Fin 100) : res_main_call8_v5 V0 (ix3 b u (0 : Fin 1)) = BitVec.ofNat 32 (best V0 b u).val := by
  unfold res_main_call8_v5
  rw [shapeCast_apply _ _ _ (ix2 b u) (by
    refine (Shape.rowMajor_val_two _).trans (Eq.trans ?_ (Shape.rowMajor_val_three (d := ![4, 100, 1]) (ix3 b u (0 : Fin 1))).symm)
    show b.val * 100 + u.val = (b.val * 100 + u.val) * 1 + 0
    omega), ← wrap_apply _ (best V0 b u).isLt, ← v63_apply]
  exact rfl

/-- A list of places all inside: the mask is one everywhere. -/
theorem mask_apply (w : IVec S4x100x1 32) (hw : ∀ (b : Fin 4) (u : Fin 100), ∃ n, n < 98304 ∧ w (ix3 b u (0 : Fin 1)) = BitVec.ofNat 32 n) (i : S4x100.Idx) :
    Host.reduce IntOp.andi (andi (cmpi .sge w (broadcastInDim S4x100x1 ![] bcast_S_S4x100x1 (constantI S_ 32 0#32)))
      (cmpi .sle w (broadcastInDim S4x100x1 ![0, 1, 2] bcast_S1x1x1_S4x100x1_0_1_2 (broadcastInDim S1x1x1 ![2] bcast_S1_S1x1x1_2 (constantI S1 32 98303#32)))))
      (constantI S_ 1 1#1) reducesTo_S4x100x1_S4x100_d2 h_S_ i = 1#1 := by
  refine Host.reduce_andi_one _ _ _ _ _ rfl fun j => ?_
  obtain ⟨n, hn, e⟩ := hw (j 0) (j 1)
  have hj : j = ix3 (j 0) (j 1) (0 : Fin 1) := (eq_ix3 j).trans (congrArg (ix3 (j 0) (j 1)) (Subsingleton.elim (α := Fin 1) _ _))
  rw [hj]
  show IntOp.andi (IntOp.cmpi .sge (w (ix3 (j 0) (j 1) (0 : Fin 1))) 0#32) (IntOp.cmpi .sle (w (ix3 (j 0) (j 1) (0 : Fin 1))) 98303#32) = 1#1
  rw [e]
  have e1 : IntOp.cmpi .sge (BitVec.ofNat 32 n) 0#32 = 1#1 := by
    show BitVec.ofBool (BitVec.sle 0#32 (BitVec.ofNat 32 n)) = 1#1
    rw [BitVec.sle_eq_decide, toInt_ofNat_small _ (by omega), toInt_ofNat_small _ (by omega), decide_eq_true (by omega)]; rfl
  have e2 : IntOp.cmpi .sle (BitVec.ofNat 32 n) 98303#32 = 1#1 := by
    show BitVec.ofBool (BitVec.sle (BitVec.ofNat 32 n) (BitVec.ofNat 32 98303)) = 1#1
    rw [BitVec.sle_eq_decide, toInt_ofNat_small _ (by omega), toInt_ofNat_small _ (by omega), decide_eq_true (by omega)]; rfl
  rw [e1, e2]
  rfl

/-- A table's rows taken along its candidates. -/
theorem gather6_apply (x : S4x98304x6.Idx → EReal) (idx : IVec S4x100x1 32) (b : Fin 4) (u : Fin 100) (k : Fin 6) (q : Fin 98304)
    (hq : idx (ix3 b u (0 : Fin 1)) = BitVec.ofNat 32 q.val) :
    Host.gather gather_S4x98304x6_S4x100x1_S4x100x6_2_1_0_0_1_2_116 x idx (ix3 b u k) = x (ix3 b q k) := by
  set d := gather_S4x98304x6_S4x100x1_S4x100x6_2_1_0_0_1_2_116 with hd
  unfold Host.gather
  refine congrArg x (funext fun a => Fin.ext ?_)
  show d.start (ix3 b u k) idx a + d.batchCoord (ix3 b u k) a + d.offCoord (ix3 b u k) a = _
  match a with
  | ⟨0, _⟩ =>
    rw [GatherDims.start_batching _ _ _ _ (show (0 : Fin 3) ∈ [0] from List.mem_singleton.mpr rfl),
      GatherDims.offCoord_eq_zero _ _ _ (fun h => ((GatherDims.mem_sKept _ _).mp h).2 (show (0 : Fin 3) ∈ [0] from List.mem_singleton.mpr rfl))]
    simp only [Nat.zero_add, Nat.add_zero]
    unfold GatherDims.batchCoord
    refine (dif_pos (show (0 : Fin 3) ∈ [0] from List.mem_singleton.mpr rfl)).trans ?_
    rfl
  | ⟨1, _⟩ =>
    rw [GatherDims.batchCoord_eq_zero _ _ _ (show (1 : Fin 3) ∉ [0] by decide),
      GatherDims.offCoord_eq_zero _ _ _ (fun h => ((GatherDims.mem_sKept _ _).mp h).1 (show (1 : Fin 3) ∈ [1] from List.mem_singleton.mpr rfl))]
    simp only [Nat.add_zero]
    unfold GatherDims.start
    refine (dif_pos (show (1 : Fin 3) ∈ [1] from List.mem_singleton.mpr rfl)).trans ?_
    have hsi : d.siIdx (ix3 b u k) ⟨List.idxOf (1 : Fin 3) d.startIndexMap, List.idxOf_lt_length_iff.2 (show (1 : Fin 3) ∈ [1] from List.mem_singleton.mpr rfl)⟩
        = ix3 b u (0 : Fin 1) := by
      funext c; refine Fin.ext ?_
      match c with
      | ⟨0, _⟩ => rfl
      | ⟨1, _⟩ => rfl
      | ⟨2, _⟩ => rfl
    have e : min (idx (d.siIdx (ix3 b u k) ⟨List.idxOf (1 : Fin 3) d.startIndexMap, List.idxOf_lt_length_iff.2 (show (1 : Fin 3) ∈ [1] from List.mem_singleton.mpr rfl)⟩)).toInt.toNat 98303 = q.val := by
      rw [hsi, hq, toInt_ofNat_small _ (by have := q.isLt; omega)]
      have := q.isLt
      simp; omega
    exact e
  | ⟨2, _⟩ =>
    have h0 : d.start (ix3 b u k) idx 2 = 0 := by
      unfold GatherDims.start
      exact dif_neg (show (2 : Fin 3) ∉ [1] by decide)
    show d.start (ix3 b u k) idx 2 + d.batchCoord (ix3 b u k) 2 + d.offCoord (ix3 b u k) 2 = _
    rw [h0, GatherDims.batchCoord_eq_zero _ _ _ (show (2 : Fin 3) ∉ [0] by decide)]
    simp only [Nat.zero_add]
    unfold GatherDims.offCoord
    refine (dif_pos (show (2 : Fin 3) ∈ d.sKept by decide)).trans ?_
    rfl

/-- A column taken along its candidates. -/
theorem gather1_apply (x : S4x98304.Idx → EReal) (idx : IVec S4x100x1 32) (b : Fin 4) (u : Fin 100) (q : Fin 98304)
    (hq : idx (ix3 b u (0 : Fin 1)) = BitVec.ofNat 32 q.val) :
    Host.gather gather_S4x98304_S4x100x1_S4x100_n_1_0_0_1_2_11 x idx (ix2 b u) = x (ix2 b q) := by
  set d := gather_S4x98304_S4x100x1_S4x100_n_1_0_0_1_2_11 with hd
  unfold Host.gather
  refine congrArg x (funext fun a => Fin.ext ?_)
  show d.start (ix2 b u) idx a + d.batchCoord (ix2 b u) a + d.offCoord (ix2 b u) a = _
  match a with
  | ⟨0, _⟩ =>
    rw [GatherDims.start_batching _ _ _ _ (show (0 : Fin 2) ∈ [0] from List.mem_singleton.mpr rfl),
      GatherDims.offCoord_eq_zero _ _ _ (fun h => ((GatherDims.mem_sKept _ _).mp h).2 (show (0 : Fin 2) ∈ [0] from List.mem_singleton.mpr rfl))]
    simp only [Nat.zero_add, Nat.add_zero]
    unfold GatherDims.batchCoord
    refine (dif_pos (show (0 : Fin 2) ∈ [0] from List.mem_singleton.mpr rfl)).trans ?_
    rfl
  | ⟨1, _⟩ =>
    rw [GatherDims.batchCoord_eq_zero _ _ _ (show (1 : Fin 2) ∉ [0] by decide),
      GatherDims.offCoord_eq_zero _ _ _ (fun h => ((GatherDims.mem_sKept _ _).mp h).1 (show (1 : Fin 2) ∈ [1] from List.mem_singleton.mpr rfl))]
    simp only [Nat.add_zero]
    unfold GatherDims.start
    refine (dif_pos (show (1 : Fin 2) ∈ [1] from List.mem_singleton.mpr rfl)).trans ?_
    have hsi : d.siIdx (ix2 b u) ⟨List.idxOf (1 : Fin 2) d.startIndexMap, List.idxOf_lt_length_iff.2 (show (1 : Fin 2) ∈ [1] from List.mem_singleton.mpr rfl)⟩
        = ix3 b u (0 : Fin 1) := by
      funext c; refine Fin.ext ?_
      match c with
      | ⟨0, _⟩ => rfl
      | ⟨1, _⟩ => rfl
      | ⟨2, _⟩ => rfl
    have e : min (idx (d.siIdx (ix2 b u) ⟨List.idxOf (1 : Fin 2) d.startIndexMap, List.idxOf_lt_length_iff.2 (show (1 : Fin 2) ∈ [1] from List.mem_singleton.mpr rfl)⟩)).toInt.toNat 98303 = q.val := by
      rw [hsi, hq, toInt_ofNat_small _ (by have := q.isLt; omega)]
      have := q.isLt
      simp; omega
    exact e

end Cert.ReferenceIdeal.Read

end
-- ==== Proof.RefResult.lean ====
module

public import proofs.«01_k».proof.Proof.RefOut

/-
  The reference's result read at an index, in the terms of the kernel's lane: the candidate at a place gives the same eight
  numbers as a lane holding its score and position.
-/

@[expose] public section

set_option maxRecDepth 65536

noncomputable section

open Idealize.ShloMosaic Cert.Model Idealize.ShloMosaic.WordArith

namespace Cert.ReferenceIdeal.Read

open Cert.ReferenceIdeal Cert.ReferenceIdeal.Value Facts₀ Facts

variable (V0 : Valuation τ sig (Elt Ideal))

/-- The column of the images' numbers, -/
def column0 : FVec Ideal S4x100x1 .f32 :=
  broadcastInDim S4x100x1 ![0, 1, 2] bcast_S4x1x1_S4x100x1_0_1_2 (broadcastInDim S4x1x1 ![0] bcast_S4_S4x1x1_0 (sitofp .f32 (iotaInDim S4 32 0)))

/-- whether the places are inside, -/
def inside (w : IVec S4x100x1 32) : IVec S4x100 1 :=
  Host.reduce IntOp.andi (andi (cmpi .sge w (broadcastInDim S4x100x1 ![] bcast_S_S4x100x1 (constantI S_ 32 0#32))) (cmpi .sle w (broadcastInDim S4x100x1 ![0, 1, 2] bcast_S1x1x1_S4x100x1_0_1_2 (broadcastInDim S1x1x1 ![2] bcast_S1_S1x1x1_2 (constantI S1 32 98303#32))))) (constantI S_ 1 1#1) reducesTo_S4x100x1_S4x100_d2 h_S_

/-- the boxes taken, -/
def taken : FVec Ideal S4x100x6 .f32 :=
  select (broadcastInDim S4x100x6 ![0, 1] bcast_S4x100_S4x100x6_0_1 (inside (res_main_call7_v4 V0)))
    (Host.gather gather_S4x98304x6_S4x100x1_S4x100x6_2_1_0_0_1_2_116 (boxes V0) (res_main_call7_v4 V0))
    (broadcastInDim S4x100x6 ![] bcast_S_S4x100x6 (constant S_ .f32 0x7FC00000#32))

/-- and the scores taken. -/
def column7 : FVec Ideal S4x100x1 .f32 :=
  broadcastInDim S4x100x1 ![0, 1] bcast_S4x100_S4x100x1_0_1 (select (inside (res_main_call8_v5 V0))
    (Host.gather gather_S4x98304_S4x100x1_S4x100_n_1_0_0_1_2_11 (res_main_v23 V0) (res_main_call8_v5 V0))
    (broadcastInDim S4x100 ![] bcast_S_S4x100 (constant S_ .f32 0x7FC00000#32)))

/-- The reference's result. -/
def result : FVec Ideal S4x100x8 .f32 :=
  concatenate S4x100x8 2 [⟨S4x100x1, column0⟩, ⟨S4x100x6, taken V0⟩, ⟨S4x100x1, column7 V0⟩] concatenates_S4x100x1_S4x100x6_S4x100x1_S4x100x8_d2

/-- The words of the images' numbers. -/
theorem image_number (b : Fin 4) : FloatOps.sitofp (F := Ideal) .f32 (BitVec.ofNat 32 b.val) = Spec.lit (Cert.KernelIdeal.Blocks.bits b) := by
  have e : ∀ n : ℕ, n < 4 → FloatOps.sitofp (F := Ideal) .f32 (BitVec.ofNat 32 n) = ((n : ℝ) : EReal) := fun n hn => by
    show (((BitVec.ofNat 32 n).toInt : ℝ) : EReal) = _
    rw [toInt_ofNat_small n (by omega)]
    simp
  rw [e b.val b.isLt]
  fin_cases b
  · simp [Spec.lit, Cert.KernelIdeal.Blocks.bits, FloatOps.ofBits, Ideal.ofBits, Ideal.ieee]
  · simp [Spec.lit, Cert.KernelIdeal.Blocks.bits, FloatOps.ofBits, Ideal.ofBits, Ideal.ieee]
    rw [← EReal.coe_mul]
    norm_num
  · simp [Spec.lit, Cert.KernelIdeal.Blocks.bits, FloatOps.ofBits, Ideal.ofBits, Ideal.ieee]
    exact_mod_cast (show (2 : ℝ) = 8388608 * (2 ^ 22)⁻¹ by norm_num)
  · simp [Spec.lit, Cert.KernelIdeal.Blocks.bits, FloatOps.ofBits, Ideal.ofBits, Ideal.ieee]
    exact_mod_cast (show (3 : ℝ) = 12582912 * (2 ^ 22)⁻¹ by norm_num)

/-- The first column is the image's number. -/
theorem column0_apply (b : Fin 4) (u : Fin 100) : column0 (ix3 b u (0 : Fin 1)) = Spec.lit (Cert.KernelIdeal.Blocks.bits b) := by
  rw [← image_number]
  unfold column0
  rw [broadcastInDim_apply _ _ _ _ (ix3 b (0 : Fin 1) (0 : Fin 1)) (fun a => by
      match a with
      | ⟨0, _⟩ => rfl
      | ⟨1, _⟩ => rfl
      | ⟨2, _⟩ => rfl),
    broadcastInDim_apply _ _ _ _ (ix1 b) (fun a => by
      match a with
      | ⟨0, _⟩ => rfl)]
  rfl

/-- A box taken is the box at the place. -/
theorem taken_apply (b : Fin 4) (u : Fin 100) (k : Fin 6) : taken V0 (ix3 b u k) = boxes V0 (ix3 b (best V0 b u) k) := by
  rw [← gather6_apply (boxes V0) _ b u k (best V0 b u) (call7_apply V0 b u)]
  have e : broadcastInDim S4x100x6 ![0, 1] bcast_S4x100_S4x100x6_0_1 (inside (res_main_call7_v4 V0)) (ix3 b u k) = 1#1 := by
    rw [broadcastInDim_apply _ _ _ _ (ix2 b u) (fun a => by
      match a with
      | ⟨0, _⟩ => rfl
      | ⟨1, _⟩ => rfl)]
    exact mask_apply _ (fun b u => ⟨_, (best V0 b u).isLt, call7_apply V0 b u⟩) _
  exact if_pos e

/-- A score taken is the score at the place. -/
theorem column7_apply (b : Fin 4) (u : Fin 100) : column7 V0 (ix3 b u (0 : Fin 1)) = scores V0 b (best V0 b u) := by
  unfold scores
  rw [← gather1_apply (res_main_v23 V0) _ b u (best V0 b u) (call8_apply V0 b u)]
  unfold column7
  rw [broadcastInDim_apply _ _ _ _ (ix2 b u) (fun a => by
      match a with
      | ⟨0, _⟩ => rfl
      | ⟨1, _⟩ => rfl)]
  exact if_pos (mask_apply _ (fun b u => ⟨_, (best V0 b u).isLt, call8_apply V0 b u⟩) _)

/-- The result's first number is the image's, -/
theorem result_0 (b : Fin 4) (u : Fin 100) : result V0 (ix3 b u (0 : Fin 8)) = Spec.lit (Cert.KernelIdeal.Blocks.bits b) := by
  rw [← column0_apply b u]
  unfold result
  refine concatenate_apply_piece (t := S4x100x8) 2 _ _ _ 0 ?_ S4x100x1 column0 rfl rfl 0 rfl (ix3 b u (0 : Fin 1)) ?_ ?_
  · exact (show 0 < 3 by decide)
  · intro c hc
    match c with
    | ⟨0, _⟩ => rfl
    | ⟨1, _⟩ => rfl
    | ⟨2, _⟩ => exact absurd rfl hc
  · rfl

/-- its last the score -/
theorem result_7 (b : Fin 4) (u : Fin 100) : result V0 (ix3 b u (7 : Fin 8)) = scores V0 b (best V0 b u) := by
  rw [← column7_apply V0 b u]
  unfold result
  refine concatenate_apply_piece (t := S4x100x8) 2 _ _ _ 2 ?_ S4x100x1 (column7 V0) rfl rfl 7 rfl (ix3 b u (0 : Fin 1)) ?_ ?_
  · exact (show 2 < 3 by decide)
  · intro c hc
    match c with
    | ⟨0, _⟩ => rfl
    | ⟨1, _⟩ => rfl
    | ⟨2, _⟩ => exact absurd rfl hc
  · rfl

/-- and those between the box. -/
theorem result_box (b : Fin 4) (u : Fin 100) (k : Fin 6) :
    result V0 (ix3 b u (⟨1 + k.val, by omega⟩ : Fin 8)) = boxes V0 (ix3 b (best V0 b u) k) := by
  rw [← taken_apply V0 b u k]
  unfold result
  refine concatenate_apply_piece (t := S4x100x8) 2 _ _ _ 1 ?_ S4x100x6 (taken V0) rfl rfl 1 rfl (ix3 b u k) ?_ ?_
  · exact (show 1 < 3 by decide)
  · intro c hc
    match c with
    | ⟨0, _⟩ => rfl
    | ⟨1, _⟩ => rfl
    | ⟨2, _⟩ => exact absurd rfl hc
  · rfl

/-- The eight numbers of a place, one by one, are a lane's. -/
theorem lane_of (b : Fin 4) (q : Fin 98304) (o : EReal) (f : Fin 8 → EReal) (h0 : f 0 = Spec.lit (Cert.KernelIdeal.Blocks.bits b)) (h7 : f 7 = o)
    (hB : ∀ k : Fin 6, f (⟨1 + k.val, by omega⟩ : Fin 8) = boxes V0 (ix3 b q k)) (i : Fin 8) :
    f i = Cert.KernelIdeal.Tail.lane (Cert.KernelIdeal.Blocks.bits b) o (q.val / 12) ⟨q.val % 12, by omega⟩
      (fun k => Cert.KernelIdeal.Outp.hostOffsets (V0 (Proc.devRef .tc main_arg1))
        (ix3 b (Cert.KernelIdeal.Tail.row ⟨q.val % 12, by omega⟩ k) (⟨q.val / 12, by omega⟩ : Fin 8192)))
      (fun k => V0 (Proc.devRef .tc main_arg2) (ix2 b k)) i := by
  have hl : ∀ k : Fin 3, boxes V0 (ix3 b q (fst3 k)) = _ := fun k => (boxes_fst V0 b q k).trans (lows_apply V0 b q k)
  have hu : ∀ k : Fin 3, boxes V0 (ix3 b q (snd3 k)) = _ := fun k => (boxes_snd V0 b q k).trans (ups_apply V0 b q k)
  simp only [v19_apply, v21_apply] at hl hu
  have l0 := (hB 0).trans (hl 0)
  have l1 := (hB 1).trans (hl 1)
  have l2 := (hB 2).trans (hl 2)
  have u0 := (hB 3).trans (hu 0)
  have u1 := (hB 4).trans (hu 1)
  have u2 := (hB 5).trans (hu 2)
  match i with
  | ⟨0, _⟩ => exact h0
  | ⟨1, _⟩ => exact l0
  | ⟨2, _⟩ => exact l1
  | ⟨3, _⟩ => exact l2
  | ⟨4, _⟩ => exact u0
  | ⟨5, _⟩ => exact u1
  | ⟨6, _⟩ => exact u2
  | ⟨7, _⟩ => exact h7

/-- The reference's result at an index. -/
theorem result_apply (b : Fin 4) (u : Fin 100) (i : Fin 8) :
    result V0 (ix3 b u i) = Cert.KernelIdeal.Tail.lane (Cert.KernelIdeal.Blocks.bits b) (scores V0 b (best V0 b u)) ((best V0 b u).val / 12)
      ⟨(best V0 b u).val % 12, by omega⟩
      (fun k => Cert.KernelIdeal.Outp.hostOffsets (V0 (Proc.devRef .tc main_arg1))
        (ix3 b (Cert.KernelIdeal.Tail.row ⟨(best V0 b u).val % 12, by omega⟩ k) (⟨(best V0 b u).val / 12, by omega⟩ : Fin 8192)))
      (fun k => V0 (Proc.devRef .tc main_arg2) (ix2 b k)) i :=
  lane_of V0 b (best V0 b u) (scores V0 b (best V0 b u)) (fun i => result V0 (ix3 b u i)) (result_0 V0 b u) (result_7 V0 b u)
    (result_box V0 b u) i

/-- THE REFERENCE'S RUN: it terminates with the result's array at `result` of the launched arguments, the arguments
    unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.ReferenceIdeal.Read

end
-- ==== Proof.Glue.lean ====
module

public import proofs.«01_k».proof.Proof.RefResult
public import proofs.«01_k».proof.Pre_scores_above_minus_infinity
public import Idealize.ShloMosaic.Lib.WholeRead

/-
  The two results are one: an image's records in the kernel's arrangement are a permutation of the reference's, so the
  hundred greatest in descending order agree, lane by lane in score and position, and a lane's eight numbers follow from them.
-/

@[expose] public section

set_option maxRecDepth 65536

noncomputable section

open Idealize.ShloMosaic Idealize.ShloMosaic.SortNet Cert.Model Idealize.ShloMosaic.WordArith

namespace Cert.Glue

open Cert.KernelIdeal Cert.KernelIdeal.Hand Cert.KernelIdeal.Tail Cert.KernelIdeal.Outp Cert.KernelIdeal.Blocks
  Cert.ReferenceIdeal.Read Facts₀ Facts
open Cert.KernelIdeal.Loop (Good)

section loads

/-- The body's scores are the launch's, -/
theorem scoresIn_unread (m0 : Memref sig .tc .vmem S192x2048 .f32) (h : m0.IsWhole) (x : Vec Ideal S192x2048 .f32) :
    scoresIn m0 (h.unread x) = x := by
  funext i
  unfold scoresIn
  refine (congrFun (shapeCast_self _ _) i).trans ?_
  refine (h.readAt_unread x (Rect.unit ![0, 0] S192x2048.size inb_S192x2048_S192x2048_0_0).toLoadRect i).trans (congrArg x (funext fun a => Fin.ext ?_))
  match a with
  | ⟨0, _⟩ => exact (Nat.zero_add _).trans (Nat.one_mul _)
  | ⟨1, _⟩ => exact (Nat.zero_add _).trans (Nat.one_mul _)

/-- so are its offsets -/
theorem chunks_unread (b : Fin 4) (m1 : Memref sig .tc .vmem S4x72x8192 .f32) (h : m1.IsWhole) (x : Vec Ideal S4x72x8192 .f32)
    (k : Fin 8) (ch : Fin 72) (l : Fin 1024) (p : Fin 8192) (hp : 1024 * k.val + l.val = p.val) :
    chunks b m1 (h.unread x) k (ix3 (0 : Fin 1) ch l) = x (ix3 b ch p) := by
  unfold chunks
  refine (h.readAt_unread x _ _).trans (congrArg x (funext fun a => Fin.ext ?_))
  match a with
  | ⟨0, _⟩ => rfl
  | ⟨1, _⟩ => exact (Nat.zero_add _).trans (Nat.one_mul _)
  | ⟨2, _⟩ => exact (congrArg (1024 * k.val + ·) (Nat.one_mul l.val)).trans hp

/-- and its sizes. -/
theorem sizes_unread (b : Fin 4) (m2 : Memref sig .tc .smem S4x3 .f32) (h : m2.IsWhole) (x : Vec Ideal S4x3 .f32) (k : Fin 3) :
    sizes b m2 (h.unread x) k = x (ix2 b k) := by
  unfold sizes
  refine (h.readAt_unread x _ _).trans (congrArg x (funext fun a => Fin.ext ?_))
  match a with
  | ⟨0, _⟩ => rfl
  | ⟨1, _⟩ => rfl

end loads

section order
variable (V0 : Valuation Cert.ReferenceIdeal.τ Cert.ReferenceIdeal.sig (Elt Ideal))

/-- A position has its entry. -/
theorem pos_onto (b : Fin 4) (k : ℕ) (hk : k < 98304) : ∃ (r : Fin 192) (j : Fin 2048), j.val % 4 = b.val ∧ pos r j = k := by
  have hb := b.isLt
  refine ⟨⟨(k % 12 * 8192 + k / 12) / 512, by omega⟩, ⟨4 * ((k % 12 * 8192 + k / 12) % 512) + b.val, by omega⟩, ?_, ?_⟩
  · show (4 * ((k % 12 * 8192 + k / 12) % 512) + b.val) % 4 = b.val
    omega
  · unfold pos
    show ((k % 12 * 8192 + k / 12) / 512 * 512 + (4 * ((k % 12 * 8192 + k / 12) % 512) + b.val) / 4) % 8192 * 12
      + ((k % 12 * 8192 + k / 12) / 512 * 512 + (4 * ((k % 12 * 8192 + k / 12) % 512) + b.val) / 4) / 8192 = k
    have e : (k % 12 * 8192 + k / 12) / 512 * 512 + (4 * ((k % 12 * 8192 + k / 12) % 512) + b.val) / 4 = k % 12 * 8192 + k / 12 := by
      omega
    rw [e]
    omega

/-- Different places have different records. -/
theorem pair_injective {n : ℕ} (hn : n < 2 ^ 32) (f : Fin n → EReal) : Function.Injective (pair f) := fun k k' h =>
  Fin.ext (ofNat_inj (by have := k.isLt; omega) (by have := k'.isLt; omega) (key_inj h).2)

/-- The records of an entry and of its place are one. -/
theorem pair_pos (b : Fin 4) (r : Fin 192) (j : Fin 2048) (hb : j.val % 4 = b.val) :
    pair (scores V0 b) ⟨pos r j, pos_lt r j⟩
      = key (hostScores (F := Ideal) (V0 (Proc.devRef .tc Cert.ReferenceIdeal.main_arg0)) (ix2 r j)) (kernelRun.sl.r (ix2 r j)) := by
  rw [position' (ix2 r j)]
  unfold pair scores
  rw [v23_apply V0 r j b hb]
  rfl

/-- An image's records in the kernel's arrangement are the reference's in another order. -/
theorem records_perm (b : Fin 4) :
    (imgRecs (hostScores (F := Ideal) (V0 (Proc.devRef .tc Cert.ReferenceIdeal.main_arg0))) b.val).Perm (List.ofFn (pair (scores V0 b))) := by
  refine (List.perm_ext_iff_of_nodup (nodup_recs position_inj) (List.nodup_ofFn.2 (pair_injective (by norm_num) _))).2 fun x => ?_
  rw [List.mem_ofFn]
  refine mem_recs.trans ?_
  constructor
  · rintro ⟨i, hi, hx⟩
    refine ⟨⟨pos (i 0) (i 1), pos_lt _ _⟩, ?_⟩
    rw [← hx, pair_pos V0 b (i 0) (i 1) (mem_imgA.1 hi), ← eq_ix2 i]
  · rintro ⟨k, hx⟩
    obtain ⟨r, j, hj, hk⟩ := pos_onto b k.val k.isLt
    refine ⟨ix2 r j, mem_imgA.2 hj, ?_⟩
    rw [← hx, ← pair_pos V0 b r j hj]
    exact congrArg _ (Fin.ext hk)

/-- Rows holding an image's hundred greatest records hold the reference's picks. -/
theorem good_lane (b : Fin 4) (sv : S1x128.Idx → EReal) (sn : S1x128.Idx → BitVec 32)
    (h : Good (hostScores (F := Ideal) (V0 (Proc.devRef .tc Cert.ReferenceIdeal.main_arg0))) b.val sv sn) (u : Fin 100) :
    sv (ix2 (0 : Fin 1) (Fin.castLE (by decide) u : Fin 128)) = scores V0 b (best V0 b u)
      ∧ sn (ix2 (0 : Fin 1) (Fin.castLE (by decide) u : Fin 128)) = BitVec.ofNat 32 (best V0 b u).val := by
  unfold Good at h
  rw [topList_perm (records_perm V0 b)] at h
  have h1 := congrArg (fun l => l[u.val]?) h
  have h2 := topList_stable (scores V0 b) (by norm_num) 100 (Fin.castLE (by decide) u) u.isLt
  have h3 := h1.trans h2
  rw [List.getElem?_ofFn, dif_pos u.isLt] at h3
  exact key_inj (Option.some.inj h3)

end order

section value
variable (V0 : Valuation Cert.ReferenceIdeal.τ Cert.ReferenceIdeal.sig (Elt Ideal))

/-- The kernel's result read at an index of its last block. -/
theorem hostOut_apply (X : Vec Ideal S4x8x128 .f32) (b : Fin 4) (u : Fin 100) (i : Fin 8) :
    hostOut X (ix3 b u i) = X (ix3 b i (Fin.castLE (by decide) u : Fin 128)) := by
  unfold hostOut
  rw [transpose_apply _ _ _ _ (ix3 b i u) (fun a => by
      match a with
      | ⟨0, _⟩ => rfl
      | ⟨1, _⟩ => rfl
      | ⟨2, _⟩ => rfl),
    extractStridedSlice_apply _ _ _ _ (ix3 b i (Fin.castLE (by decide) u : Fin 128)) (fun a => by
      match a with
      | ⟨0, _⟩ => exact (Nat.zero_add _).symm
      | ⟨1, _⟩ => exact (Nat.zero_add _).symm
      | ⟨2, _⟩ => exact (Nat.zero_add _).symm)]

/-- The two results at an index. -/
theorem value_at (c : Dev nD) (hs : ∀ i, (⊥ : EReal) < hostScores (F := Ideal) (V0 (Proc.devRef .tc Cert.ReferenceIdeal.main_arg0)) i)
    (b : Fin 4) (u : Fin 100) (i : Fin 8) :
    hostOut (blockOut c point0 (hostScores (F := Ideal) (V0 (Proc.devRef .tc Cert.ReferenceIdeal.main_arg0)))
        (hostOffsets (F := Ideal) (V0 (Proc.devRef .tc Cert.ReferenceIdeal.main_arg1))) (V0 (Proc.devRef .tc Cert.ReferenceIdeal.main_arg2)))
        (ix3 b u i)
      = result V0 (ix3 b u i) := by
  rw [hostOut_apply, result_apply]
  unfold blockOut
  obtain ⟨sv, sn, hg, ho⟩ := out_blocks c (Gen.st0_0 point0) (hstage0_0 0) (Gen.st0_1 point0) (hstage0_1 0) (Gen.st0_2 point0) (hstage0_2 0)
    (Gen.st0_3 point0) (hstage0_3 0) (Memref.whole cc0_scratch0) (Memref.isWhole_whole _) (Memref.whole cc0_scratch1) (Memref.isWhole_whole _)
    (Memref.whole cc0_scratch2) (Memref.isWhole_whole _)
    ((hstage0_0 0).unread (hostScores (F := Ideal) (V0 (Proc.devRef .tc Cert.ReferenceIdeal.main_arg0))))
    ((hstage0_1 0).unread (hostOffsets (F := Ideal) (V0 (Proc.devRef .tc Cert.ReferenceIdeal.main_arg1))))
    ((hstage0_2 0).unread (V0 (Proc.devRef .tc Cert.ReferenceIdeal.main_arg2)))
    (fun i => (hs i).trans_eq (congrFun (scoresIn_unread _ (hstage0_0 0) _) i).symm)
  have hg' := hg b
  have e0 := scoresIn_unread (Gen.st0_0 point0) (hstage0_0 0) (hostScores (F := Ideal) (V0 (Proc.devRef .tc Cert.ReferenceIdeal.main_arg0)))
  rw [e0] at hg'
  obtain ⟨hv, hn⟩ := good_lane V0 b (sv b) (sn b) hg' u
  refine (ho b i _).trans ?_
  rw [tail_apply _ _ _ _ _ _ (best V0 b u).val (best V0 b u).isLt hn, hv]
  have hc : ∀ k : Fin 6, _ = _ := fun k => chunks_unread b (Gen.st0_1 point0) (hstage0_1 0)
    (hostOffsets (F := Ideal) (V0 (Proc.devRef .tc Cert.ReferenceIdeal.main_arg1)))
    ⟨(best V0 b u).val / 12 / 1024, by omega⟩ (row ⟨(best V0 b u).val % 12, by omega⟩ k) ⟨(best V0 b u).val / 12 % 1024, by omega⟩
    ⟨(best V0 b u).val / 12, by omega⟩ (Nat.div_add_mod _ _)
  have hz : ∀ k : Fin 3, _ = _ := fun k => sizes_unread b (Gen.st0_2 point0) (hstage0_2 0) (V0 (Proc.devRef .tc Cert.ReferenceIdeal.main_arg2)) k
  exact congrArg₂ (fun d im => lane (bits b) (scores V0 b (best V0 b u)) ((best V0 b u).val / 12) ⟨(best V0 b u).val % 12, by omega⟩ d im i)
    (funext hc) (funext hz)

/-- THE VALUES AGREE: with every score above minus infinity, the kernel's result is the reference's. -/
theorem values (c : Dev nD) (hs : ∀ i, (⊥ : EReal) < hostScores (F := Ideal) (V0 (Proc.devRef .tc Cert.ReferenceIdeal.main_arg0)) i) :
    hostOut (blockOut c point0 (hostScores (F := Ideal) (V0 (Proc.devRef .tc Cert.ReferenceIdeal.main_arg0)))
        (hostOffsets (F := Ideal) (V0 (Proc.devRef .tc Cert.ReferenceIdeal.main_arg1))) (V0 (Proc.devRef .tc Cert.ReferenceIdeal.main_arg2)))
      = result V0 := by
  refine funext fun j => (congrArg _ (eq_ix3 j)).trans (Eq.trans ?_ (congrArg (result V0) (eq_ix3 j)).symm)
  exact value_at V0 c hs (j 0) (j 1) (j 2)

end value

section pre

/-- The side conditions of the precondition's own operations. -/
theorem pre_facts : Cert.Pre_scores_above_minus_infinity.Facts where
  slices_S4x24x8x32x32_S4x12x8x32x32_0_12_0_0_0 := by decide
  bcast_S_S4x12x8x32x32 := by decide
  reducesTo_S4x12x8x32x32_S_d0_1_2_3_4 := by decide
  h_S_ := by decide

/-- A score of the kernel's arrangement is one of the slice's. -/
theorem hostScores_mem (X : Vec Ideal S4x24x8x32x32 .f32) (i : S192x2048.Idx) :
    ∃ y, hostScores X i = extractStridedSlice S4x12x8x32x32 ![0, 12, 0, 0, 0] X slices_S4x24x8x32x32_S4x12x8x32x32_0_12_0_0_0 y := ⟨_, rfl⟩

/-- What the precondition says: every score is above minus infinity. -/
theorem scores_above (X : Vec Ideal S4x24x8x32x32 .f32) (Y : Vec Ideal S4x72x8x32x32 .f32) (Z : Vec Ideal S4x3 .f32)
    (h : (haveI := pre_facts; Cert.Pre_scores_above_minus_infinity.fn (F := Ideal) X Y Z) = fun _ => 1#1) (i : S192x2048.Idx) :
    (⊥ : EReal) < hostScores X i := by
  obtain ⟨y, hy⟩ := hostScores_mem X i
  rw [hy]
  haveI : Subsingleton Cert.Pre_scores_above_minus_infinity.S_.Idx := ⟨fun a b => funext fun k => k.elim0⟩
  have h1 := Host.reduce_andi_all _ _ _ _ (fun k => k.elim0) (congrFun h (fun k => k.elim0)) y
  have h2 : BitVec.ofBool (decide (Ideal.ofBits .f32 0xFF800000#32
      < extractStridedSlice S4x12x8x32x32 ![0, 12, 0, 0, 0] X slices_S4x24x8x32x32_S4x12x8x32x32_0_12_0_0_0 y)) = 1#1 := h1
  have h3 : (⊥ : EReal) = Ideal.ofBits .f32 0xFF800000#32 := by simp [Ideal.ofBits, Ideal.ieee]
  rw [h3]
  by_contra hc
  rw [decide_eq_false hc] at h2
  exact absurd h2 (by decide)

end pre

end Cert.Glue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.Glue
public import Idealize.ShloMosaic.Adequacy
public import Idealize.ShloMosaic.Init

@[expose] public section

noncomputable section

namespace Cert.Proof

open Idealize.ShloMosaic Idealize.SL.Sem Cert.Kernel

/-- The reference's frame, off its generated run. -/
theorem reference_frame (m : (ℓ : Loc Cert.ReferenceIdeal.nD Cert.ReferenceIdeal.τ Cert.ReferenceIdeal.sig) → Buf (Elt Ideal) ℓ)
    (g : Dev Cert.ReferenceIdeal.nD → PrngReg) : θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => ⟨(h c).2.1, (h c).2.2.1, (h c).2.2.2⟩,
    Idealize.ShloMosaic.sem_eq_zero_of_no_sems (by decide) r.2⟩) (Cert.ReferenceIdeal.Value.run m g)

/-- The value: with every score above minus infinity, the kernel read over the extended reals ends with the reference's
    result, the arguments unchanged on both sides. -/
theorem values : algebraic_KernelIdeal_ReferenceIdeal_pre_scores_above_minus_infinity (hKernelIdeal := Cert.KernelIdeal.Gen.facts)
    (hReferenceIdeal := Cert.ReferenceIdeal.Gen.facts) (hPre_scores_above_minus_infinity := Cert.Glue.pre_facts) := by
  intro m g m' g' hpre hargs
  refine ⟨fun c => Cert.ReferenceIdeal.Read.result (StableHlo.launchContents m' c), ?_, Cert.ReferenceIdeal.Read.run_result m' g'⟩
  refine (θ_run _ _ _).mono (fun r h c => ⟨(h c).1.trans ?_, (h c).2⟩) (Cert.KernelIdeal.Outp.run m g)
  obtain ⟨e0, e1, e2⟩ := hargs c
  have hs := Cert.Glue.scores_above _ _ _ (hpre c)
  rw [← e0] at hs
  rw [← e0, ← e1, ← e2]
  exact Cert.Glue.values (StableHlo.launchContents m' c) c hs

theorem claim : Cert.Claim := ⟨Cert.Kernel.Gen.facts, Cert.KernelIdeal.Gen.facts, Cert.ReferenceIdeal.Gen.facts, Cert.Glue.pre_facts,
  fun m g _ => Cert.Kernel.Hand.frame m g, fun m g _ => Cert.KernelIdeal.Hand.frame m g, fun m g _ => Cert.KernelIdeal.Hand.frame m g,
  fun m g _ => reference_frame m g, fun m g _ => reference_frame m g, trivial, values⟩

end Cert.Proof

end
